-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v236) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096 : Shape := ⟨2, ![8, 4096]⟩
abbrev S65x65x128x8x8 : Shape := ⟨5, ![65, 65, 128, 8, 8]⟩
abbrev S65 : Shape := ⟨1, ![65]⟩
abbrev S64 : Shape := ⟨1, ![64]⟩
abbrev S8x8x65x65x128 : Shape := ⟨5, ![8, 8, 65, 65, 128]⟩
abbrev S270400x128 : Shape := ⟨2, ![270400, 128]⟩
abbrev S_ : Shape := ⟨0, ![]⟩
abbrev S7 : Shape := ⟨1, ![7]⟩
abbrev S72 : Shape := ⟨1, ![72]⟩
abbrev S4096x128 : Shape := ⟨2, ![4096, 128]⟩
abbrev S8x128 : Shape := ⟨2, ![8, 128]⟩
abbrev S8x32 : Shape := ⟨2, ![8, 32]⟩
abbrev S8192 : Shape := ⟨1, ![8192]⟩
abbrev S128x128 : Shape := ⟨2, ![128, 128]⟩
abbrev S32x128 : Shape := ⟨2, ![32, 128]⟩
abbrev S16 : Shape := ⟨1, ![16]⟩
abbrev S1x16 : Shape := ⟨2, ![1, 16]⟩
abbrev S128 : Shape := ⟨1, ![128]⟩
abbrev S128x4096 : Shape := ⟨2, ![128, 4096]⟩

abbrev nBuf : Table → Nat
  | .hbm => 12
  | .local .scVector .vmem => 13
  | _ => 0

abbrev bufTy : (tb : Table) → Fin (nBuf tb) → BufTy
  | .hbm, ⟨0, _⟩ => ⟨S8x4096, .f32⟩
  | .hbm, ⟨1, _⟩ => ⟨S8x4096, .f32⟩
  | .hbm, ⟨2, _⟩ => ⟨S65x65x128x8x8, .f32⟩
  | .hbm, ⟨3, _⟩ => ⟨S65, .f32⟩
  | .hbm, ⟨4, _⟩ => ⟨S64, .f32⟩
  | .hbm, ⟨5, _⟩ => ⟨S8x8x65x65x128, .f32⟩
  | .hbm, ⟨6, _⟩ => ⟨S270400x128, .f32⟩
  | .hbm, ⟨7, _⟩ => ⟨S_, .f32⟩
  | .hbm, ⟨8, _⟩ => ⟨S7, .f32⟩
  | .hbm, ⟨9, _⟩ => ⟨S72, .f32⟩
  | .hbm, ⟨10, _⟩ => ⟨S4096x128, .f32⟩
  | .hbm, ⟨11, _⟩ => ⟨S128x4096, .f32⟩
  | .local .scVector .vmem, ⟨0, _⟩ => ⟨S8x128, .f32⟩
  | .local .scVector .vmem, ⟨1, _⟩ => ⟨S8x128, .f32⟩
  | .local .scVector .vmem, ⟨2, _⟩ => ⟨S72, .f32⟩
  | .local .scVector .vmem, ⟨3, _⟩ => ⟨S64, .f32⟩
  | .local .scVector .vmem, ⟨4, _⟩ => ⟨S8x32, .i32⟩
  | .local .scVector .vmem, ⟨5, _⟩ => ⟨S8x32, .i32⟩
  | .local .scVector .vmem, ⟨6, _⟩ => ⟨S8x32, .f32⟩
  | .local .scVector .vmem, ⟨7, _⟩ => ⟨S8x32, .f32⟩
  | .local .scVector .vmem, ⟨8, _⟩ => ⟨S8192, .i32⟩
  | .local .scVector .vmem, ⟨9, _⟩ => ⟨S8192, .f32⟩
  | .local .scVector .vmem, ⟨10, _⟩ => ⟨S128x128, .f32⟩
  | .local .scVector .vmem, ⟨11, _⟩ => ⟨S128x128, .f32⟩
  | .local .scVector .vmem, ⟨12, _⟩ => ⟨S32x128, .f32⟩
  | _, _ => ⟨S8x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v1_scv : Ref sig .scVector := ⟨.hbm, 6, rfl⟩
abbrev main_arg0_scv : Ref sig .scVector := ⟨.hbm, 0, rfl⟩
abbrev main_arg1_scv : Ref sig .scVector := ⟨.hbm, 1, rfl⟩
abbrev main_v3_scv : Ref sig .scVector := ⟨.hbm, 9, rfl⟩
abbrev main_arg4_scv : Ref sig .scVector := ⟨.hbm, 4, rfl⟩
abbrev main_v4_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_2_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32_0 : BitVec 32 := 0#32
  let c4_i32 : BitVec 32 := 4#32
  let v4 : BitVec 32 := Scalar.addi c0_i32_0 c4_i32
  let c1_i32 : BitVec 32 := 1#32
  ⟨c0_i32_0, v4, c1_i32⟩
def k0_off2 (k0_t1 : Fin k0_t1_loop.trips) : Fin 2 → Nat :=
  let c0_i32_3 : BitVec 32 := 0#32
  let v8 : Index := Scalar.indexCast c0_i32_3
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v9 : Index := Scalar.indexCast v7
  ![0, v9.toNat]

def k0_chk1 (v31 : IVec S16 32) : Prop :=
  (∀ a x, ((![v31] : Fin 1 → IVec S16 32) a x).toNat < S72.size a) ∧
  (∀ a x, ((![v31] : Fin 1 → IVec S16 32) a x).toNat < S64.size a)
theorem k0_idx1_inb : ∀ (v31 : IVec S16 32) (k0_hw1 : k0_chk1 v31), ∀ a x, ((![v31] : Fin 1 → IVec S16 32) a x).toNat < S72.size a := fun v31 k0_hw1 => k0_hw1.1
theorem k0_idx2_inb : ∀ (v31 : IVec S16 32) (k0_hw1 : k0_chk1 v31), ∀ a x, ((![v31] : Fin 1 → IVec S16 32) a x).toNat < S64.size a := fun v31 k0_hw1 => k0_hw1.2
def k0_off3 (k0_t1 : Fin k0_t1_loop.trips) : Fin 2 → Nat :=
  let c1_i32_13 : BitVec 32 := 1#32
  let v44 : Index := Scalar.indexCast c1_i32_13
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v45 : Index := Scalar.indexCast v7
  ![1, v45.toNat]

def k0_chk2 (v67 : IVec S16 32) : Prop :=
  (∀ a x, ((![v67] : Fin 1 → IVec S16 32) a x).toNat < S72.size a) ∧
  (∀ a x, ((![v67] : Fin 1 → IVec S16 32) a x).toNat < S64.size a)
theorem k0_idx3_inb : ∀ (v67 : IVec S16 32) (k0_hw2 : k0_chk2 v67), ∀ a x, ((![v67] : Fin 1 → IVec S16 32) a x).toNat < S72.size a := fun v67 k0_hw2 => k0_hw2.1
theorem k0_idx4_inb : ∀ (v67 : IVec S16 32) (k0_hw2 : k0_chk2 v67), ∀ a x, ((![v67] : Fin 1 → IVec S16 32) a x).toNat < S64.size a := fun v67 k0_hw2 => k0_hw2.2
def k0_off4 (k0_t1 : Fin k0_t1_loop.trips) : Fin 2 → Nat :=
  let c2_i32_26 : BitVec 32 := 2#32
  let v80 : Index := Scalar.indexCast c2_i32_26
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v81 : Index := Scalar.indexCast v7
  ![2, v81.toNat]

def k0_chk3 (v103 : IVec S16 32) : Prop :=
  (∀ a x, ((![v103] : Fin 1 → IVec S16 32) a x).toNat < S72.size a) ∧
  (∀ a x, ((![v103] : Fin 1 → IVec S16 32) a x).toNat < S64.size a)
theorem k0_idx5_inb : ∀ (v103 : IVec S16 32) (k0_hw3 : k0_chk3 v103), ∀ a x, ((![v103] : Fin 1 → IVec S16 32) a x).toNat < S72.size a := fun v103 k0_hw3 => k0_hw3.1
theorem k0_idx6_inb : ∀ (v103 : IVec S16 32) (k0_hw3 : k0_chk3 v103), ∀ a x, ((![v103] : Fin 1 → IVec S16 32) a x).toNat < S64.size a := fun v103 k0_hw3 => k0_hw3.2
def k0_off5 (k0_t1 : Fin k0_t1_loop.trips) : Fin 2 → Nat :=
  let c3_i32 : BitVec 32 := 3#32
  let v116 : Index := Scalar.indexCast c3_i32
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v117 : Index := Scalar.indexCast v7
  ![3, v117.toNat]

def k0_chk4 (v139 : IVec S16 32) : Prop :=
  (∀ a x, ((![v139] : Fin 1 → IVec S16 32) a x).toNat < S72.size a) ∧
  (∀ a x, ((![v139] : Fin 1 → IVec S16 32) a x).toNat < S64.size a)
theorem k0_idx7_inb : ∀ (v139 : IVec S16 32) (k0_hw4 : k0_chk4 v139), ∀ a x, ((![v139] : Fin 1 → IVec S16 32) a x).toNat < S72.size a := fun v139 k0_hw4 => k0_hw4.1
theorem k0_idx8_inb : ∀ (v139 : IVec S16 32) (k0_hw4 : k0_chk4 v139), ∀ a x, ((![v139] : Fin 1 → IVec S16 32) a x).toNat < S64.size a := fun v139 k0_hw4 => k0_hw4.2
def k0_off6 (k0_t1 : Fin k0_t1_loop.trips) : Fin 2 → Nat :=
  let c4_i32_51 : BitVec 32 := 4#32
  let v152 : Index := Scalar.indexCast c4_i32_51
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v153 : Index := Scalar.indexCast v7
  ![4, v153.toNat]

def k0_chk5 (v175 : IVec S16 32) : Prop :=
  (∀ a x, ((![v175] : Fin 1 → IVec S16 32) a x).toNat < S72.size a) ∧
  (∀ a x, ((![v175] : Fin 1 → IVec S16 32) a x).toNat < S64.size a)
theorem k0_idx9_inb : ∀ (v175 : IVec S16 32) (k0_hw5 : k0_chk5 v175), ∀ a x, ((![v175] : Fin 1 → IVec S16 32) a x).toNat < S72.size a := fun v175 k0_hw5 => k0_hw5.1
theorem k0_idx10_inb : ∀ (v175 : IVec S16 32) (k0_hw5 : k0_chk5 v175), ∀ a x, ((![v175] : Fin 1 → IVec S16 32) a x).toNat < S64.size a := fun v175 k0_hw5 => k0_hw5.2
def k0_off7 (k0_t1 : Fin k0_t1_loop.trips) : Fin 2 → Nat :=
  let c5_i32 : BitVec 32 := 5#32
  let v188 : Index := Scalar.indexCast c5_i32
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v189 : Index := Scalar.indexCast v7
  ![5, v189.toNat]

def k0_chk6 (v211 : IVec S16 32) : Prop :=
  (∀ a x, ((![v211] : Fin 1 → IVec S16 32) a x).toNat < S72.size a) ∧
  (∀ a x, ((![v211] : Fin 1 → IVec S16 32) a x).toNat < S64.size a)
theorem k0_idx11_inb : ∀ (v211 : IVec S16 32) (k0_hw6 : k0_chk6 v211), ∀ a x, ((![v211] : Fin 1 → IVec S16 32) a x).toNat < S72.size a := fun v211 k0_hw6 => k0_hw6.1
theorem k0_idx12_inb : ∀ (v211 : IVec S16 32) (k0_hw6 : k0_chk6 v211), ∀ a x, ((![v211] : Fin 1 → IVec S16 32) a x).toNat < S64.size a := fun v211 k0_hw6 => k0_hw6.2
def k0_off8 (k0_t1 : Fin k0_t1_loop.trips) : Fin 2 → Nat :=
  let c6_i32 : BitVec 32 := 6#32
  let v224 : Index := Scalar.indexCast c6_i32
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v225 : Index := Scalar.indexCast v7
  ![6, v225.toNat]

def k0_chk7 (v247 : IVec S16 32) : Prop :=
  (∀ a x, ((![v247] : Fin 1 → IVec S16 32) a x).toNat < S72.size a) ∧
  (∀ a x, ((![v247] : Fin 1 → IVec S16 32) a x).toNat < S64.size a)
theorem k0_idx13_inb : ∀ (v247 : IVec S16 32) (k0_hw7 : k0_chk7 v247), ∀ a x, ((![v247] : Fin 1 → IVec S16 32) a x).toNat < S72.size a := fun v247 k0_hw7 => k0_hw7.1
theorem k0_idx14_inb : ∀ (v247 : IVec S16 32) (k0_hw7 : k0_chk7 v247), ∀ a x, ((![v247] : Fin 1 → IVec S16 32) a x).toNat < S64.size a := fun v247 k0_hw7 => k0_hw7.2
def k0_off9 (k0_t1 : Fin k0_t1_loop.trips) : Fin 2 → Nat :=
  let c7_i32 : BitVec 32 := 7#32
  let v260 : Index := Scalar.indexCast c7_i32
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v261 : Index := Scalar.indexCast v7
  ![7, v261.toNat]

def k0_chk8 (v283 : IVec S16 32) : Prop :=
  (∀ a x, ((![v283] : Fin 1 → IVec S16 32) a x).toNat < S72.size a) ∧
  (∀ a x, ((![v283] : Fin 1 → IVec S16 32) a x).toNat < S64.size a)
theorem k0_idx15_inb : ∀ (v283 : IVec S16 32) (k0_hw8 : k0_chk8 v283), ∀ a x, ((![v283] : Fin 1 → IVec S16 32) a x).toNat < S72.size a := fun v283 k0_hw8 => k0_hw8.1
theorem k0_idx16_inb : ∀ (v283 : IVec S16 32) (k0_hw8 : k0_chk8 v283), ∀ a x, ((![v283] : Fin 1 → IVec S16 32) a x).toNat < S64.size a := fun v283 k0_hw8 => k0_hw8.2
def k0_off10 (k0_t1 : Fin k0_t1_loop.trips) : Fin 2 → Nat :=
  let c0_i32_100 : BitVec 32 := 0#32
  let v296 : Index := Scalar.indexCast c0_i32_100
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v297 : Index := Scalar.indexCast v7
  ![0, v297.toNat]

def k0_chk9 (v319 : IVec S16 32) : Prop :=
  (∀ a x, ((![v319] : Fin 1 → IVec S16 32) a x).toNat < S72.size a) ∧
  (∀ a x, ((![v319] : Fin 1 → IVec S16 32) a x).toNat < S64.size a)
theorem k0_idx17_inb : ∀ (v319 : IVec S16 32) (k0_hw9 : k0_chk9 v319), ∀ a x, ((![v319] : Fin 1 → IVec S16 32) a x).toNat < S72.size a := fun v319 k0_hw9 => k0_hw9.1
theorem k0_idx18_inb : ∀ (v319 : IVec S16 32) (k0_hw9 : k0_chk9 v319), ∀ a x, ((![v319] : Fin 1 → IVec S16 32) a x).toNat < S64.size a := fun v319 k0_hw9 => k0_hw9.2
def k0_off11 (k0_t1 : Fin k0_t1_loop.trips) : Fin 2 → Nat :=
  let c1_i32_113 : BitVec 32 := 1#32
  let v332 : Index := Scalar.indexCast c1_i32_113
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v333 : Index := Scalar.indexCast v7
  ![1, v333.toNat]

def k0_chk10 (v355 : IVec S16 32) : Prop :=
  (∀ a x, ((![v355] : Fin 1 → IVec S16 32) a x).toNat < S72.size a) ∧
  (∀ a x, ((![v355] : Fin 1 → IVec S16 32) a x).toNat < S64.size a)
theorem k0_idx19_inb : ∀ (v355 : IVec S16 32) (k0_hw10 : k0_chk10 v355), ∀ a x, ((![v355] : Fin 1 → IVec S16 32) a x).toNat < S72.size a := fun v355 k0_hw10 => k0_hw10.1
theorem k0_idx20_inb : ∀ (v355 : IVec S16 32) (k0_hw10 : k0_chk10 v355), ∀ a x, ((![v355] : Fin 1 → IVec S16 32) a x).toNat < S64.size a := fun v355 k0_hw10 => k0_hw10.2
def k0_off12 (k0_t1 : Fin k0_t1_loop.trips) : Fin 2 → Nat :=
  let c2_i32_126 : BitVec 32 := 2#32
  let v368 : Index := Scalar.indexCast c2_i32_126
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v369 : Index := Scalar.indexCast v7
  ![2, v369.toNat]

def k0_chk11 (v391 : IVec S16 32) : Prop :=
  (∀ a x, ((![v391] : Fin 1 → IVec S16 32) a x).toNat < S72.size a) ∧
  (∀ a x, ((![v391] : Fin 1 → IVec S16 32) a x).toNat < S64.size a)
theorem k0_idx21_inb : ∀ (v391 : IVec S16 32) (k0_hw11 : k0_chk11 v391), ∀ a x, ((![v391] : Fin 1 → IVec S16 32) a x).toNat < S72.size a := fun v391 k0_hw11 => k0_hw11.1
theorem k0_idx22_inb : ∀ (v391 : IVec S16 32) (k0_hw11 : k0_chk11 v391), ∀ a x, ((![v391] : Fin 1 → IVec S16 32) a x).toNat < S64.size a := fun v391 k0_hw11 => k0_hw11.2
def k0_off13 (k0_t1 : Fin k0_t1_loop.trips) : Fin 2 → Nat :=
  let c3_i32_139 : BitVec 32 := 3#32
  let v404 : Index := Scalar.indexCast c3_i32_139
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v405 : Index := Scalar.indexCast v7
  ![3, v405.toNat]

def k0_chk12 (v427 : IVec S16 32) : Prop :=
  (∀ a x, ((![v427] : Fin 1 → IVec S16 32) a x).toNat < S72.size a) ∧
  (∀ a x, ((![v427] : Fin 1 → IVec S16 32) a x).toNat < S64.size a)
theorem k0_idx23_inb : ∀ (v427 : IVec S16 32) (k0_hw12 : k0_chk12 v427), ∀ a x, ((![v427] : Fin 1 → IVec S16 32) a x).toNat < S72.size a := fun v427 k0_hw12 => k0_hw12.1
theorem k0_idx24_inb : ∀ (v427 : IVec S16 32) (k0_hw12 : k0_chk12 v427), ∀ a x, ((![v427] : Fin 1 → IVec S16 32) a x).toNat < S64.size a := fun v427 k0_hw12 => k0_hw12.2
def k0_off14 (k0_t1 : Fin k0_t1_loop.trips) : Fin 2 → Nat :=
  let c4_i32_152 : BitVec 32 := 4#32
  let v440 : Index := Scalar.indexCast c4_i32_152
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v441 : Index := Scalar.indexCast v7
  ![4, v441.toNat]

def k0_chk13 (v463 : IVec S16 32) : Prop :=
  (∀ a x, ((![v463] : Fin 1 → IVec S16 32) a x).toNat < S72.size a) ∧
  (∀ a x, ((![v463] : Fin 1 → IVec S16 32) a x).toNat < S64.size a)
theorem k0_idx25_inb : ∀ (v463 : IVec S16 32) (k0_hw13 : k0_chk13 v463), ∀ a x, ((![v463] : Fin 1 → IVec S16 32) a x).toNat < S72.size a := fun v463 k0_hw13 => k0_hw13.1
theorem k0_idx26_inb : ∀ (v463 : IVec S16 32) (k0_hw13 : k0_chk13 v463), ∀ a x, ((![v463] : Fin 1 → IVec S16 32) a x).toNat < S64.size a := fun v463 k0_hw13 => k0_hw13.2
def k0_off15 (k0_t1 : Fin k0_t1_loop.trips) : Fin 2 → Nat :=
  let c5_i32_165 : BitVec 32 := 5#32
  let v476 : Index := Scalar.indexCast c5_i32_165
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v477 : Index := Scalar.indexCast v7
  ![5, v477.toNat]

def k0_chk14 (v499 : IVec S16 32) : Prop :=
  (∀ a x, ((![v499] : Fin 1 → IVec S16 32) a x).toNat < S72.size a) ∧
  (∀ a x, ((![v499] : Fin 1 → IVec S16 32) a x).toNat < S64.size a)
theorem k0_idx27_inb : ∀ (v499 : IVec S16 32) (k0_hw14 : k0_chk14 v499), ∀ a x, ((![v499] : Fin 1 → IVec S16 32) a x).toNat < S72.size a := fun v499 k0_hw14 => k0_hw14.1
theorem k0_idx28_inb : ∀ (v499 : IVec S16 32) (k0_hw14 : k0_chk14 v499), ∀ a x, ((![v499] : Fin 1 → IVec S16 32) a x).toNat < S64.size a := fun v499 k0_hw14 => k0_hw14.2
def k0_off16 (k0_t1 : Fin k0_t1_loop.trips) : Fin 2 → Nat :=
  let c6_i32_178 : BitVec 32 := 6#32
  let v512 : Index := Scalar.indexCast c6_i32_178
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v513 : Index := Scalar.indexCast v7
  ![6, v513.toNat]

def k0_chk15 (v535 : IVec S16 32) : Prop :=
  (∀ a x, ((![v535] : Fin 1 → IVec S16 32) a x).toNat < S72.size a) ∧
  (∀ a x, ((![v535] : Fin 1 → IVec S16 32) a x).toNat < S64.size a)
theorem k0_idx29_inb : ∀ (v535 : IVec S16 32) (k0_hw15 : k0_chk15 v535), ∀ a x, ((![v535] : Fin 1 → IVec S16 32) a x).toNat < S72.size a := fun v535 k0_hw15 => k0_hw15.1
theorem k0_idx30_inb : ∀ (v535 : IVec S16 32) (k0_hw15 : k0_chk15 v535), ∀ a x, ((![v535] : Fin 1 → IVec S16 32) a x).toNat < S64.size a := fun v535 k0_hw15 => k0_hw15.2
def k0_off17 (k0_t1 : Fin k0_t1_loop.trips) : Fin 2 → Nat :=
  let c7_i32_191 : BitVec 32 := 7#32
  let v548 : Index := Scalar.indexCast c7_i32_191
  let c0_i32_0 : BitVec 32 := 0#32
  let c1_i32 : BitVec 32 := 1#32
  let arg23 : BitVec 32 := Scf.iv c0_i32_0 c1_i32 k0_t1
  let c32_i32 : BitVec 32 := 32#32
  let v6 : BitVec 32 := Scalar.muli arg23 c32_i32
  let c0_i32_2 : BitVec 32 := 0#32
  let v7 : BitVec 32 := Scalar.addi v6 c0_i32_2
  let v549 : Index := Scalar.indexCast v7
  ![7, v549.toNat]

def k0_chk16 (v571 : IVec S16 32) : Prop :=
  (∀ a x, ((![v571] : Fin 1 → IVec S16 32) a x).toNat < S72.size a) ∧
  (∀ a x, ((![v571] : Fin 1 → IVec S16 32) a x).toNat < S64.size a)
theorem k0_idx31_inb : ∀ (v571 : IVec S16 32) (k0_hw16 : k0_chk16 v571), ∀ a x, ((![v571] : Fin 1 → IVec S16 32) a x).toNat < S72.size a := fun v571 k0_hw16 => k0_hw16.1
theorem k0_idx32_inb : ∀ (v571 : IVec S16 32) (k0_hw16 : k0_chk16 v571), ∀ a x, ((![v571] : Fin 1 → IVec S16 32) a x).toNat < S64.size a := fun v571 k0_hw16 => k0_hw16.2
def k0_off18 (k0_t1 : Fin k0_t1_loop.trips) : Fin 2 → Nat :=
  let c0_i32_205 : BitVec 32 := 0#32
  let v586 : Index := Scalar.indexCast c0_i32_205
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v587 : Index := Scalar.indexCast v585
  ![0, v587.toNat]

def k0_chk17 (v609 : IVec S16 32) : Prop :=
  (∀ a x, ((![v609] : Fin 1 → IVec S16 32) a x).toNat < S72.size a) ∧
  (∀ a x, ((![v609] : Fin 1 → IVec S16 32) a x).toNat < S64.size a)
theorem k0_idx33_inb : ∀ (v609 : IVec S16 32) (k0_hw17 : k0_chk17 v609), ∀ a x, ((![v609] : Fin 1 → IVec S16 32) a x).toNat < S72.size a := fun v609 k0_hw17 => k0_hw17.1
theorem k0_idx34_inb : ∀ (v609 : IVec S16 32) (k0_hw17 : k0_chk17 v609), ∀ a x, ((![v609] : Fin 1 → IVec S16 32) a x).toNat < S64.size a := fun v609 k0_hw17 => k0_hw17.2
def k0_off19 (k0_t1 : Fin k0_t1_loop.trips) : Fin 2 → Nat :=
  let c1_i32_217 : BitVec 32 := 1#32
  let v622 : Index := Scalar.indexCast c1_i32_217
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v623 : Index := Scalar.indexCast v585
  ![1, v623.toNat]

def k0_chk18 (v645 : IVec S16 32) : Prop :=
  (∀ a x, ((![v645] : Fin 1 → IVec S16 32) a x).toNat < S72.size a) ∧
  (∀ a x, ((![v645] : Fin 1 → IVec S16 32) a x).toNat < S64.size a)
theorem k0_idx35_inb : ∀ (v645 : IVec S16 32) (k0_hw18 : k0_chk18 v645), ∀ a x, ((![v645] : Fin 1 → IVec S16 32) a x).toNat < S72.size a := fun v645 k0_hw18 => k0_hw18.1
theorem k0_idx36_inb : ∀ (v645 : IVec S16 32) (k0_hw18 : k0_chk18 v645), ∀ a x, ((![v645] : Fin 1 → IVec S16 32) a x).toNat < S64.size a := fun v645 k0_hw18 => k0_hw18.2
def k0_off20 (k0_t1 : Fin k0_t1_loop.trips) : Fin 2 → Nat :=
  let c2_i32_230 : BitVec 32 := 2#32
  let v658 : Index := Scalar.indexCast c2_i32_230
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v659 : Index := Scalar.indexCast v585
  ![2, v659.toNat]

def k0_chk19 (v681 : IVec S16 32) : Prop :=
  (∀ a x, ((![v681] : Fin 1 → IVec S16 32) a x).toNat < S72.size a) ∧
  (∀ a x, ((![v681] : Fin 1 → IVec S16 32) a x).toNat < S64.size a)
theorem k0_idx37_inb : ∀ (v681 : IVec S16 32) (k0_hw19 : k0_chk19 v681), ∀ a x, ((![v681] : Fin 1 → IVec S16 32) a x).toNat < S72.size a := fun v681 k0_hw19 => k0_hw19.1
theorem k0_idx38_inb : ∀ (v681 : IVec S16 32) (k0_hw19 : k0_chk19 v681), ∀ a x, ((![v681] : Fin 1 → IVec S16 32) a x).toNat < S64.size a := fun v681 k0_hw19 => k0_hw19.2
def k0_off21 (k0_t1 : Fin k0_t1_loop.trips) : Fin 2 → Nat :=
  let c3_i32_243 : BitVec 32 := 3#32
  let v694 : Index := Scalar.indexCast c3_i32_243
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v695 : Index := Scalar.indexCast v585
  ![3, v695.toNat]

def k0_chk20 (v717 : IVec S16 32) : Prop :=
  (∀ a x, ((![v717] : Fin 1 → IVec S16 32) a x).toNat < S72.size a) ∧
  (∀ a x, ((![v717] : Fin 1 → IVec S16 32) a x).toNat < S64.size a)
theorem k0_idx39_inb : ∀ (v717 : IVec S16 32) (k0_hw20 : k0_chk20 v717), ∀ a x, ((![v717] : Fin 1 → IVec S16 32) a x).toNat < S72.size a := fun v717 k0_hw20 => k0_hw20.1
theorem k0_idx40_inb : ∀ (v717 : IVec S16 32) (k0_hw20 : k0_chk20 v717), ∀ a x, ((![v717] : Fin 1 → IVec S16 32) a x).toNat < S64.size a := fun v717 k0_hw20 => k0_hw20.2
def k0_off22 (k0_t1 : Fin k0_t1_loop.trips) : Fin 2 → Nat :=
  let c4_i32_256 : BitVec 32 := 4#32
  let v730 : Index := Scalar.indexCast c4_i32_256
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v731 : Index := Scalar.indexCast v585
  ![4, v731.toNat]

def k0_chk21 (v753 : IVec S16 32) : Prop :=
  (∀ a x, ((![v753] : Fin 1 → IVec S16 32) a x).toNat < S72.size a) ∧
  (∀ a x, ((![v753] : Fin 1 → IVec S16 32) a x).toNat < S64.size a)
theorem k0_idx41_inb : ∀ (v753 : IVec S16 32) (k0_hw21 : k0_chk21 v753), ∀ a x, ((![v753] : Fin 1 → IVec S16 32) a x).toNat < S72.size a := fun v753 k0_hw21 => k0_hw21.1
theorem k0_idx42_inb : ∀ (v753 : IVec S16 32) (k0_hw21 : k0_chk21 v753), ∀ a x, ((![v753] : Fin 1 → IVec S16 32) a x).toNat < S64.size a := fun v753 k0_hw21 => k0_hw21.2
def k0_off23 (k0_t1 : Fin k0_t1_loop.trips) : Fin 2 → Nat :=
  let c5_i32_269 : BitVec 32 := 5#32
  let v766 : Index := Scalar.indexCast c5_i32_269
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v767 : Index := Scalar.indexCast v585
  ![5, v767.toNat]

def k0_chk22 (v789 : IVec S16 32) : Prop :=
  (∀ a x, ((![v789] : Fin 1 → IVec S16 32) a x).toNat < S72.size a) ∧
  (∀ a x, ((![v789] : Fin 1 → IVec S16 32) a x).toNat < S64.size a)
theorem k0_idx43_inb : ∀ (v789 : IVec S16 32) (k0_hw22 : k0_chk22 v789), ∀ a x, ((![v789] : Fin 1 → IVec S16 32) a x).toNat < S72.size a := fun v789 k0_hw22 => k0_hw22.1
theorem k0_idx44_inb : ∀ (v789 : IVec S16 32) (k0_hw22 : k0_chk22 v789), ∀ a x, ((![v789] : Fin 1 → IVec S16 32) a x).toNat < S64.size a := fun v789 k0_hw22 => k0_hw22.2
def k0_off24 (k0_t1 : Fin k0_t1_loop.trips) : Fin 2 → Nat :=
  let c6_i32_282 : BitVec 32 := 6#32
  let v802 : Index := Scalar.indexCast c6_i32_282
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v803 : Index := Scalar.indexCast v585
  ![6, v803.toNat]

def k0_chk23 (v825 : IVec S16 32) : Prop :=
  (∀ a x, ((![v825] : Fin 1 → IVec S16 32) a x).toNat < S72.size a) ∧
  (∀ a x, ((![v825] : Fin 1 → IVec S16 32) a x).toNat < S64.size a)
theorem k0_idx45_inb : ∀ (v825 : IVec S16 32) (k0_hw23 : k0_chk23 v825), ∀ a x, ((![v825] : Fin 1 → IVec S16 32) a x).toNat < S72.size a := fun v825 k0_hw23 => k0_hw23.1
theorem k0_idx46_inb : ∀ (v825 : IVec S16 32) (k0_hw23 : k0_chk23 v825), ∀ a x, ((![v825] : Fin 1 → IVec S16 32) a x).toNat < S64.size a := fun v825 k0_hw23 => k0_hw23.2
def k0_off25 (k0_t1 : Fin k0_t1_loop.trips) : Fin 2 → Nat :=
  let c7_i32_295 : BitVec 32 := 7#32
  let v838 : Index := Scalar.indexCast c7_i32_295
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v839 : Index := Scalar.indexCast v585
  ![7, v839.toNat]

def k0_chk24 (v861 : IVec S16 32) : Prop :=
  (∀ a x, ((![v861] : Fin 1 → IVec S16 32) a x).toNat < S72.size a) ∧
  (∀ a x, ((![v861] : Fin 1 → IVec S16 32) a x).toNat < S64.size a)
theorem k0_idx47_inb : ∀ (v861 : IVec S16 32) (k0_hw24 : k0_chk24 v861), ∀ a x, ((![v861] : Fin 1 → IVec S16 32) a x).toNat < S72.size a := fun v861 k0_hw24 => k0_hw24.1
theorem k0_idx48_inb : ∀ (v861 : IVec S16 32) (k0_hw24 : k0_chk24 v861), ∀ a x, ((![v861] : Fin 1 → IVec S16 32) a x).toNat < S64.size a := fun v861 k0_hw24 => k0_hw24.2
def k0_off26 (k0_t1 : Fin k0_t1_loop.trips) : Fin 2 → Nat :=
  let c0_i32_308 : BitVec 32 := 0#32
  let v874 : Index := Scalar.indexCast c0_i32_308
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v875 : Index := Scalar.indexCast v585
  ![0, v875.toNat]

def k0_chk25 (v897 : IVec S16 32) : Prop :=
  (∀ a x, ((![v897] : Fin 1 → IVec S16 32) a x).toNat < S72.size a) ∧
  (∀ a x, ((![v897] : Fin 1 → IVec S16 32) a x).toNat < S64.size a)
theorem k0_idx49_inb : ∀ (v897 : IVec S16 32) (k0_hw25 : k0_chk25 v897), ∀ a x, ((![v897] : Fin 1 → IVec S16 32) a x).toNat < S72.size a := fun v897 k0_hw25 => k0_hw25.1
theorem k0_idx50_inb : ∀ (v897 : IVec S16 32) (k0_hw25 : k0_chk25 v897), ∀ a x, ((![v897] : Fin 1 → IVec S16 32) a x).toNat < S64.size a := fun v897 k0_hw25 => k0_hw25.2
def k0_off27 (k0_t1 : Fin k0_t1_loop.trips) : Fin 2 → Nat :=
  let c1_i32_321 : BitVec 32 := 1#32
  let v910 : Index := Scalar.indexCast c1_i32_321
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v911 : Index := Scalar.indexCast v585
  ![1, v911.toNat]

def k0_chk26 (v933 : IVec S16 32) : Prop :=
  (∀ a x, ((![v933] : Fin 1 → IVec S16 32) a x).toNat < S72.size a) ∧
  (∀ a x, ((![v933] : Fin 1 → IVec S16 32) a x).toNat < S64.size a)
theorem k0_idx51_inb : ∀ (v933 : IVec S16 32) (k0_hw26 : k0_chk26 v933), ∀ a x, ((![v933] : Fin 1 → IVec S16 32) a x).toNat < S72.size a := fun v933 k0_hw26 => k0_hw26.1
theorem k0_idx52_inb : ∀ (v933 : IVec S16 32) (k0_hw26 : k0_chk26 v933), ∀ a x, ((![v933] : Fin 1 → IVec S16 32) a x).toNat < S64.size a := fun v933 k0_hw26 => k0_hw26.2
def k0_off28 (k0_t1 : Fin k0_t1_loop.trips) : Fin 2 → Nat :=
  let c2_i32_334 : BitVec 32 := 2#32
  let v946 : Index := Scalar.indexCast c2_i32_334
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v947 : Index := Scalar.indexCast v585
  ![2, v947.toNat]

def k0_chk27 (v969 : IVec S16 32) : Prop :=
  (∀ a x, ((![v969] : Fin 1 → IVec S16 32) a x).toNat < S72.size a) ∧
  (∀ a x, ((![v969] : Fin 1 → IVec S16 32) a x).toNat < S64.size a)
theorem k0_idx53_inb : ∀ (v969 : IVec S16 32) (k0_hw27 : k0_chk27 v969), ∀ a x, ((![v969] : Fin 1 → IVec S16 32) a x).toNat < S72.size a := fun v969 k0_hw27 => k0_hw27.1
theorem k0_idx54_inb : ∀ (v969 : IVec S16 32) (k0_hw27 : k0_chk27 v969), ∀ a x, ((![v969] : Fin 1 → IVec S16 32) a x).toNat < S64.size a := fun v969 k0_hw27 => k0_hw27.2
def k0_off29 (k0_t1 : Fin k0_t1_loop.trips) : Fin 2 → Nat :=
  let c3_i32_347 : BitVec 32 := 3#32
  let v982 : Index := Scalar.indexCast c3_i32_347
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v983 : Index := Scalar.indexCast v585
  ![3, v983.toNat]

def k0_chk28 (v1005 : IVec S16 32) : Prop :=
  (∀ a x, ((![v1005] : Fin 1 → IVec S16 32) a x).toNat < S72.size a) ∧
  (∀ a x, ((![v1005] : Fin 1 → IVec S16 32) a x).toNat < S64.size a)
theorem k0_idx55_inb : ∀ (v1005 : IVec S16 32) (k0_hw28 : k0_chk28 v1005), ∀ a x, ((![v1005] : Fin 1 → IVec S16 32) a x).toNat < S72.size a := fun v1005 k0_hw28 => k0_hw28.1
theorem k0_idx56_inb : ∀ (v1005 : IVec S16 32) (k0_hw28 : k0_chk28 v1005), ∀ a x, ((![v1005] : Fin 1 → IVec S16 32) a x).toNat < S64.size a := fun v1005 k0_hw28 => k0_hw28.2
def k0_off30 (k0_t1 : Fin k0_t1_loop.trips) : Fin 2 → Nat :=
  let c4_i32_360 : BitVec 32 := 4#32
  let v1018 : Index := Scalar.indexCast c4_i32_360
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v1019 : Index := Scalar.indexCast v585
  ![4, v1019.toNat]

def k0_chk29 (v1041 : IVec S16 32) : Prop :=
  (∀ a x, ((![v1041] : Fin 1 → IVec S16 32) a x).toNat < S72.size a) ∧
  (∀ a x, ((![v1041] : Fin 1 → IVec S16 32) a x).toNat < S64.size a)
theorem k0_idx57_inb : ∀ (v1041 : IVec S16 32) (k0_hw29 : k0_chk29 v1041), ∀ a x, ((![v1041] : Fin 1 → IVec S16 32) a x).toNat < S72.size a := fun v1041 k0_hw29 => k0_hw29.1
theorem k0_idx58_inb : ∀ (v1041 : IVec S16 32) (k0_hw29 : k0_chk29 v1041), ∀ a x, ((![v1041] : Fin 1 → IVec S16 32) a x).toNat < S64.size a := fun v1041 k0_hw29 => k0_hw29.2
def k0_off31 (k0_t1 : Fin k0_t1_loop.trips) : Fin 2 → Nat :=
  let c5_i32_373 : BitVec 32 := 5#32
  let v1054 : Index := Scalar.indexCast c5_i32_373
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v1055 : Index := Scalar.indexCast v585
  ![5, v1055.toNat]

def k0_chk30 (v1077 : IVec S16 32) : Prop :=
  (∀ a x, ((![v1077] : Fin 1 → IVec S16 32) a x).toNat < S72.size a) ∧
  (∀ a x, ((![v1077] : Fin 1 → IVec S16 32) a x).toNat < S64.size a)
theorem k0_idx59_inb : ∀ (v1077 : IVec S16 32) (k0_hw30 : k0_chk30 v1077), ∀ a x, ((![v1077] : Fin 1 → IVec S16 32) a x).toNat < S72.size a := fun v1077 k0_hw30 => k0_hw30.1
theorem k0_idx60_inb : ∀ (v1077 : IVec S16 32) (k0_hw30 : k0_chk30 v1077), ∀ a x, ((![v1077] : Fin 1 → IVec S16 32) a x).toNat < S64.size a := fun v1077 k0_hw30 => k0_hw30.2
def k0_off32 (k0_t1 : Fin k0_t1_loop.trips) : Fin 2 → Nat :=
  let c6_i32_386 : BitVec 32 := 6#32
  let v1090 : Index := Scalar.indexCast c6_i32_386
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v1091 : Index := Scalar.indexCast v585
  ![6, v1091.toNat]

def k0_chk31 (v1113 : IVec S16 32) : Prop :=
  (∀ a x, ((![v1113] : Fin 1 → IVec S16 32) a x).toNat < S72.size a) ∧
  (∀ a x, ((![v1113] : Fin 1 → IVec S16 32) a x).toNat < S64.size a)
theorem k0_idx61_inb : ∀ (v1113 : IVec S16 32) (k0_hw31 : k0_chk31 v1113), ∀ a x, ((![v1113] : Fin 1 → IVec S16 32) a x).toNat < S72.size a := fun v1113 k0_hw31 => k0_hw31.1
theorem k0_idx62_inb : ∀ (v1113 : IVec S16 32) (k0_hw31 : k0_chk31 v1113), ∀ a x, ((![v1113] : Fin 1 → IVec S16 32) a x).toNat < S64.size a := fun v1113 k0_hw31 => k0_hw31.2
def k0_off33 (k0_t1 : Fin k0_t1_loop.trips) : Fin 2 → Nat :=
  let c7_i32_399 : BitVec 32 := 7#32
  let v1126 : Index := Scalar.indexCast c7_i32_399
  let c0_i32_0 : BitVec 32 := 0#32
  let c1_i32 : BitVec 32 := 1#32
  let arg23 : BitVec 32 := Scf.iv c0_i32_0 c1_i32 k0_t1
  let c32_i32_204 : BitVec 32 := 32#32
  let v584 : BitVec 32 := Scalar.muli arg23 c32_i32_204
  let c16_i32 : BitVec 32 := 16#32
  let v585 : BitVec 32 := Scalar.addi v584 c16_i32
  let v1127 : Index := Scalar.indexCast v585
  ![7, v1127.toNat]

def k0_chk32 (v1149 : IVec S16 32) : Prop :=
  (∀ a x, ((![v1149] : Fin 1 → IVec S16 32) a x).toNat < S72.size a) ∧
  (∀ a x, ((![v1149] : Fin 1 → IVec S16 32) a x).toNat < S64.size a)
theorem k0_idx63_inb : ∀ (v1149 : IVec S16 32) (k0_hw32 : k0_chk32 v1149), ∀ a x, ((![v1149] : Fin 1 → IVec S16 32) a x).toNat < S72.size a := fun v1149 k0_hw32 => k0_hw32.1
theorem k0_idx64_inb : ∀ (v1149 : IVec S16 32) (k0_hw32 : k0_chk32 v1149), ∀ a x, ((![v1149] : Fin 1 → IVec S16 32) a x).toNat < S64.size a := fun v1149 k0_hw32 => k0_hw32.2
@[reducible] def k0_t2_loop : Scf.Loop 32 :=
  let c0_i32_413 : BitVec 32 := 0#32
  let c32_i32_414 : BitVec 32 := 32#32
  let v1162 : BitVec 32 := Scalar.addi c0_i32_413 c32_i32_414
  let c1_i32_415 : BitVec 32 := 1#32
  ⟨c0_i32_413, v1162, c1_i32_415⟩

def k0_chk33 (v1170 : IVec S16 32) (v1174 : IVec S16 32) : Prop :=
  (∀ a x, ((![v1174, v1170] : Fin 2 → IVec S16 32) a x).toNat < S8x32.size a) ∧
  (∀ a x, ((![v1174, v1170] : Fin 2 → IVec S16 32) a x).toNat < S8x32.size a)
theorem k0_idx65_inb : ∀ (v1170 : IVec S16 32) (v1174 : IVec S16 32) (k0_hw33 : k0_chk33 v1170 v1174), ∀ a x, ((![v1174, v1170] : Fin 2 → IVec S16 32) a x).toNat < S8x32.size a := fun v1170 v1174 k0_hw33 => k0_hw33.1
theorem k0_idx67_inb : ∀ (v1170 : IVec S16 32) (v1174 : IVec S16 32) (k0_hw33 : k0_chk33 v1170 v1174), ∀ a x, ((![v1174, v1170] : Fin 2 → IVec S16 32) a x).toNat < S8x32.size a := fun v1170 v1174 k0_hw33 => k0_hw33.2

def k0_chk34 (v1170 : IVec S16 32) (v1176 : IVec S16 32) : Prop :=
  (∀ a x, ((![v1176, v1170] : Fin 2 → IVec S16 32) a x).toNat < S8x32.size a) ∧
  (∀ a x, ((![v1176, v1170] : Fin 2 → IVec S16 32) a x).toNat < S8x32.size a)
theorem k0_idx66_inb : ∀ (v1170 : IVec S16 32) (v1176 : IVec S16 32) (k0_hw34 : k0_chk34 v1170 v1176), ∀ a x, ((![v1176, v1170] : Fin 2 → IVec S16 32) a x).toNat < S8x32.size a := fun v1170 v1176 k0_hw34 => k0_hw34.1
theorem k0_idx68_inb : ∀ (v1170 : IVec S16 32) (v1176 : IVec S16 32) (k0_hw34 : k0_chk34 v1170 v1176), ∀ a x, ((![v1176, v1170] : Fin 2 → IVec S16 32) a x).toNat < S8x32.size a := fun v1170 v1176 k0_hw34 => k0_hw34.2

def k0_chk36 (v1196 : IVec S16 32) : Prop :=
  (∀ a x, ((![v1196] : Fin 1 → IVec S16 32) a x).toNat < S8192.size a)
theorem k0_idx70_inb : ∀ (v1196 : IVec S16 32) (k0_hw36 : k0_chk36 v1196), ∀ a x, ((![v1196] : Fin 1 → IVec S16 32) a x).toNat < S8192.size a := fun v1196 k0_hw36 => k0_hw36

def k0_chk37 (v1200 : IVec S16 32) : Prop :=
  (∀ a x, ((![v1200] : Fin 1 → IVec S16 32) a x).toNat < S8192.size a)
theorem k0_idx71_inb : ∀ (v1200 : IVec S16 32) (k0_hw37 : k0_chk37 v1200), ∀ a x, ((![v1200] : Fin 1 → IVec S16 32) a x).toNat < S8192.size a := fun v1200 k0_hw37 => k0_hw37

def k0_chk38 (v1204 : IVec S16 32) : Prop :=
  (∀ a x, ((![v1204] : Fin 1 → IVec S16 32) a x).toNat < S8192.size a)
theorem k0_idx72_inb : ∀ (v1204 : IVec S16 32) (k0_hw38 : k0_chk38 v1204), ∀ a x, ((![v1204] : Fin 1 → IVec S16 32) a x).toNat < S8192.size a := fun v1204 k0_hw38 => k0_hw38

def k0_chk35 (v1194 : IVec S16 32) : Prop :=
  (∀ a x, ((![v1194] : Fin 1 → IVec S16 32) a x).toNat < S8192.size a) ∧
  (∀ a x, ((![v1194] : Fin 1 → IVec S16 32) a x).toNat < S8192.size a)
theorem k0_idx69_inb : ∀ (v1194 : IVec S16 32) (k0_hw35 : k0_chk35 v1194), ∀ a x, ((![v1194] : Fin 1 → IVec S16 32) a x).toNat < S8192.size a := fun v1194 k0_hw35 => k0_hw35.1
theorem k0_idx73_inb : ∀ (v1194 : IVec S16 32) (k0_hw35 : k0_chk35 v1194), ∀ a x, ((![v1194] : Fin 1 → IVec S16 32) a x).toNat < S8192.size a := fun v1194 k0_hw35 => k0_hw35.2

def k0_chk39 (v1211 : IVec S16 32) : Prop :=
  (∀ a x, ((![v1211] : Fin 1 → IVec S16 32) a x).toNat < S8192.size a)
theorem k0_idx74_inb : ∀ (v1211 : IVec S16 32) (k0_hw39 : k0_chk39 v1211), ∀ a x, ((![v1211] : Fin 1 → IVec S16 32) a x).toNat < S8192.size a := fun v1211 k0_hw39 => k0_hw39

def k0_chk40 (v1214 : IVec S16 32) : Prop :=
  (∀ a x, ((![v1214] : Fin 1 → IVec S16 32) a x).toNat < S8192.size a)
theorem k0_idx75_inb : ∀ (v1214 : IVec S16 32) (k0_hw40 : k0_chk40 v1214), ∀ a x, ((![v1214] : Fin 1 → IVec S16 32) a x).toNat < S8192.size a := fun v1214 k0_hw40 => k0_hw40

def k0_chk41 (v1217 : IVec S16 32) : Prop :=
  (∀ a x, ((![v1217] : Fin 1 → IVec S16 32) a x).toNat < S8192.size a)
theorem k0_idx76_inb : ∀ (v1217 : IVec S16 32) (k0_hw41 : k0_chk41 v1217), ∀ a x, ((![v1217] : Fin 1 → IVec S16 32) a x).toNat < S8192.size a := fun v1217 k0_hw41 => k0_hw41

def k0_chk42 (v1170 : IVec S16 32) (v1222 : IVec S16 32) : Prop :=
  (∀ a x, ((![v1222, v1170] : Fin 2 → IVec S16 32) a x).toNat < S8x32.size a) ∧
  (∀ a x, ((![v1222, v1170] : Fin 2 → IVec S16 32) a x).toNat < S8x32.size a)
theorem k0_idx77_inb : ∀ (v1170 : IVec S16 32) (v1222 : IVec S16 32) (k0_hw42 : k0_chk42 v1170 v1222), ∀ a x, ((![v1222, v1170] : Fin 2 → IVec S16 32) a x).toNat < S8x32.size a := fun v1170 v1222 k0_hw42 => k0_hw42.1
theorem k0_idx79_inb : ∀ (v1170 : IVec S16 32) (v1222 : IVec S16 32) (k0_hw42 : k0_chk42 v1170 v1222), ∀ a x, ((![v1222, v1170] : Fin 2 → IVec S16 32) a x).toNat < S8x32.size a := fun v1170 v1222 k0_hw42 => k0_hw42.2

def k0_chk43 (v1170 : IVec S16 32) (v1224 : IVec S16 32) : Prop :=
  (∀ a x, ((![v1224, v1170] : Fin 2 → IVec S16 32) a x).toNat < S8x32.size a) ∧
  (∀ a x, ((![v1224, v1170] : Fin 2 → IVec S16 32) a x).toNat < S8x32.size a)
theorem k0_idx78_inb : ∀ (v1170 : IVec S16 32) (v1224 : IVec S16 32) (k0_hw43 : k0_chk43 v1170 v1224), ∀ a x, ((![v1224, v1170] : Fin 2 → IVec S16 32) a x).toNat < S8x32.size a := fun v1170 v1224 k0_hw43 => k0_hw43.1
theorem k0_idx80_inb : ∀ (v1170 : IVec S16 32) (v1224 : IVec S16 32) (k0_hw43 : k0_chk43 v1170 v1224), ∀ a x, ((![v1224, v1170] : Fin 2 → IVec S16 32) a x).toNat < S8x32.size a := fun v1170 v1224 k0_hw43 => k0_hw43.2

def k0_chk45 (v1244 : IVec S16 32) : Prop :=
  (∀ a x, ((![v1244] : Fin 1 → IVec S16 32) a x).toNat < S8192.size a)
theorem k0_idx82_inb : ∀ (v1244 : IVec S16 32) (k0_hw45 : k0_chk45 v1244), ∀ a x, ((![v1244] : Fin 1 → IVec S16 32) a x).toNat < S8192.size a := fun v1244 k0_hw45 => k0_hw45

def k0_chk46 (v1248 : IVec S16 32) : Prop :=
  (∀ a x, ((![v1248] : Fin 1 → IVec S16 32) a x).toNat < S8192.size a)
theorem k0_idx83_inb : ∀ (v1248 : IVec S16 32) (k0_hw46 : k0_chk46 v1248), ∀ a x, ((![v1248] : Fin 1 → IVec S16 32) a x).toNat < S8192.size a := fun v1248 k0_hw46 => k0_hw46

def k0_chk47 (v1252 : IVec S16 32) : Prop :=
  (∀ a x, ((![v1252] : Fin 1 → IVec S16 32) a x).toNat < S8192.size a)
theorem k0_idx84_inb : ∀ (v1252 : IVec S16 32) (k0_hw47 : k0_chk47 v1252), ∀ a x, ((![v1252] : Fin 1 → IVec S16 32) a x).toNat < S8192.size a := fun v1252 k0_hw47 => k0_hw47

def k0_chk44 (v1242 : IVec S16 32) : Prop :=
  (∀ a x, ((![v1242] : Fin 1 → IVec S16 32) a x).toNat < S8192.size a) ∧
  (∀ a x, ((![v1242] : Fin 1 → IVec S16 32) a x).toNat < S8192.size a)
theorem k0_idx81_inb : ∀ (v1242 : IVec S16 32) (k0_hw44 : k0_chk44 v1242), ∀ a x, ((![v1242] : Fin 1 → IVec S16 32) a x).toNat < S8192.size a := fun v1242 k0_hw44 => k0_hw44.1
theorem k0_idx85_inb : ∀ (v1242 : IVec S16 32) (k0_hw44 : k0_chk44 v1242), ∀ a x, ((![v1242] : Fin 1 → IVec S16 32) a x).toNat < S8192.size a := fun v1242 k0_hw44 => k0_hw44.2

def k0_chk48 (v1259 : IVec S16 32) : Prop :=
  (∀ a x, ((![v1259] : Fin 1 → IVec S16 32) a x).toNat < S8192.size a)
theorem k0_idx86_inb : ∀ (v1259 : IVec S16 32) (k0_hw48 : k0_chk48 v1259), ∀ a x, ((![v1259] : Fin 1 → IVec S16 32) a x).toNat < S8192.size a := fun v1259 k0_hw48 => k0_hw48

def k0_chk49 (v1262 : IVec S16 32) : Prop :=
  (∀ a x, ((![v1262] : Fin 1 → IVec S16 32) a x).toNat < S8192.size a)
theorem k0_idx87_inb : ∀ (v1262 : IVec S16 32) (k0_hw49 : k0_chk49 v1262), ∀ a x, ((![v1262] : Fin 1 → IVec S16 32) a x).toNat < S8192.size a := fun v1262 k0_hw49 => k0_hw49

def k0_chk50 (v1265 : IVec S16 32) : Prop :=
  (∀ a x, ((![v1265] : Fin 1 → IVec S16 32) a x).toNat < S8192.size a)
theorem k0_idx88_inb : ∀ (v1265 : IVec S16 32) (k0_hw50 : k0_chk50 v1265), ∀ a x, ((![v1265] : Fin 1 → IVec S16 32) a x).toNat < S8192.size a := fun v1265 k0_hw50 => k0_hw50

def k0_chk51 (v1170 : IVec S16 32) (v1270 : IVec S16 32) : Prop :=
  (∀ a x, ((![v1270, v1170] : Fin 2 → IVec S16 32) a x).toNat < S8x32.size a) ∧
  (∀ a x, ((![v1270, v1170] : Fin 2 → IVec S16 32) a x).toNat < S8x32.size a)
theorem k0_idx89_inb : ∀ (v1170 : IVec S16 32) (v1270 : IVec S16 32) (k0_hw51 : k0_chk51 v1170 v1270), ∀ a x, ((![v1270, v1170] : Fin 2 → IVec S16 32) a x).toNat < S8x32.size a := fun v1170 v1270 k0_hw51 => k0_hw51.1
theorem k0_idx91_inb : ∀ (v1170 : IVec S16 32) (v1270 : IVec S16 32) (k0_hw51 : k0_chk51 v1170 v1270), ∀ a x, ((![v1270, v1170] : Fin 2 → IVec S16 32) a x).toNat < S8x32.size a := fun v1170 v1270 k0_hw51 => k0_hw51.2

def k0_chk52 (v1170 : IVec S16 32) (v1272 : IVec S16 32) : Prop :=
  (∀ a x, ((![v1272, v1170] : Fin 2 → IVec S16 32) a x).toNat < S8x32.size a) ∧
  (∀ a x, ((![v1272, v1170] : Fin 2 → IVec S16 32) a x).toNat < S8x32.size a)
theorem k0_idx90_inb : ∀ (v1170 : IVec S16 32) (v1272 : IVec S16 32) (k0_hw52 : k0_chk52 v1170 v1272), ∀ a x, ((![v1272, v1170] : Fin 2 → IVec S16 32) a x).toNat < S8x32.size a := fun v1170 v1272 k0_hw52 => k0_hw52.1
theorem k0_idx92_inb : ∀ (v1170 : IVec S16 32) (v1272 : IVec S16 32) (k0_hw52 : k0_chk52 v1170 v1272), ∀ a x, ((![v1272, v1170] : Fin 2 → IVec S16 32) a x).toNat < S8x32.size a := fun v1170 v1272 k0_hw52 => k0_hw52.2

def k0_chk54 (v1292 : IVec S16 32) : Prop :=
  (∀ a x, ((![v1292] : Fin 1 → IVec S16 32) a x).toNat < S8192.size a)
theorem k0_idx94_inb : ∀ (v1292 : IVec S16 32) (k0_hw54 : k0_chk54 v1292), ∀ a x, ((![v1292] : Fin 1 → IVec S16 32) a x).toNat < S8192.size a := fun v1292 k0_hw54 => k0_hw54

def k0_chk55 (v1296 : IVec S16 32) : Prop :=
  (∀ a x, ((![v1296] : Fin 1 → IVec S16 32) a x).toNat < S8192.size a)
theorem k0_idx95_inb : ∀ (v1296 : IVec S16 32) (k0_hw55 : k0_chk55 v1296), ∀ a x, ((![v1296] : Fin 1 → IVec S16 32) a x).toNat < S8192.size a := fun v1296 k0_hw55 => k0_hw55

def k0_chk56 (v1300 : IVec S16 32) : Prop :=
  (∀ a x, ((![v1300] : Fin 1 → IVec S16 32) a x).toNat < S8192.size a)
theorem k0_idx96_inb : ∀ (v1300 : IVec S16 32) (k0_hw56 : k0_chk56 v1300), ∀ a x, ((![v1300] : Fin 1 → IVec S16 32) a x).toNat < S8192.size a := fun v1300 k0_hw56 => k0_hw56

def k0_chk53 (v1290 : IVec S16 32) : Prop :=
  (∀ a x, ((![v1290] : Fin 1 → IVec S16 32) a x).toNat < S8192.size a) ∧
  (∀ a x, ((![v1290] : Fin 1 → IVec S16 32) a x).toNat < S8192.size a)
theorem k0_idx93_inb : ∀ (v1290 : IVec S16 32) (k0_hw53 : k0_chk53 v1290), ∀ a x, ((![v1290] : Fin 1 → IVec S16 32) a x).toNat < S8192.size a := fun v1290 k0_hw53 => k0_hw53.1
theorem k0_idx97_inb : ∀ (v1290 : IVec S16 32) (k0_hw53 : k0_chk53 v1290), ∀ a x, ((![v1290] : Fin 1 → IVec S16 32) a x).toNat < S8192.size a := fun v1290 k0_hw53 => k0_hw53.2

def k0_chk57 (v1307 : IVec S16 32) : Prop :=
  (∀ a x, ((![v1307] : Fin 1 → IVec S16 32) a x).toNat < S8192.size a)
theorem k0_idx98_inb : ∀ (v1307 : IVec S16 32) (k0_hw57 : k0_chk57 v1307), ∀ a x, ((![v1307] : Fin 1 → IVec S16 32) a x).toNat < S8192.size a := fun v1307 k0_hw57 => k0_hw57

def k0_chk58 (v1310 : IVec S16 32) : Prop :=
  (∀ a x, ((![v1310] : Fin 1 → IVec S16 32) a x).toNat < S8192.size a)
theorem k0_idx99_inb : ∀ (v1310 : IVec S16 32) (k0_hw58 : k0_chk58 v1310), ∀ a x, ((![v1310] : Fin 1 → IVec S16 32) a x).toNat < S8192.size a := fun v1310 k0_hw58 => k0_hw58

def k0_chk59 (v1313 : IVec S16 32) : Prop :=
  (∀ a x, ((![v1313] : Fin 1 → IVec S16 32) a x).toNat < S8192.size a)
theorem k0_idx100_inb : ∀ (v1313 : IVec S16 32) (k0_hw59 : k0_chk59 v1313), ∀ a x, ((![v1313] : Fin 1 → IVec S16 32) a x).toNat < S8192.size a := fun v1313 k0_hw59 => k0_hw59

def k0_chk60 (v1170 : IVec S16 32) (v1318 : IVec S16 32) : Prop :=
  (∀ a x, ((![v1318, v1170] : Fin 2 → IVec S16 32) a x).toNat < S8x32.size a) ∧
  (∀ a x, ((![v1318, v1170] : Fin 2 → IVec S16 32) a x).toNat < S8x32.size a)
theorem k0_idx101_inb : ∀ (v1170 : IVec S16 32) (v1318 : IVec S16 32) (k0_hw60 : k0_chk60 v1170 v1318), ∀ a x, ((![v1318, v1170] : Fin 2 → IVec S16 32) a x).toNat < S8x32.size a := fun v1170 v1318 k0_hw60 => k0_hw60.1
theorem k0_idx103_inb : ∀ (v1170 : IVec S16 32) (v1318 : IVec S16 32) (k0_hw60 : k0_chk60 v1170 v1318), ∀ a x, ((![v1318, v1170] : Fin 2 → IVec S16 32) a x).toNat < S8x32.size a := fun v1170 v1318 k0_hw60 => k0_hw60.2

def k0_chk61 (v1170 : IVec S16 32) (v1320 : IVec S16 32) : Prop :=
  (∀ a x, ((![v1320, v1170] : Fin 2 → IVec S16 32) a x).toNat < S8x32.size a) ∧
  (∀ a x, ((![v1320, v1170] : Fin 2 → IVec S16 32) a x).toNat < S8x32.size a)
theorem k0_idx102_inb : ∀ (v1170 : IVec S16 32) (v1320 : IVec S16 32) (k0_hw61 : k0_chk61 v1170 v1320), ∀ a x, ((![v1320, v1170] : Fin 2 → IVec S16 32) a x).toNat < S8x32.size a := fun v1170 v1320 k0_hw61 => k0_hw61.1
theorem k0_idx104_inb : ∀ (v1170 : IVec S16 32) (v1320 : IVec S16 32) (k0_hw61 : k0_chk61 v1170 v1320), ∀ a x, ((![v1320, v1170] : Fin 2 → IVec S16 32) a x).toNat < S8x32.size a := fun v1170 v1320 k0_hw61 => k0_hw61.2

def k0_chk63 (v1340 : IVec S16 32) : Prop :=
  (∀ a x, ((![v1340] : Fin 1 → IVec S16 32) a x).toNat < S8192.size a)
theorem k0_idx106_inb : ∀ (v1340 : IVec S16 32) (k0_hw63 : k0_chk63 v1340), ∀ a x, ((![v1340] : Fin 1 → IVec S16 32) a x).toNat < S8192.size a := fun v1340 k0_hw63 => k0_hw63

def k0_chk64 (v1344 : IVec S16 32) : Prop :=
  (∀ a x, ((![v1344] : Fin 1 → IVec S16 32) a x).toNat < S8192.size a)
theorem k0_idx107_inb : ∀ (v1344 : IVec S16 32) (k0_hw64 : k0_chk64 v1344), ∀ a x, ((![v1344] : Fin 1 → IVec S16 32) a x).toNat < S8192.size a := fun v1344 k0_hw64 => k0_hw64

def k0_chk65 (v1348 : IVec S16 32) : Prop :=
  (∀ a x, ((![v1348] : Fin 1 → IVec S16 32) a x).toNat < S8192.size a)
theorem k0_idx108_inb : ∀ (v1348 : IVec S16 32) (k0_hw65 : k0_chk65 v1348), ∀ a x, ((![v1348] : Fin 1 → IVec S16 32) a x).toNat < S8192.size a := fun v1348 k0_hw65 => k0_hw65

def k0_chk62 (v1338 : IVec S16 32) : Prop :=
  (∀ a x, ((![v1338] : Fin 1 → IVec S16 32) a x).toNat < S8192.size a) ∧
  (∀ a x, ((![v1338] : Fin 1 → IVec S16 32) a x).toNat < S8192.size a)
theorem k0_idx105_inb : ∀ (v1338 : IVec S16 32) (k0_hw62 : k0_chk62 v1338), ∀ a x, ((![v1338] : Fin 1 → IVec S16 32) a x).toNat < S8192.size a := fun v1338 k0_hw62 => k0_hw62.1
theorem k0_idx109_inb : ∀ (v1338 : IVec S16 32) (k0_hw62 : k0_chk62 v1338), ∀ a x, ((![v1338] : Fin 1 → IVec S16 32) a x).toNat < S8192.size a := fun v1338 k0_hw62 => k0_hw62.2

def k0_chk66 (v1355 : IVec S16 32) : Prop :=
  (∀ a x, ((![v1355] : Fin 1 → IVec S16 32) a x).toNat < S8192.size a)
theorem k0_idx110_inb : ∀ (v1355 : IVec S16 32) (k0_hw66 : k0_chk66 v1355), ∀ a x, ((![v1355] : Fin 1 → IVec S16 32) a x).toNat < S8192.size a := fun v1355 k0_hw66 => k0_hw66

def k0_chk67 (v1358 : IVec S16 32) : Prop :=
  (∀ a x, ((![v1358] : Fin 1 → IVec S16 32) a x).toNat < S8192.size a)
theorem k0_idx111_inb : ∀ (v1358 : IVec S16 32) (k0_hw67 : k0_chk67 v1358), ∀ a x, ((![v1358] : Fin 1 → IVec S16 32) a x).toNat < S8192.size a := fun v1358 k0_hw67 => k0_hw67

def k0_chk68 (v1361 : IVec S16 32) : Prop :=
  (∀ a x, ((![v1361] : Fin 1 → IVec S16 32) a x).toNat < S8192.size a)
theorem k0_idx112_inb : ∀ (v1361 : IVec S16 32) (k0_hw68 : k0_chk68 v1361), ∀ a x, ((![v1361] : Fin 1 → IVec S16 32) a x).toNat < S8192.size a := fun v1361 k0_hw68 => k0_hw68
@[reducible] def k0_t3_loop : Scf.Loop 32 :=
  let c0_i32_421 : BitVec 32 := 0#32
  let c32_i32_422 : BitVec 32 := 32#32
  let v1166 : BitVec 32 := Scalar.addi c0_i32_421 c32_i32_422
  let c1_i32_423 : BitVec 32 := 1#32
  ⟨c0_i32_421, v1166, c1_i32_423⟩
def k0_off34 (k0_t3 : Fin k0_t3_loop.trips) : Fin 1 → Nat :=
  let c2_i32_435 : BitVec 32 := 2#32
  let c0_i32_421 : BitVec 32 := 0#32
  let c1_i32_423 : BitVec 32 := 1#32
  let arg25 : BitVec 32 := Scf.iv c0_i32_421 c1_i32_423 k0_t3
  let v1178 : BitVec 32 := Scalar.muli c2_i32_435 arg25
  let c1_i32_436 : BitVec 32 := 1#32
  let v1179 : BitVec 32 := Scalar.addi v1178 c1_i32_436
  let c128_i32_437 : BitVec 32 := 128#32
  let v1180 : BitVec 32 := Scalar.muli v1179 c128_i32_437
  ![v1180.toNat]
@[reducible] def k0_t4_loop : Scf.Loop 32 :=
  let c0_i32_443 : BitVec 32 := 0#32
  let c128_i32_444 : BitVec 32 := 128#32
  let v1185 : BitVec 32 := Scalar.addi c0_i32_443 c128_i32_444
  let c1_i32_445 : BitVec 32 := 1#32
  ⟨c0_i32_443, v1185, c1_i32_445⟩

def k0_chk69 (v1230 : IVec S16 32) : Prop :=
  (∀ a x, ((![v1230] : Fin 1 → IVec S16 32) a x).toNat < S8192.size a)
theorem k0_idx113_inb : ∀ (v1230 : IVec S16 32) (k0_hw69 : k0_chk69 v1230), ∀ a x, ((![v1230] : Fin 1 → IVec S16 32) a x).toNat < S8192.size a := fun v1230 k0_hw69 => k0_hw69
def k0_off35 (k0_t4 : Fin k0_t4_loop.trips) : Fin 2 → Nat :=
  let c0_i32_443 : BitVec 32 := 0#32
  let c1_i32_445 : BitVec 32 := 1#32
  let arg27 : BitVec 32 := Scf.iv c0_i32_443 c1_i32_445 k0_t4
  let v1232 : Index := Scalar.indexCast arg27
  let c0_461 : Index := 0#32
  ![v1232.toNat, 0]
def k0_off36 (k0_t4 : Fin k0_t4_loop.trips) : Fin 2 → Nat :=
  let c0_i32_443 : BitVec 32 := 0#32
  let c1_i32_445 : BitVec 32 := 1#32
  let arg27 : BitVec 32 := Scf.iv c0_i32_443 c1_i32_445 k0_t4
  let v1237 : Index := Scalar.indexCast arg27
  let c16_462 : Index := 16#32
  ![v1237.toNat, 16]
def k0_off37 (k0_t4 : Fin k0_t4_loop.trips) : Fin 2 → Nat :=
  let c0_i32_443 : BitVec 32 := 0#32
  let c1_i32_445 : BitVec 32 := 1#32
  let arg27 : BitVec 32 := Scf.iv c0_i32_443 c1_i32_445 k0_t4
  let v1242 : Index := Scalar.indexCast arg27
  let c32_463 : Index := 32#32
  ![v1242.toNat, 32]
def k0_off38 (k0_t4 : Fin k0_t4_loop.trips) : Fin 2 → Nat :=
  let c0_i32_443 : BitVec 32 := 0#32
  let c1_i32_445 : BitVec 32 := 1#32
  let arg27 : BitVec 32 := Scf.iv c0_i32_443 c1_i32_445 k0_t4
  let v1247 : Index := Scalar.indexCast arg27
  let c48_464 : Index := 48#32
  ![v1247.toNat, 48]
def k0_off39 (k0_t4 : Fin k0_t4_loop.trips) : Fin 2 → Nat :=
  let c0_i32_443 : BitVec 32 := 0#32
  let c1_i32_445 : BitVec 32 := 1#32
  let arg27 : BitVec 32 := Scf.iv c0_i32_443 c1_i32_445 k0_t4
  let v1252 : Index := Scalar.indexCast arg27
  let c64_465 : Index := 64#32
  ![v1252.toNat, 64]
def k0_off40 (k0_t4 : Fin k0_t4_loop.trips) : Fin 2 → Nat :=
  let c0_i32_443 : BitVec 32 := 0#32
  let c1_i32_445 : BitVec 32 := 1#32
  let arg27 : BitVec 32 := Scf.iv c0_i32_443 c1_i32_445 k0_t4
  let v1257 : Index := Scalar.indexCast arg27
  let c80_466 : Index := 80#32
  ![v1257.toNat, 80]
def k0_off41 (k0_t4 : Fin k0_t4_loop.trips) : Fin 2 → Nat :=
  let c0_i32_443 : BitVec 32 := 0#32
  let c1_i32_445 : BitVec 32 := 1#32
  let arg27 : BitVec 32 := Scf.iv c0_i32_443 c1_i32_445 k0_t4
  let v1262 : Index := Scalar.indexCast arg27
  let c96_467 : Index := 96#32
  ![v1262.toNat, 96]
def k0_off42 (k0_t4 : Fin k0_t4_loop.trips) : Fin 2 → Nat :=
  let c0_i32_443 : BitVec 32 := 0#32
  let c1_i32_445 : BitVec 32 := 1#32
  let arg27 : BitVec 32 := Scf.iv c0_i32_443 c1_i32_445 k0_t4
  let v1267 : Index := Scalar.indexCast arg27
  let c112_468 : Index := 112#32
  ![v1267.toNat, 112]
def k0_cond1 (k0_t3 : Fin k0_t3_loop.trips) : BitVec 1 :=
  let c2_i32_435 : BitVec 32 := 2#32
  let c0_i32_421 : BitVec 32 := 0#32
  let c1_i32_423 : BitVec 32 := 1#32
  let arg25 : BitVec 32 := Scf.iv c0_i32_421 c1_i32_423 k0_t3
  let v1178 : BitVec 32 := Scalar.muli c2_i32_435 arg25
  let c2_i32_447 : BitVec 32 := 2#32
  let v1187 : BitVec 32 := Scalar.addi v1178 c2_i32_447
  let c64_i32 : BitVec 32 := 64#32
  let v1188 : BitVec 1 := Scalar.cmpi .slt v1187 c64_i32
  let v1189 : BitVec 32 := Scalar.extui v1188
  let c0_i32_448 : BitVec 32 := 0#32
  let v1190 : BitVec 1 := Scalar.cmpi .ne v1189 c0_i32_448
  v1190

def k0_off43 (k0_t3 : Fin k0_t3_loop.trips) : Fin 1 → Nat :=
  let c2_i32_435 : BitVec 32 := 2#32
  let c0_i32_421 : BitVec 32 := 0#32
  let c1_i32_423 : BitVec 32 := 1#32
  let arg25 : BitVec 32 := Scf.iv c0_i32_421 c1_i32_423 k0_t3
  let v1178 : BitVec 32 := Scalar.muli c2_i32_435 arg25
  let c2_i32_460 : BitVec 32 := 2#32
  let v1228 : BitVec 32 := Scalar.addi v1178 c2_i32_460
  let c128_i32_461 : BitVec 32 := 128#32
  let v1229 : BitVec 32 := Scalar.muli v1228 c128_i32_461
  ![v1229.toNat]
@[reducible] def k0_t5_loop : Scf.Loop 32 :=
  let c0_i32_453 : BitVec 32 := 0#32
  let c128_i32_454 : BitVec 32 := 128#32
  let v1194 : BitVec 32 := Scalar.addi c0_i32_453 c128_i32_454
  let c1_i32_455 : BitVec 32 := 1#32
  ⟨c0_i32_453, v1194, c1_i32_455⟩

def k0_chk70 (v1230 : IVec S16 32) : Prop :=
  (∀ a x, ((![v1230] : Fin 1 → IVec S16 32) a x).toNat < S8192.size a)
theorem k0_idx114_inb : ∀ (v1230 : IVec S16 32) (k0_hw70 : k0_chk70 v1230), ∀ a x, ((![v1230] : Fin 1 → IVec S16 32) a x).toNat < S8192.size a := fun v1230 k0_hw70 => k0_hw70
def k0_off44 (k0_t5 : Fin k0_t5_loop.trips) : Fin 2 → Nat :=
  let c0_i32_453 : BitVec 32 := 0#32
  let c1_i32_455 : BitVec 32 := 1#32
  let arg27 : BitVec 32 := Scf.iv c0_i32_453 c1_i32_455 k0_t5
  let v1232 : Index := Scalar.indexCast arg27
  let c0_461 : Index := 0#32
  ![v1232.toNat, 0]
def k0_off45 (k0_t5 : Fin k0_t5_loop.trips) : Fin 2 → Nat :=
  let c0_i32_453 : BitVec 32 := 0#32
  let c1_i32_455 : BitVec 32 := 1#32
  let arg27 : BitVec 32 := Scf.iv c0_i32_453 c1_i32_455 k0_t5
  let v1237 : Index := Scalar.indexCast arg27
  let c16_462 : Index := 16#32
  ![v1237.toNat, 16]
def k0_off46 (k0_t5 : Fin k0_t5_loop.trips) : Fin 2 → Nat :=
  let c0_i32_453 : BitVec 32 := 0#32
  let c1_i32_455 : BitVec 32 := 1#32
  let arg27 : BitVec 32 := Scf.iv c0_i32_453 c1_i32_455 k0_t5
  let v1242 : Index := Scalar.indexCast arg27
  let c32_463 : Index := 32#32
  ![v1242.toNat, 32]
def k0_off47 (k0_t5 : Fin k0_t5_loop.trips) : Fin 2 → Nat :=
  let c0_i32_453 : BitVec 32 := 0#32
  let c1_i32_455 : BitVec 32 := 1#32
  let arg27 : BitVec 32 := Scf.iv c0_i32_453 c1_i32_455 k0_t5
  let v1247 : Index := Scalar.indexCast arg27
  let c48_464 : Index := 48#32
  ![v1247.toNat, 48]
def k0_off48 (k0_t5 : Fin k0_t5_loop.trips) : Fin 2 → Nat :=
  let c0_i32_453 : BitVec 32 := 0#32
  let c1_i32_455 : BitVec 32 := 1#32
  let arg27 : BitVec 32 := Scf.iv c0_i32_453 c1_i32_455 k0_t5
  let v1252 : Index := Scalar.indexCast arg27
  let c64_465 : Index := 64#32
  ![v1252.toNat, 64]
def k0_off49 (k0_t5 : Fin k0_t5_loop.trips) : Fin 2 → Nat :=
  let c0_i32_453 : BitVec 32 := 0#32
  let c1_i32_455 : BitVec 32 := 1#32
  let arg27 : BitVec 32 := Scf.iv c0_i32_453 c1_i32_455 k0_t5
  let v1257 : Index := Scalar.indexCast arg27
  let c80_466 : Index := 80#32
  ![v1257.toNat, 80]
def k0_off50 (k0_t5 : Fin k0_t5_loop.trips) : Fin 2 → Nat :=
  let c0_i32_453 : BitVec 32 := 0#32
  let c1_i32_455 : BitVec 32 := 1#32
  let arg27 : BitVec 32 := Scf.iv c0_i32_453 c1_i32_455 k0_t5
  let v1262 : Index := Scalar.indexCast arg27
  let c96_467 : Index := 96#32
  ![v1262.toNat, 96]
def k0_off51 (k0_t5 : Fin k0_t5_loop.trips) : Fin 2 → Nat :=
  let c0_i32_453 : BitVec 32 := 0#32
  let c1_i32_455 : BitVec 32 := 1#32
  let arg27 : BitVec 32 := Scf.iv c0_i32_453 c1_i32_455 k0_t5
  let v1267 : Index := Scalar.indexCast arg27
  let c112_468 : Index := 112#32
  ![v1267.toNat, 112]
def k0_off52 (k0_t3 : Fin k0_t3_loop.trips) : Fin 2 → Nat :=
  let c0_i32_421 : BitVec 32 := 0#32
  let c1_i32_423 : BitVec 32 := 1#32
  let arg25 : BitVec 32 := Scf.iv c0_i32_421 c1_i32_423 k0_t3
  let v1196 : Index := Scalar.indexCast arg25
  let c0_457 : Index := 0#32
  ![v1196.toNat, 0]
def k0_off53 (k0_t3 : Fin k0_t3_loop.trips) : Fin 2 → Nat :=
  let c0_i32_421 : BitVec 32 := 0#32
  let c1_i32_423 : BitVec 32 := 1#32
  let arg25 : BitVec 32 := Scf.iv c0_i32_421 c1_i32_423 k0_t3
  let v1200 : Index := Scalar.indexCast arg25
  let c16_458 : Index := 16#32
  ![v1200.toNat, 16]
def k0_off54 (k0_t3 : Fin k0_t3_loop.trips) : Fin 2 → Nat :=
  let c0_i32_421 : BitVec 32 := 0#32
  let c1_i32_423 : BitVec 32 := 1#32
  let arg25 : BitVec 32 := Scf.iv c0_i32_421 c1_i32_423 k0_t3
  let v1204 : Index := Scalar.indexCast arg25
  let c32 : Index := 32#32
  ![v1204.toNat, 32]
def k0_off55 (k0_t3 : Fin k0_t3_loop.trips) : Fin 2 → Nat :=
  let c0_i32_421 : BitVec 32 := 0#32
  let c1_i32_423 : BitVec 32 := 1#32
  let arg25 : BitVec 32 := Scf.iv c0_i32_421 c1_i32_423 k0_t3
  let v1208 : Index := Scalar.indexCast arg25
  let c48 : Index := 48#32
  ![v1208.toNat, 48]
def k0_off56 (k0_t3 : Fin k0_t3_loop.trips) : Fin 2 → Nat :=
  let c0_i32_421 : BitVec 32 := 0#32
  let c1_i32_423 : BitVec 32 := 1#32
  let arg25 : BitVec 32 := Scf.iv c0_i32_421 c1_i32_423 k0_t3
  let v1212 : Index := Scalar.indexCast arg25
  let c64 : Index := 64#32
  ![v1212.toNat, 64]
def k0_off57 (k0_t3 : Fin k0_t3_loop.trips) : Fin 2 → Nat :=
  let c0_i32_421 : BitVec 32 := 0#32
  let c1_i32_423 : BitVec 32 := 1#32
  let arg25 : BitVec 32 := Scf.iv c0_i32_421 c1_i32_423 k0_t3
  let v1216 : Index := Scalar.indexCast arg25
  let c80 : Index := 80#32
  ![v1216.toNat, 80]
def k0_off58 (k0_t3 : Fin k0_t3_loop.trips) : Fin 2 → Nat :=
  let c0_i32_421 : BitVec 32 := 0#32
  let c1_i32_423 : BitVec 32 := 1#32
  let arg25 : BitVec 32 := Scf.iv c0_i32_421 c1_i32_423 k0_t3
  let v1220 : Index := Scalar.indexCast arg25
  let c96 : Index := 96#32
  ![v1220.toNat, 96]
def k0_off59 (k0_t3 : Fin k0_t3_loop.trips) : Fin 2 → Nat :=
  let c0_i32_421 : BitVec 32 := 0#32
  let c1_i32_423 : BitVec 32 := 1#32
  let arg25 : BitVec 32 := Scf.iv c0_i32_421 c1_i32_423 k0_t3
  let v1224 : Index := Scalar.indexCast arg25
  let c112 : Index := 112#32
  ![v1224.toNat, 112]
def k0_off60 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_0 : BitVec 32 := 0#32
  let c1_i32 : BitVec 32 := 1#32
  let arg23 : BitVec 32 := Scf.iv c0_i32_0 c1_i32 k0_t1
  let c32_i32_425 : BitVec 32 := 32#32
  let v1168 : BitVec 32 := Scalar.muli arg23 c32_i32_425
  let v1169 : BitVec 32 := Scalar.addi v2 v1168
  let c0_i32_427_r4 : BitVec 32 := 0#32
  ![v1169.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x4096 : Shape := ⟨2, ![8, 4096]⟩
abbrev S65x65x128x8x8 : Shape := ⟨5, ![65, 65, 128, 8, 8]⟩
abbrev S65 : Shape := ⟨1, ![65]⟩
abbrev S64 : Shape := ⟨1, ![64]⟩
abbrev S_ : Shape := ⟨0, ![]⟩
abbrev S8x4096x1 : Shape := ⟨3, ![8, 4096, 1]⟩
abbrev S8 : Shape := ⟨1, ![8]⟩
abbrev S8x1x1 : Shape := ⟨3, ![8, 1, 1]⟩
abbrev S1x8x1 : Shape := ⟨3, ![1, 8, 1]⟩
abbrev S8x1x4096 : Shape := ⟨3, ![8, 1, 4096]⟩
abbrev S1x8x4096 : Shape := ⟨3, ![1, 8, 4096]⟩
abbrev S8x8x4096 : Shape := ⟨3, ![8, 8, 4096]⟩
abbrev S8x8x4096x1 : Shape := ⟨4, ![8, 8, 4096, 1]⟩
abbrev S8x8x4096x4 : Shape := ⟨4, ![8, 8, 4096, 4]⟩
abbrev S8x8x4096x128 : Shape := ⟨4, ![8, 8, 4096, 128]⟩
abbrev S4096x128 : Shape := ⟨2, ![4096, 128]⟩
abbrev S128x4096 : Shape := ⟨2, ![128, 4096]⟩

abbrev nBuf : Space → Nat
  | .hbm => 327
  | .vmem => 0
  | .smem => 0
  | _ => 0

abbrev hbmTy0_0 (i : Nat) : BufTy := match i % 128 with
  | 0 => ⟨S8x4096, .f32⟩
  | 1 => ⟨S8x4096, .f32⟩
  | 2 => ⟨S65x65x128x8x8, .f32⟩
  | 3 => ⟨S65, .f32⟩
  | 4 => ⟨S64, .f32⟩
  | 5 => ⟨S8x4096, .f32⟩
  | 6 => ⟨S8x4096, .f32⟩
  | 7 => ⟨S8x4096, .f32⟩
  | 8 => ⟨S_, .f32⟩
  | 9 => ⟨S8x4096, .f32⟩
  | 10 => ⟨S8x4096, .i1⟩
  | 11 => ⟨S_, .f32⟩
  | 12 => ⟨S8x4096, .f32⟩
  | 13 => ⟨S8x4096, .f32⟩
  | 14 => ⟨S_, .f32⟩
  | 15 => ⟨S8x4096, .f32⟩
  | 16 => ⟨S8x4096, .f32⟩
  | 17 => ⟨S_, .f32⟩
  | 18 => ⟨S8x4096, .f32⟩
  | 19 => ⟨S8x4096, .f32⟩
  | 20 => ⟨S8x4096, .f32⟩
  | 21 => ⟨S_, .f32⟩
  | 22 => ⟨S8x4096, .f32⟩
  | 23 => ⟨S8x4096, .f32⟩
  | 24 => ⟨S8x4096, .f32⟩
  | 25 => ⟨S8x4096, .f32⟩
  | 26 => ⟨S8x4096, .f32⟩
  | 27 => ⟨S_, .f32⟩
  | 28 => ⟨S8x4096, .f32⟩
  | 29 => ⟨S8x4096, .i1⟩
  | 30 => ⟨S_, .f32⟩
  | 31 => ⟨S8x4096, .f32⟩
  | 32 => ⟨S8x4096, .f32⟩
  | 33 => ⟨S_, .f32⟩
  | 34 => ⟨S8x4096, .f32⟩
  | 35 => ⟨S8x4096, .f32⟩
  | 36 => ⟨S_, .f32⟩
  | 37 => ⟨S8x4096, .f32⟩
  | 38 => ⟨S8x4096, .f32⟩
  | 39 => ⟨S8x4096, .f32⟩
  | 40 => ⟨S_, .f32⟩
  | 41 => ⟨S8x4096, .f32⟩
  | 42 => ⟨S8x4096, .f32⟩
  | 43 => ⟨S8x4096, .i32⟩
  | 44 => ⟨S_, .i32⟩
  | 45 => ⟨S_, .i32⟩
  | 46 => ⟨S_, .i32⟩
  | 47 => ⟨S8x4096, .i32⟩
  | 48 => ⟨S8x4096, .i32⟩
  | 49 => ⟨S_, .i32⟩
  | 50 => ⟨S8x4096, .i32⟩
  | 51 => ⟨S8x4096, .i32⟩
  | 52 => ⟨S8x4096, .i32⟩
  | 53 => ⟨S_, .i32⟩
  | 54 => ⟨S_, .i32⟩
  | 55 => ⟨S_, .i32⟩
  | 56 => ⟨S8x4096, .i32⟩
  | 57 => ⟨S8x4096, .i32⟩
  | 58 => ⟨S_, .i32⟩
  | 59 => ⟨S8x4096, .i32⟩
  | 60 => ⟨S8x4096, .i32⟩
  | 61 => ⟨S_, .i32⟩
  | 62 => ⟨S8x4096, .i32⟩
  | 63 => ⟨S8x4096, .i1⟩
  | 64 => ⟨S_, .i32⟩
  | 65 => ⟨S8x4096, .i32⟩
  | 66 => ⟨S8x4096, .i32⟩
  | 67 => ⟨S8x4096, .i32⟩
  | 68 => ⟨S8x4096x1, .i32⟩
  | 69 => ⟨S8x4096, .f32⟩
  | 70 => ⟨S8x4096, .f32⟩
  | 71 => ⟨S_, .i32⟩
  | 72 => ⟨S8x4096, .i32⟩
  | 73 => ⟨S8x4096, .i1⟩
  | 74 => ⟨S_, .i32⟩
  | 75 => ⟨S8x4096, .i32⟩
  | 76 => ⟨S8x4096, .i32⟩
  | 77 => ⟨S8x4096, .i32⟩
  | 78 => ⟨S8x4096x1, .i32⟩
  | 79 => ⟨S8x4096, .f32⟩
  | 80 => ⟨S8x4096, .f32⟩
  | 81 => ⟨S_, .i32⟩
  | 82 => ⟨S8x4096, .i32⟩
  | 83 => ⟨S8x4096, .i1⟩
  | 84 => ⟨S_, .i32⟩
  | 85 => ⟨S8x4096, .i32⟩
  | 86 => ⟨S8x4096, .i32⟩
  | 87 => ⟨S8x4096, .i32⟩
  | 88 => ⟨S8x4096x1, .i32⟩
  | 89 => ⟨S8x4096, .f32⟩
  | 90 => ⟨S8x4096, .f32⟩
  | 91 => ⟨S_, .i32⟩
  | 92 => ⟨S8x4096, .i32⟩
  | 93 => ⟨S8x4096, .i1⟩
  | 94 => ⟨S_, .i32⟩
  | 95 => ⟨S8x4096, .i32⟩
  | 96 => ⟨S8x4096, .i32⟩
  | 97 => ⟨S8x4096, .i32⟩
  | 98 => ⟨S8x4096x1, .i32⟩
  | 99 => ⟨S8x4096, .f32⟩
  | 100 => ⟨S8x4096, .f32⟩
  | 101 => ⟨S_, .i32⟩
  | 102 => ⟨S8x4096, .i32⟩
  | 103 => ⟨S8x4096, .i32⟩
  | 104 => ⟨S_, .i32⟩
  | 105 => ⟨S_, .i32⟩
  | 106 => ⟨S_, .i32⟩
  | 107 => ⟨S8x4096, .i32⟩
  | 108 => ⟨S8x4096, .i32⟩
  | 109 => ⟨S_, .i32⟩
  | 110 => ⟨S8x4096, .i32⟩
  | 111 => ⟨S8x4096, .i32⟩
  | 112 => ⟨S_, .i32⟩
  | 113 => ⟨S8x4096, .i32⟩
  | 114 => ⟨S8x4096, .i32⟩
  | 115 => ⟨S_, .i32⟩
  | 116 => ⟨S_, .i32⟩
  | 117 => ⟨S_, .i32⟩
  | 118 => ⟨S8x4096, .i32⟩
  | 119 => ⟨S8x4096, .i32⟩
  | 120 => ⟨S_, .i32⟩
  | 121 => ⟨S8x4096, .i32⟩
  | 122 => ⟨S8x4096, .i32⟩
  | 123 => ⟨S8, .i32⟩
  | 124 => ⟨S8x1x1, .i32⟩
  | 125 => ⟨S8, .i32⟩
  | 126 => ⟨S1x8x1, .i32⟩
  | 127 => ⟨S8x1x4096, .i32⟩
  | _ => ⟨S8x4096, .f32⟩

abbrev hbmTy0_1 (i : Nat) : BufTy := match i % 128 with
  | 0 => ⟨S8x1x4096, .i32⟩
  | 1 => ⟨S8x1x4096, .f32⟩
  | 2 => ⟨S1x8x4096, .i32⟩
  | 3 => ⟨S1x8x4096, .i32⟩
  | 4 => ⟨S1x8x4096, .f32⟩
  | 5 => ⟨S_, .f32⟩
  | 6 => ⟨S8x1x4096, .f32⟩
  | 7 => ⟨S8x1x4096, .f32⟩
  | 8 => ⟨S_, .f32⟩
  | 9 => ⟨S1x8x4096, .f32⟩
  | 10 => ⟨S1x8x4096, .f32⟩
  | 11 => ⟨S8x8x4096, .f32⟩
  | 12 => ⟨S8x8x4096, .f32⟩
  | 13 => ⟨S8x8x4096, .f32⟩
  | 14 => ⟨S8x8x4096x1, .f32⟩
  | 15 => ⟨S_, .f32⟩
  | 16 => ⟨S8x1x4096, .f32⟩
  | 17 => ⟨S8x1x4096, .f32⟩
  | 18 => ⟨S8x8x4096, .f32⟩
  | 19 => ⟨S8x8x4096, .f32⟩
  | 20 => ⟨S8x8x4096, .f32⟩
  | 21 => ⟨S8x8x4096x1, .f32⟩
  | 22 => ⟨S_, .f32⟩
  | 23 => ⟨S1x8x4096, .f32⟩
  | 24 => ⟨S1x8x4096, .f32⟩
  | 25 => ⟨S8x8x4096, .f32⟩
  | 26 => ⟨S8x8x4096, .f32⟩
  | 27 => ⟨S8x8x4096, .f32⟩
  | 28 => ⟨S8x8x4096x1, .f32⟩
  | 29 => ⟨S8x8x4096, .f32⟩
  | 30 => ⟨S8x8x4096, .f32⟩
  | 31 => ⟨S8x8x4096, .f32⟩
  | 32 => ⟨S8x8x4096x1, .f32⟩
  | 33 => ⟨S_, .i32⟩
  | 34 => ⟨S8x1x4096, .i32⟩
  | 35 => ⟨S8x1x4096, .i1⟩
  | 36 => ⟨S_, .i32⟩
  | 37 => ⟨S8x1x4096, .i32⟩
  | 38 => ⟨S8x1x4096, .i32⟩
  | 39 => ⟨S8x1x4096, .i32⟩
  | 40 => ⟨S_, .i32⟩
  | 41 => ⟨S1x8x4096, .i32⟩
  | 42 => ⟨S1x8x4096, .i1⟩
  | 43 => ⟨S_, .i32⟩
  | 44 => ⟨S1x8x4096, .i32⟩
  | 45 => ⟨S1x8x4096, .i32⟩
  | 46 => ⟨S1x8x4096, .i32⟩
  | 47 => ⟨S_, .i32⟩
  | 48 => ⟨S8x1x1, .i32⟩
  | 49 => ⟨S8x1x1, .i1⟩
  | 50 => ⟨S_, .i32⟩
  | 51 => ⟨S8x1x1, .i32⟩
  | 52 => ⟨S8x1x1, .i32⟩
  | 53 => ⟨S8x1x1, .i32⟩
  | 54 => ⟨S_, .i32⟩
  | 55 => ⟨S1x8x1, .i32⟩
  | 56 => ⟨S1x8x1, .i1⟩
  | 57 => ⟨S_, .i32⟩
  | 58 => ⟨S1x8x1, .i32⟩
  | 59 => ⟨S1x8x1, .i32⟩
  | 60 => ⟨S1x8x1, .i32⟩
  | 61 => ⟨S8x8x4096, .i32⟩
  | 62 => ⟨S8x8x4096, .i32⟩
  | 63 => ⟨S8x8x4096, .i32⟩
  | 64 => ⟨S8x8x4096, .i32⟩
  | 65 => ⟨S8x8x4096x1, .i32⟩
  | 66 => ⟨S8x8x4096x1, .i32⟩
  | 67 => ⟨S8x8x4096x1, .i32⟩
  | 68 => ⟨S8x8x4096x1, .i32⟩
  | 69 => ⟨S8x8x4096x4, .i32⟩
  | 70 => ⟨S8x8x4096x128, .f32⟩
  | 71 => ⟨S_, .i32⟩
  | 72 => ⟨S8x1x4096, .i32⟩
  | 73 => ⟨S8x1x4096, .i1⟩
  | 74 => ⟨S_, .i32⟩
  | 75 => ⟨S8x1x4096, .i32⟩
  | 76 => ⟨S8x1x4096, .i32⟩
  | 77 => ⟨S8x1x4096, .i32⟩
  | 78 => ⟨S_, .i32⟩
  | 79 => ⟨S1x8x4096, .i32⟩
  | 80 => ⟨S1x8x4096, .i1⟩
  | 81 => ⟨S_, .i32⟩
  | 82 => ⟨S1x8x4096, .i32⟩
  | 83 => ⟨S1x8x4096, .i32⟩
  | 84 => ⟨S1x8x4096, .i32⟩
  | 85 => ⟨S_, .i32⟩
  | 86 => ⟨S8x1x1, .i32⟩
  | 87 => ⟨S8x1x1, .i1⟩
  | 88 => ⟨S_, .i32⟩
  | 89 => ⟨S8x1x1, .i32⟩
  | 90 => ⟨S8x1x1, .i32⟩
  | 91 => ⟨S8x1x1, .i32⟩
  | 92 => ⟨S_, .i32⟩
  | 93 => ⟨S1x8x1, .i32⟩
  | 94 => ⟨S1x8x1, .i1⟩
  | 95 => ⟨S_, .i32⟩
  | 96 => ⟨S1x8x1, .i32⟩
  | 97 => ⟨S1x8x1, .i32⟩
  | 98 => ⟨S1x8x1, .i32⟩
  | 99 => ⟨S8x8x4096, .i32⟩
  | 100 => ⟨S8x8x4096, .i32⟩
  | 101 => ⟨S8x8x4096, .i32⟩
  | 102 => ⟨S8x8x4096, .i32⟩
  | 103 => ⟨S8x8x4096x1, .i32⟩
  | 104 => ⟨S8x8x4096x1, .i32⟩
  | 105 => ⟨S8x8x4096x1, .i32⟩
  | 106 => ⟨S8x8x4096x1, .i32⟩
  | 107 => ⟨S8x8x4096x4, .i32⟩
  | 108 => ⟨S8x8x4096x128, .f32⟩
  | 109 => ⟨S_, .i32⟩
  | 110 => ⟨S8x1x4096, .i32⟩
  | 111 => ⟨S8x1x4096, .i1⟩
  | 112 => ⟨S_, .i32⟩
  | 113 => ⟨S8x1x4096, .i32⟩
  | 114 => ⟨S8x1x4096, .i32⟩
  | 115 => ⟨S8x1x4096, .i32⟩
  | 116 => ⟨S_, .i32⟩
  | 117 => ⟨S1x8x4096, .i32⟩
  | 118 => ⟨S1x8x4096, .i1⟩
  | 119 => ⟨S_, .i32⟩
  | 120 => ⟨S1x8x4096, .i32⟩
  | 121 => ⟨S1x8x4096, .i32⟩
  | 122 => ⟨S1x8x4096, .i32⟩
  | 123 => ⟨S_, .i32⟩
  | 124 => ⟨S8x1x1, .i32⟩
  | 125 => ⟨S8x1x1, .i1⟩
  | 126 => ⟨S_, .i32⟩
  | 127 => ⟨S8x1x1, .i32⟩
  | _ => ⟨S8x4096, .f32⟩

abbrev hbmTy0_2 (i : Nat) : BufTy := match i % 128 with
  | 0 => ⟨S8x1x1, .i32⟩
  | 1 => ⟨S8x1x1, .i32⟩
  | 2 => ⟨S_, .i32⟩
  | 3 => ⟨S1x8x1, .i32⟩
  | 4 => ⟨S1x8x1, .i1⟩
  | 5 => ⟨S_, .i32⟩
  | 6 => ⟨S1x8x1, .i32⟩
  | 7 => ⟨S1x8x1, .i32⟩
  | 8 => ⟨S1x8x1, .i32⟩
  | 9 => ⟨S8x8x4096, .i32⟩
  | 10 => ⟨S8x8x4096, .i32⟩
  | 11 => ⟨S8x8x4096, .i32⟩
  | 12 => ⟨S8x8x4096, .i32⟩
  | 13 => ⟨S8x8x4096x1, .i32⟩
  | 14 => ⟨S8x8x4096x1, .i32⟩
  | 15 => ⟨S8x8x4096x1, .i32⟩
  | 16 => ⟨S8x8x4096x1, .i32⟩
  | 17 => ⟨S8x8x4096x4, .i32⟩
  | 18 => ⟨S8x8x4096x128, .f32⟩
  | 19 => ⟨S_, .i32⟩
  | 20 => ⟨S8x1x4096, .i32⟩
  | 21 => ⟨S8x1x4096, .i1⟩
  | 22 => ⟨S_, .i32⟩
  | 23 => ⟨S8x1x4096, .i32⟩
  | 24 => ⟨S8x1x4096, .i32⟩
  | 25 => ⟨S8x1x4096, .i32⟩
  | 26 => ⟨S_, .i32⟩
  | 27 => ⟨S1x8x4096, .i32⟩
  | 28 => ⟨S1x8x4096, .i1⟩
  | 29 => ⟨S_, .i32⟩
  | 30 => ⟨S1x8x4096, .i32⟩
  | 31 => ⟨S1x8x4096, .i32⟩
  | 32 => ⟨S1x8x4096, .i32⟩
  | 33 => ⟨S_, .i32⟩
  | 34 => ⟨S8x1x1, .i32⟩
  | 35 => ⟨S8x1x1, .i1⟩
  | 36 => ⟨S_, .i32⟩
  | 37 => ⟨S8x1x1, .i32⟩
  | 38 => ⟨S8x1x1, .i32⟩
  | 39 => ⟨S8x1x1, .i32⟩
  | 40 => ⟨S_, .i32⟩
  | 41 => ⟨S1x8x1, .i32⟩
  | 42 => ⟨S1x8x1, .i1⟩
  | 43 => ⟨S_, .i32⟩
  | 44 => ⟨S1x8x1, .i32⟩
  | 45 => ⟨S1x8x1, .i32⟩
  | 46 => ⟨S1x8x1, .i32⟩
  | 47 => ⟨S8x8x4096, .i32⟩
  | 48 => ⟨S8x8x4096, .i32⟩
  | 49 => ⟨S8x8x4096, .i32⟩
  | 50 => ⟨S8x8x4096, .i32⟩
  | 51 => ⟨S8x8x4096x1, .i32⟩
  | 52 => ⟨S8x8x4096x1, .i32⟩
  | 53 => ⟨S8x8x4096x1, .i32⟩
  | 54 => ⟨S8x8x4096x1, .i32⟩
  | 55 => ⟨S8x8x4096x4, .i32⟩
  | 56 => ⟨S8x8x4096x128, .f32⟩
  | 57 => ⟨S8x8x4096x128, .f32⟩
  | 58 => ⟨S8x8x4096x128, .f32⟩
  | 59 => ⟨S8x8x4096x128, .f32⟩
  | 60 => ⟨S8x8x4096x128, .f32⟩
  | 61 => ⟨S8x8x4096x128, .f32⟩
  | 62 => ⟨S8x8x4096x128, .f32⟩
  | 63 => ⟨S8x8x4096x128, .f32⟩
  | 64 => ⟨S8x8x4096x128, .f32⟩
  | 65 => ⟨S8x8x4096x128, .f32⟩
  | 66 => ⟨S8x8x4096x128, .f32⟩
  | 67 => ⟨S8x8x4096x128, .f32⟩
  | 68 => ⟨S_, .f32⟩
  | 69 => ⟨S4096x128, .f32⟩
  | 70 => ⟨S128x4096, .f32⟩
  | _ => ⟨S8x4096, .f32⟩

abbrev hbmTy (i : Nat) : BufTy := match i / 128 with
  | 0 => hbmTy0_0 i
  | 1 => hbmTy0_1 i
  | 2 => hbmTy0_2 i
  | _ => ⟨S8x4096, .f32⟩

abbrev bufTy : (tb : Table) → Fin (tcTables nBuf tb) → BufTy
  | .hbm, ⟨i, _⟩ => hbmTy i
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c : Ref sig .tc := ⟨.hbm, 44, rfl⟩
abbrev main_c_9 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v29 : Ref sig .tc := ⟨.hbm, 51, rfl⟩
abbrev main_v30 : Ref sig .tc := ⟨.hbm, 52, rfl⟩
abbrev main_c_10 : Ref sig .tc := ⟨.hbm, 53, rfl⟩
abbrev main_c_11 : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_v31 : Ref sig .tc := ⟨.hbm, 60, rfl⟩
abbrev main_c_12 : Ref sig .tc := ⟨.hbm, 61, rfl⟩
abbrev main_v32 : Ref sig .tc := ⟨.hbm, 62, rfl⟩
abbrev main_v33 : Ref sig .tc := ⟨.hbm, 63, rfl⟩
abbrev main_c_13 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_14 : Ref sig .tc := ⟨.hbm, 71, rfl⟩
abbrev main_v40 : Ref sig .tc := ⟨.hbm, 72, rfl⟩
abbrev main_v41 : Ref sig .tc := ⟨.hbm, 73, rfl⟩
abbrev main_c_15 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_16 : Ref sig .tc := ⟨.hbm, 81, rfl⟩
abbrev main_v48 : Ref sig .tc := ⟨.hbm, 82, rfl⟩
abbrev main_v49 : Ref sig .tc := ⟨.hbm, 83, rfl⟩
abbrev main_c_17 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_18 : Ref sig .tc := ⟨.hbm, 91, rfl⟩
abbrev main_v56 : Ref sig .tc := ⟨.hbm, 92, rfl⟩
abbrev main_v57 : Ref sig .tc := ⟨.hbm, 93, rfl⟩
abbrev main_c_19 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_c_20 : Ref sig .tc := ⟨.hbm, 101, rfl⟩
abbrev main_v64 : Ref sig .tc := ⟨.hbm, 102, rfl⟩
abbrev main_v65 : Ref sig .tc := ⟨.hbm, 103, rfl⟩
abbrev main_c_21 : Ref sig .tc := ⟨.hbm, 104, rfl⟩
abbrev main_c_22 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_v66 : Ref sig .tc := ⟨.hbm, 111, rfl⟩
abbrev main_c_23 : Ref sig .tc := ⟨.hbm, 112, rfl⟩
abbrev main_v67 : Ref sig .tc := ⟨.hbm, 113, rfl⟩
abbrev main_v68 : Ref sig .tc := ⟨.hbm, 114, rfl⟩
abbrev main_c_24 : Ref sig .tc := ⟨.hbm, 115, rfl⟩
abbrev main_c_25 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_26 : Ref sig .tc := ⟨.hbm, 133, rfl⟩
abbrev main_v80 : Ref sig .tc := ⟨.hbm, 134, rfl⟩
abbrev main_v81 : Ref sig .tc := ⟨.hbm, 135, rfl⟩
abbrev main_cst_27 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_cst_28 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_cst_29 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_c_30 : Ref sig .tc := ⟨.hbm, 161, rfl⟩
abbrev main_v104 : Ref sig .tc := ⟨.hbm, 162, rfl⟩
abbrev main_v105 : Ref sig .tc := ⟨.hbm, 163, rfl⟩
abbrev main_c_31 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_c_32 : Ref sig .tc := ⟨.hbm, 168, rfl⟩
abbrev main_v109 : Ref sig .tc := ⟨.hbm, 169, rfl⟩
abbrev main_v110 : Ref sig .tc := ⟨.hbm, 170, rfl⟩
abbrev main_c_33 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_c_34 : Ref sig .tc := ⟨.hbm, 175, rfl⟩
abbrev main_v114 : Ref sig .tc := ⟨.hbm, 176, rfl⟩
abbrev main_v115 : Ref sig .tc := ⟨.hbm, 177, rfl⟩
abbrev main_c_35 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_c_36 : Ref sig .tc := ⟨.hbm, 182, rfl⟩
abbrev main_v119 : Ref sig .tc := ⟨.hbm, 183, rfl⟩
abbrev main_v120 : Ref sig .tc := ⟨.hbm, 184, rfl⟩
abbrev main_c_37 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_c_38 : Ref sig .tc := ⟨.hbm, 199, rfl⟩
abbrev main_v134 : Ref sig .tc := ⟨.hbm, 200, rfl⟩
abbrev main_v135 : Ref sig .tc := ⟨.hbm, 201, rfl⟩
abbrev main_c_39 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_c_40 : Ref sig .tc := ⟨.hbm, 206, rfl⟩
abbrev main_v139 : Ref sig .tc := ⟨.hbm, 207, rfl⟩
abbrev main_v140 : Ref sig .tc := ⟨.hbm, 208, rfl⟩
abbrev main_c_41 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_c_42 : Ref sig .tc := ⟨.hbm, 213, rfl⟩
abbrev main_v144 : Ref sig .tc := ⟨.hbm, 214, rfl⟩
abbrev main_v145 : Ref sig .tc := ⟨.hbm, 215, rfl⟩
abbrev main_c_43 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_c_44 : Ref sig .tc := ⟨.hbm, 220, rfl⟩
abbrev main_v149 : Ref sig .tc := ⟨.hbm, 221, rfl⟩
abbrev main_v150 : Ref sig .tc := ⟨.hbm, 222, rfl⟩
abbrev main_c_45 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_c_46 : Ref sig .tc := ⟨.hbm, 237, rfl⟩
abbrev main_v164 : Ref sig .tc := ⟨.hbm, 238, rfl⟩
abbrev main_v165 : Ref sig .tc := ⟨.hbm, 239, rfl⟩
abbrev main_c_47 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_c_48 : Ref sig .tc := ⟨.hbm, 244, rfl⟩
abbrev main_v169 : Ref sig .tc := ⟨.hbm, 245, rfl⟩
abbrev main_v170 : Ref sig .tc := ⟨.hbm, 246, rfl⟩
abbrev main_c_49 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_c_50 : Ref sig .tc := ⟨.hbm, 251, rfl⟩
abbrev main_v174 : Ref sig .tc := ⟨.hbm, 252, rfl⟩
abbrev main_v175 : Ref sig .tc := ⟨.hbm, 253, rfl⟩
abbrev main_c_51 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_c_52 : Ref sig .tc := ⟨.hbm, 258, rfl⟩
abbrev main_v179 : Ref sig .tc := ⟨.hbm, 259, rfl⟩
abbrev main_v180 : Ref sig .tc := ⟨.hbm, 260, rfl⟩
abbrev main_c_53 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_c_54 : Ref sig .tc := ⟨.hbm, 275, rfl⟩
abbrev main_v194 : Ref sig .tc := ⟨.hbm, 276, rfl⟩
abbrev main_v195 : Ref sig .tc := ⟨.hbm, 277, rfl⟩
abbrev main_c_55 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_c_56 : Ref sig .tc := ⟨.hbm, 282, rfl⟩
abbrev main_v199 : Ref sig .tc := ⟨.hbm, 283, rfl⟩
abbrev main_v200 : Ref sig .tc := ⟨.hbm, 284, rfl⟩
abbrev main_c_57 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_c_58 : Ref sig .tc := ⟨.hbm, 289, rfl⟩
abbrev main_v204 : Ref sig .tc := ⟨.hbm, 290, rfl⟩
abbrev main_v205 : Ref sig .tc := ⟨.hbm, 291, rfl⟩
abbrev main_c_59 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_c_60 : Ref sig .tc := ⟨.hbm, 296, rfl⟩
abbrev main_v209 : Ref sig .tc := ⟨.hbm, 297, rfl⟩
abbrev main_v210 : Ref sig .tc := ⟨.hbm, 298, rfl⟩
abbrev main_c_61 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_cst_62 : Ref sig .tc := ⟨.hbm, 324, rfl⟩
abbrev main_v235 : Ref sig .tc := ⟨.hbm, 325, rfl⟩
abbrev main_v236 : Ref sig .tc := ⟨.hbm, 326, rfl⟩

abbrev nD : Nat := 1
abbrev τ : Topo := Topo.v7x

variable {F : FTy → Type} [FloatOps F]
-- ==== Proof.Hold.lean ====
/-
  Buffers held by their values, and the vector subcore's accesses to them, one rule an access: a load of a
  unit-stride rectangle, an unmasked store there, an indexed load and an indexed store of consecutive words.
-/
module

public import Idealize.ShloMosaic.Lib.SparseCore.Ops
public import Idealize.ShloMosaic.Lib.VecWindow
public import Idealize.ShloMosaic.Lib.Tactic

@[expose] public section

noncomputable section

namespace Cert.Proof.Hold

open Idealize.ShloMosaic
open Idealize.SL
open Idealize.SL.BI (sProp)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V) (E : Set Name)
variable {cs : CoreSpace} {s t : Shape} {e : EltTy} {α : Type} {Q : α → sProp (MT nD τ sig Ix (Elt F) Name U Lvl)}

local notation "𝕄" => MT nD τ sig Ix (Elt F) Name U Lvl

/-- The elements of memref `m`, as thread `c` addresses it, held at share `q` with the values `x`. -/
def hold {sp : Space} (m : Memref sig c.2.kind sp s e) (q : PosShare TreeShare) (x : s.Idx → Elt F e) : sProp 𝕄 :=
  m.view.loc c ↦[m.view.set]{q} m.view.rep x

/-- Contents that read `x` are held with the values `x`. -/
theorem hold_of_read {sp : Space} (m : Memref sig c.2.kind sp s e) (q : PosShare TreeShare) (g : Buf (Elt F) (m.view.loc c)) (x : s.Idx → Elt F e)
    (h : m.view.read (Elt F) g = x) : (m.view.loc c ↦[m.view.set]{q} g : sProp 𝕄) ⊢ hold c m q x :=
  pointsTo_rep_of_read c m g q x h

/-- A load of a unit-stride rectangle continues at the values there. -/
theorem hold_load {m : Memref sig c.2.kind cs s e} {r : Rect s} {hl : m.view.LoadsAt r.toLoadRect}
    {k : (r.toLoadRect.shape.Idx → Elt F e) → Prog (TpuEff nD τ sig (Elt F) Λ c.2) α} {q : PosShare TreeShare} (x : s.Idx → Elt F e) :
    hold c m q x ⊢ iprop((hold c m q x -∗ wp frame (wpE defs 𝒱 c bd) E (k fun y => x (r.emb y)) Q)
      -∗ wp (M := 𝕄) frame (wpE defs 𝒱 c bd) E (.op (.load m r.toLoadRect hl) k) Q) := by
  have h : (m.view.loc c ↦[m.view.set]{q} m.view.rep x)
      ⊢ iprop(((m.view.loc c ↦[m.view.set]{q} m.view.rep x) -∗ wp frame (wpE defs 𝒱 c bd) E (k (m.view.readAt (Elt F) r.toLoadRect (m.view.rep x))) Q)
        -∗ wp (M := 𝕄) frame (wpE defs 𝒱 c bd) E (.op (.load m r.toLoadRect hl) k) Q) :=
    Idealize.ShloMosaic.wp_load 𝒱 c bd E (by
      intro i hi
      obtain ⟨y, -, rfl⟩ := Finset.mem_map.mp hi
      exact Finset.mem_map.mpr ⟨y, Finset.mem_univ _, rfl⟩)
  rw [View.readAt_rep] at h
  exact h

/-- An unmasked store of a rectangle leaves the payload there and the other values as they were. -/
theorem hold_store {m : Memref sig c.2.kind cs s e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ c.2) α} (x y : s.Idx → Elt F e)
    (hy : ∀ i, y (r.emb i) = w i) (hn : ∀ j, (∀ i, r.emb i ≠ j) → y j = x j) :
    hold c m fullShare x ⊢ iprop((hold c m fullShare y -∗ wp frame (wpE defs 𝒱 c bd) E (k ⟨⟩) Q)
      -∗ wp (M := 𝕄) frame (wpE defs 𝒱 c bd) E (.op (.store m r w Finset.univ hx hm) k) Q) := by
  have h : ((m.access r).loc c ↦[m.view.set]{fullShare} m.view.rep x)
      ⊢ iprop((((m.access r).loc c ↦[m.view.set]{fullShare} ((m.access r).write (Elt F) (m.view.rep x) w Finset.univ)) -∗ wp frame (wpE defs 𝒱 c bd) E (k ⟨⟩) Q)
        -∗ wp (M := 𝕄) frame (wpE defs 𝒱 c bd) E (.op (.store m r w Finset.univ hx hm) k) Q) :=
    Idealize.ShloMosaic.wp_store 𝒱 c bd E (by
      intro i hi
      rw [View.setOn_univ, View.set_slice] at hi
      obtain ⟨y, -, rfl⟩ := Finset.mem_map.mp hi
      exact Finset.mem_map.mpr ⟨y, Finset.mem_univ _, rfl⟩)
  unfold hold
  iintro H Hk
  iapply h $$ H
  iintro H
  iapply Hk
  iapply (pointsTo_rep_of_read c m _ fullShare y ?_) $$ H
  show m.view.read (Elt F) (m.view.writes (Elt F) (m.view.rep x) [⟨r, w⟩]) = y
  funext j
  by_cases hj : ∃ i, r.emb i = j
  · obtain ⟨i, rfl⟩ := hj
    rw [View.read_writes_cons_emb, hy]
  · have hj' : j ∉ r.set := fun h => hj (by
      obtain ⟨i, hi⟩ := r.toLoadRect.exists_idx_of_mem h
      exact ⟨i, hi⟩)
    rw [View.read_writes_apply_of_forall_not_mem _ _ _ _ (by simpa using hj'), View.read_rep, hn j fun i hi => hj ⟨i, hi⟩]

/-- An indexed load continues at the values its index vectors name. -/
theorem hold_loadIdx {m : Memref sig c.2.kind .vmem s e} {idxs : Fin s.rank → IVec t 32} {h : ∀ a x, (idxs a x).toNat < s.size a} {hl : m.view.Loads}
    {k : Vec F t e → Prog (TpuEff nD τ sig (Elt F) Λ c.2) α} {q : PosShare TreeShare} (x : s.Idx → Elt F e) :
    hold c m q x ⊢ iprop((hold c m q x -∗ wp frame (wpE defs 𝒱 c bd) E (k (loadIdx x idxs h)) Q)
      -∗ wp (M := 𝕄) frame (wpE defs 𝒱 c bd) E (SparseCore.vectorLoadIdx m idxs h hl >>= k) Q) := by
  rw [SparseCore.vectorLoadIdx_bind]
  have h := hold_load (defs := defs) 𝒱 c bd E (Q := Q) (m := m) (r := Rect.whole s) (hl := View.loadsAt_whole hl) (k := fun f => k (loadIdx f idxs h)) (q := q) x
  simp only [Rect.emb_whole_apply] at h
  exact h

/-- An indexed store leaves what the scatter leaves. -/
theorem hold_storeIdx {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ c.2) α} (x : s.Idx → Elt F e) :
    hold c m fullShare x ⊢ iprop((hold c m fullShare (storeIdx x idxs v mask add h) -∗ wp frame (wpE defs 𝒱 c bd) E (k ⟨⟩) Q)
      -∗ wp (M := 𝕄) frame (wpE defs 𝒱 c bd) E (SparseCore.vectorStoreIdx m idxs v mask add h hs >>= k) Q) := by
  rw [SparseCore.vectorStoreIdx_bind]
  have h1 := hold_load (defs := defs) 𝒱 c bd E (Q := Q) (m := m) (r := Rect.whole s) (hl := View.loadsAt_rect hs.loads)
    (k := fun f' => .op (.store m (.whole s) (storeIdx f' idxs v mask add h) Finset.univ hs (.inl rfl)) k) (q := fullShare) x
  simp only [Rect.emb_whole_apply] at h1
  iintro H Hk
  iapply h1 $$ H
  iintro H
  iapply (hold_store (defs := defs) 𝒱 c bd E (Q := Q) (m := m) (r := .whole s) (hx := hs) (hm := .inl rfl) (k := k) x (storeIdx x idxs v mask add h)
    (fun i => by rw [Rect.emb_whole_apply]) (fun j hj => absurd (Rect.emb_whole_apply _ j) (hj j))) $$ H
  iexact Hk

/-- An indexed store at the end of a program. -/
theorem hold_storeIdx_end {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {Q : PUnit → sProp (MT nD τ sig Ix (Elt F) Name U Lvl)} (x : s.Idx → Elt F e) :
    hold c m fullShare x ⊢ iprop((hold c m fullShare (storeIdx x idxs v mask add h) -∗ Q ⟨⟩)
      -∗ wp (M := 𝕄) frame (wpE defs 𝒱 c bd) E (SparseCore.vectorStoreIdx m idxs v mask add h hs) Q) := by
  rw [← bind_pure (SparseCore.vectorStoreIdx m idxs v mask add h hs)]
  iintro H Hk
  iapply (hold_storeIdx (defs := defs) 𝒱 c bd E x) $$ H
  iintro H
  iapply (le_wp_ret frame (wpE defs 𝒱 c bd) E PUnit.unit)
  iapply Hk
  iexact H

/-! ## An unmasked indexed store, read at an index -/

section Scatter

variable {d : Fin 1 → Nat} (idxs : Fin s.rank → IVec ⟨1, d⟩ 32) (v : Vec F ⟨1, d⟩ e) (h : ∀ a x, (idxs a x).toNat < s.size a)

/-- One lane's store. -/
private def lane (g : s.Idx → Elt F e) (k : Fin (d 0)) : s.Idx → Elt F e :=
  fun j => if (∀ a, (j a).val = (idxs a (Shape.ofLane k)).toNat) then v (Shape.ofLane k) else g j

private theorem lanes_of_none (l : List (Fin (d 0))) (g : s.Idx → Elt F e) (j : s.Idx)
    (hn : ∀ k ∈ l, ¬ ∀ a, (j a).val = (idxs a (Shape.ofLane k)).toNat) : l.foldl (lane idxs v) g j = g j := by
  induction l generalizing g with
  | nil => rfl
  | cons k l ih =>
    rw [List.foldl_cons, ih _ fun k' hk' => hn k' (List.mem_cons_of_mem _ hk')]
    exact if_neg (hn k (List.mem_cons_self ..))

private theorem lanes_of_one (l : List (Fin (d 0))) (g : s.Idx → Elt F e) (j : s.Idx) (k : Fin (d 0)) (hk : k ∈ l)
    (hj : ∀ a, (j a).val = (idxs a (Shape.ofLane k)).toNat)
    (hu : ∀ k', (∀ a, (j a).val = (idxs a (Shape.ofLane k')).toNat) → k' = k) : l.foldl (lane idxs v) g j = v (Shape.ofLane k) := by
  induction l generalizing g with
  | nil => cases hk
  | cons k' l ih =>
    rw [List.foldl_cons]
    by_cases hl : k ∈ l
    · exact ih _ hl
    · obtain rfl : k = k' := by
        rcases List.mem_cons.mp hk with h | h
        · exact h
        · exact absurd h hl
      rw [lanes_of_none idxs v l _ j fun k' hk' h => hl (hu k' h ▸ hk')]
      exact if_pos hj

private theorem storeIdx_eq (f : Vec F s e) : storeIdx f idxs v (fun _ => 1#1) false h = (List.finRange (d 0)).foldl (lane idxs v) f := by
  unfold storeIdx
  refine congrArg (fun g => List.foldl g f (List.finRange (d 0))) ?_
  funext g k
  have h1 : (1#1 : BitVec 1) = 1 := rfl
  simp only [h1, if_true, Bool.false_eq_true, if_false]
  rfl

/-- An index that no lane names keeps its value. -/
theorem storeIdx_of_none (f : Vec F s e) (j : s.Idx) (hn : ∀ k : Fin (d 0), ¬ ∀ a, (j a).val = (idxs a (Shape.ofLane k)).toNat) :
    storeIdx f idxs v (fun _ => 1#1) false h j = f j := by
  rw [storeIdx_eq]; exact lanes_of_none idxs v _ f j fun k _ => hn k

/-- An index that one lane names, and no other, takes that lane's word. -/
theorem storeIdx_of_one (f : Vec F s e) (j : s.Idx) (k : Fin (d 0)) (hj : ∀ a, (j a).val = (idxs a (Shape.ofLane k)).toNat)
    (hu : ∀ k', (∀ a, (j a).val = (idxs a (Shape.ofLane k')).toNat) → k' = k) :
    storeIdx f idxs v (fun _ => 1#1) false h j = v (Shape.ofLane k) := by
  rw [storeIdx_eq]; exact lanes_of_one idxs v _ f j k (List.mem_finRange k) hj hu

end Scatter

/-! ## Programs in a row -/

section Rows

variable {p : Proc τ}

/-- The programs `f 0`, …, `f (n - 1)` in turn. -/
def rows {N : ℕ} (f : Fin N → Prog (TpuEff nD τ sig (Elt F) Λ p) PUnit) : (n : ℕ) → n ≤ N → Prog (TpuEff nD τ sig (Elt F) Λ p) PUnit
  | 0, _ => pure ⟨⟩
  | n + 1, h => do
    rows f n (Nat.le_of_succ_le h)
    f ⟨n, h⟩

end Rows

omit [FloatOps F] in
/-- Programs in a row: what each carries from `I n` to `I (n + 1)`, the row carries from `I 0` to `I n`. -/
theorem wp_rows {N : ℕ} (f : Fin N → Prog (TpuEff nD τ sig (Elt F) Λ c.2) PUnit) (I : ℕ → sProp 𝕄)
    (hf : ∀ n : Fin N, I n ⊢ wp (M := 𝕄) frame (wpE defs 𝒱 c bd) E (f n) fun _ => I (n + 1)) (n : ℕ) (hn : n ≤ N) :
    I 0 ⊢ wp (M := 𝕄) frame (wpE defs 𝒱 c bd) E (rows (F := F) f n hn) fun _ => I n := by
  induction n with
  | zero => exact le_wp_ret frame (wpE defs 𝒱 c bd) E (PUnit.unit) (fun _ => I 0)
  | succ n ih =>
    unfold rows
    rw [wp_bind]
    exact (ih _).trans (wp_mono frame _ E fun _ => hf ⟨n, hn⟩)

/-- The same at the head of a longer program. -/
theorem wp_rows_bind {N : ℕ} {α : Type} {Q : α → sProp 𝕄} {k : PUnit → Prog (TpuEff nD τ sig (Elt F) Λ c.2) α} (f : Fin N → Prog (TpuEff nD τ sig (Elt F) Λ c.2) PUnit) (I : ℕ → sProp 𝕄)
    (hf : ∀ n : Fin N, I n ⊢ wp (M := 𝕄) frame (wpE defs 𝒱 c bd) E (f n) fun _ => I (n + 1)) (n : ℕ) (hn : n ≤ N) :
    I 0 ⊢ iprop((I n -∗ wp (M := 𝕄) frame (wpE defs 𝒱 c bd) E (k ⟨⟩) Q) -∗ wp (M := 𝕄) frame (wpE defs 𝒱 c bd) E (rows (F := F) f n hn >>= k) Q) := by
  rw [wp_bind]
  iintro HI HK
  iapply (wp_wand frame (wpE defs 𝒱 c bd) E (p := rows (F := F) f n hn) (Q := fun _ => I n)) $$ [HI]
  · iapply (wp_rows 𝒱 c bd E f I hf n hn) $$ HI
  iintro %_ HI
  iapply HK $$ HI

end Cert.Proof.Hold

end
-- ==== Proof.Spec.lean ====
/-
  What the kernel computes, column by column: the bin of a word and its offset within the bin, the 256 row numbers and
  weights of one column, and the column's weighted sum of rows.
-/
module

public import Idealize.ShloMosaic.Lib.Pointwise.Index
public import Idealize.ShloMosaic.PureOps.Vector
public import Idealize.ShloMosaic.PureOps.ShapeOps

@[expose] public section

noncomputable section

namespace Cert.Proof.Spec

open Idealize.ShloMosaic

variable {F : FTy → Type} [FloatOps F]

/-- The bin of every word of a vector: the word's place under the Laplace distribution function, times 64, rounded towards
zero and held between 0 and 63. -/
def binVec {s : Shape} (x : FVec F s .f32) : IVec s 32 :=
  minsi (broadcast s 63#32) (maxsi (broadcast s 0#32) (fptosi 32 (mulf
    (select (cmpf .ogt x (broadcast s (Scalar.ofBits .f32 0x00000000#32)))
      (subf (broadcast s (Scalar.ofBits .f32 0x3F800000#32)) (mulf (broadcast s (Scalar.ofBits .f32 0x3F000000#32))
        (exp (subf (broadcast s (Scalar.ofBits .f32 0x00000000#32)) (absf x)))))
      (mulf (broadcast s (Scalar.ofBits .f32 0x3F000000#32)) (exp (subf (broadcast s (Scalar.ofBits .f32 0x00000000#32)) (absf x)))))
    (broadcast s (Scalar.ofBits .f32 0x42800000#32)))))

/-- The bin of one word. -/
def bin (v : F .f32) : BitVec 32 := binVec (s := ⟨0, ![]⟩) (fun _ => v) (fun a => a.elim0)

/-- A bin of a vector is the bin of its word. -/
theorem binVec_apply {s : Shape} (x : FVec F s .f32) (j : s.Idx) : binVec x j = bin (x j) := rfl

/-- A word held between 0 and 63 is below 64. -/
theorem clip_lt (w : BitVec 32) : (IntOp.minsi 63#32 (IntOp.maxsi 0#32 w)).toNat < 64 := by
  unfold IntOp.minsi IntOp.maxsi
  split <;> split <;> simp_all [BitVec.sle, BitVec.slt] <;> rename_i h1 h2 <;> simp [BitVec.toInt_eq_toNat_cond] at h1 h2 ⊢ <;> omega

/-- Every bin is below 64. -/
theorem bin_lt (v : F .f32) : (bin v).toNat < 64 := clip_lt _

/-- A word's offset within its bin: its distance from the bin's left border, in units of the bin's length. -/
def dif (B : (⟨1, ![72]⟩ : Shape).Idx → F .f32) (L : (⟨1, ![64]⟩ : Shape).Idx → F .f32) (v : F .f32) : F .f32 :=
  FloatOps.mulf (FloatOps.subf v (B (ix1 ⟨(bin v).toNat, (bin_lt v).trans (by decide)⟩))) (L (ix1 ⟨(bin v).toNat, bin_lt v⟩))

/-- The pair of coordinates that place `p` of a column stands for. -/
def pair (p : ℕ) : ℕ := p / 64 * 16 + p % 16

/-- The first coordinate of the pair. -/
def pX (p : ℕ) : Fin 8 := ⟨pair p / 8 % 8, Nat.mod_lt _ (by decide)⟩

/-- The second coordinate of the pair. -/
def pZ (p : ℕ) : Fin 8 := ⟨pair p % 8, Nat.mod_lt _ (by decide)⟩

/-- Which of the four corners of its cell place `p` stands for. -/
def corner (p : ℕ) : Fin 4 := ⟨p / 16 % 4, Nat.mod_lt _ (by decide)⟩

/-- The row of the table that place `p` of a column reads. -/
def num (bx bz : Fin 8 → BitVec 32) (p : ℕ) : BitVec 32 :=
  let r := BitVec.ofNat 32 (pair p) * 4225#32 + bx (pX p) * 65#32 + bz (pZ p)
  (![r, r + 1#32, r + 65#32, r + 65#32 + 1#32] : Fin 4 → BitVec 32) (corner p)

/-- The weight of place `p` of a column. -/
def wt (dx dz : Fin 8 → F .f32) (p : ℕ) : F .f32 :=
  let one : F .f32 := Scalar.ofBits .f32 0x3F800000#32
  (![FloatOps.mulf (FloatOps.subf one (dx (pX p))) (FloatOps.subf one (dz (pZ p))),
    FloatOps.mulf (FloatOps.subf one (dx (pX p))) (dz (pZ p)),
    FloatOps.mulf (dx (pX p)) (FloatOps.subf one (dz (pZ p))),
    FloatOps.mulf (dx (pX p)) (dz (pZ p))] : Fin 4 → F .f32) (corner p)

/-- The row numbers of a column, as naturals. -/
theorem num_toNat (bx bz : Fin 8 → BitVec 32) (hx : ∀ i, (bx i).toNat < 64) (hz : ∀ i, (bz i).toNat < 64) (p : ℕ) (hp : p < 256) :
    (num bx bz p).toNat = pair p * 4225 + (bx (pX p)).toNat * 65 + (bz (pZ p)).toNat + (![0, 1, 65, 66] : Fin 4 → ℕ) (corner p) := by
  have h1 := hx (pX p)
  have h2 := hz (pZ p)
  have h3 : pair p < 64 := by unfold pair; omega
  unfold num
  generalize corner p = k
  fin_cases k <;> simp [BitVec.toNat_add, BitVec.toNat_mul, BitVec.toNat_ofNat] <;> omega

/-- Every row number is a row of the table. -/
theorem num_lt (bx bz : Fin 8 → BitVec 32) (hx : ∀ i, (bx i).toNat < 64) (hz : ∀ i, (bz i).toNat < 64) (p : ℕ) (hp : p < 256) :
    (num bx bz p).toNat < 270400 := by
  rw [num_toNat bx bz hx hz p hp]
  have h1 := hx (pX p)
  have h2 := hz (pZ p)
  have h3 : pair p < 64 := by unfold pair; omega
  have h4 : (![0, 1, 65, 66] : Fin 4 → ℕ) (corner p) ≤ 66 := by
    generalize corner p = k
    fin_cases k <;> simp
  omega

/-- A word of the table's row that `w` names. -/
def rowAt (T : (⟨2, ![270400, 128]⟩ : Shape).Idx → F .f32) (w : BitVec 32) (o : Fin 128) : F .f32 :=
  T (ix2 ⟨w.toNat % 270400, Nat.mod_lt _ (by decide)⟩ o)

/-- The first `n` rows of a column, each times its weight, added up from zero. -/
def acc (T : (⟨2, ![270400, 128]⟩ : Shape).Idx → F .f32) (N : ℕ → BitVec 32) (W : ℕ → F .f32) (o : Fin 128) : ℕ → F .f32
  | 0 => Scalar.ofBits .f32 0x00000000#32
  | n + 1 => FloatOps.addf (acc T N W o n) (FloatOps.mulf (W n) (rowAt T (N n) o))

/-- One word of one column's result. -/
def colOut (T : (⟨2, ![270400, 128]⟩ : Shape).Idx → F .f32) (B : (⟨1, ![72]⟩ : Shape).Idx → F .f32)
    (L : (⟨1, ![64]⟩ : Shape).Idx → F .f32) (x z : Fin 8 → F .f32) (o : Fin 128) : F .f32 :=
  acc T (num (fun r => bin (x r)) (fun r => bin (z r))) (wt (fun r => dif B L (x r)) (fun r => dif B L (z r))) o 256

/-- The result of every column. -/
def out (T : (⟨2, ![270400, 128]⟩ : Shape).Idx → F .f32) (B : (⟨1, ![72]⟩ : Shape).Idx → F .f32)
    (L : (⟨1, ![64]⟩ : Shape).Idx → F .f32) (X Z : (⟨2, ![8, 4096]⟩ : Shape).Idx → F .f32) : (⟨2, ![4096, 128]⟩ : Shape).Idx → F .f32 :=
  fun j => colOut T B L (fun r => X (ix2 r (j 0))) (fun r => Z (ix2 r (j 0))) (j 1)

end Cert.Proof.Spec

end
-- ==== Proof.RestateKernelIdeal.lean ====
/-
  The kernel's body with its unrolled repetitions written once: the thirty-two groups of lanes that fill a chunk's
  bins and offsets, the four blocks of lanes that fill one column's row numbers and weights, and the two loops that
  add up rows. Each restatement is the printed text by unfolding.
-/
module

public import proofs.«01_k».proof.Proof.Gen.KernelIdeal.Skeleton
public import proofs.«01_k».proof.Proof.Hold
public import Idealize.ShloMosaic.Lib.Tactic.ProgEq

@[expose] public section

set_option maxRecDepth 65536

noncomputable section

namespace Cert.KernelIdeal.Gen

open Idealize.ShloMosaic Idealize.SL.Sem Cert.Proof.Hold
open scoped Idealize.ShloMosaic.ProgEq

variable {F : FTy → Type} [FloatOps F]

/-- The programs of the tile that runs the body at grid coordinates `i`. -/
abbrev TileProg (F : FTy → Type) [FloatOps F] (i : grid0.Coords) : Type → Type 1 :=
  Prog (TpuEff nD τ sig (Elt F) Λ₀ (.scVector ((i 0).castLE hcore0) ((i 1).castLE hsub0)))

/-- Where the group of half `g` and row `r` of a chunk reads. -/
def grpOff (t : Fin k0_t1_loop.trips) (g : Fin 2) (r : Fin 8) : Fin 2 → Nat :=
  ![r.val, (Scalar.indexCast (Scalar.addi (Scalar.muli (Scf.iv 0#32 1#32 t) 32#32) (BitVec.ofNat 32 (16 * g.val)))).toNat]

theorem grpOff_inb : ∀ (t : Fin k0_t1_loop.trips) (g : Fin 2) (r : Fin 8), ∀ a, grpOff t g r a + S1x16.size a ≤ S8x128.size a := by decide +kernel

theorem grpDst_inb : ∀ (g : Fin 2) (r : Fin 8), ∀ a, (![r.val, 16 * g.val] : Fin 2 → ℕ) a + S1x16.size a ≤ S8x32.size a := by decide +kernel

/-- Sixteen lanes of one row: their bins, the two table words of each bin, and the bins and offsets stored. -/
def grp (i : grid0.Coords) (src : Memref sig .scVector .vmem S8x128 .f32) (bm : Memref sig .scVector .vmem S72 .f32)
    (lm : Memref sig .scVector .vmem S64 .f32) (im : Memref sig .scVector .vmem S8x32 .i32) (dm : Memref sig .scVector .vmem S8x32 .f32)
    (t : Fin k0_t1_loop.trips) (g : Fin 2) (r : Fin 8) : TileProg F i PUnit := do
  let v : Vec F S1x16 .f32 ← Prog.lift (.load src (Rect.unit (s := S8x128) (grpOff t g r) S1x16.size (grpOff_inb t g r)).toLoadRect (View.loadsAt_vmem h_S1x16))
  have hw : k0_chk1 (k0_pay103 v) := (← Prog.lift (TpuEff.assume (k0_chk1 (k0_pay103 v)) (k0_chk1.dec (k0_pay103 v)))).down
  let a : Vec F S16 .f32 ← SparseCore.vectorLoadIdx bm ![k0_pay103 v] (k0_idx1_inb _ hw) (View.loads_vmem h_S72)
  let b : Vec F S16 .f32 ← SparseCore.vectorLoadIdx lm ![k0_pay103 v] (k0_idx2_inb _ hw) (View.loads_vmem h_S64)
  let _ : Vec F S1x16 .i32 ← Prog.lift (.load im (Rect.unit (s := S8x32) ![r.val, 16 * g.val] S1x16.size (grpDst_inb g r)).toLoadRect (View.loadsAt_vmem h_S1x16))
  Prog.lift (.store im (Rect.unit (s := S8x32) ![r.val, 16 * g.val] S1x16.size (grpDst_inb g r)) (k0_pay104 (k0_pay103 v)) Finset.univ (View.stores_vmem_bits_univ h_S1x16 rfl) (.inl rfl))
  let _ : Vec F S1x16 .f32 ← Prog.lift (.load dm (Rect.unit (s := S8x32) ![r.val, 16 * g.val] S1x16.size (grpDst_inb g r)).toLoadRect (View.loadsAt_vmem h_S1x16))
  Prog.lift (.store dm (Rect.unit (s := S8x32) ![r.val, 16 * g.val] S1x16.size (grpDst_inb g r)) (k0_pay105 v a b) Finset.univ (View.stores_vmem_bits_univ h_S1x16 rfl) (.inl rfl))

/-- Lanes `16 q`, …, `16 q + 15`. -/
def qLane (v3 : IVec S16 32) (q : Fin 4) : IVec S16 32 := addi v3 (broadcast S16 (BitVec.ofNat 32 (16 * q.val)))

/-- Where column `b`'s block `q` begins. -/
def qPos (v3 : IVec S16 32) (b : Fin k0_t2_loop.trips) (q : Fin 4) : IVec S16 32 :=
  addi (broadcast S16 (Scalar.addi (Scalar.muli (Scf.iv 0#32 1#32 b) 256#32) (BitVec.ofNat 32 (64 * q.val)))) v3

/-- The first row number of each pair of block `q`. -/
def qRow (v3 : IVec S16 32) (q : Fin 4) (ix iz : IVec S16 32) : IVec S16 32 :=
  addi (addi (muli (qLane v3 q) (broadcast S16 4225#32)) (muli ix (broadcast S16 65#32))) iz

/-- One block of sixteen pairs of one column: the four row numbers and the four weights of each. -/
def bld (i : grid0.Coords) (xi zi : Memref sig .scVector .vmem S8x32 .i32) (xd zd : Memref sig .scVector .vmem S8x32 .f32)
    (nm : Memref sig .scVector .vmem S8192 .i32) (wm : Memref sig .scVector .vmem S8192 .f32) (v3 : IVec S16 32)
    (b : Fin k0_t2_loop.trips) (q : Fin 4) : TileProg F i PUnit := do
  have col : IVec S16 32 := broadcast S16 (Scf.iv 0#32 1#32 b)
  have rx : IVec S16 32 := shrsi (qLane v3 q) (broadcast S16 3#32)
  have hx : k0_chk33 col rx := (← Prog.lift (TpuEff.assume (k0_chk33 col rx) (k0_chk33.dec col rx))).down
  have rz : IVec S16 32 := andi (qLane v3 q) (broadcast S16 7#32)
  have hz : k0_chk34 col rz := (← Prog.lift (TpuEff.assume (k0_chk34 col rz) (k0_chk34.dec col rz))).down
  let ix : Vec F S16 .i32 ← SparseCore.vectorLoadIdx xi ![rx, col] (k0_idx65_inb col rx hx) (View.loads_vmem h_S8x32)
  let iz : Vec F S16 .i32 ← SparseCore.vectorLoadIdx zi ![rz, col] (k0_idx66_inb col rz hz) (View.loads_vmem h_S8x32)
  let dx : Vec F S16 .f32 ← SparseCore.vectorLoadIdx xd ![rx, col] (k0_idx67_inb col rx hx) (View.loads_vmem h_S8x32)
  let dz : Vec F S16 .f32 ← SparseCore.vectorLoadIdx zd ![rz, col] (k0_idx68_inb col rz hz) (View.loads_vmem h_S8x32)
  have p : IVec S16 32 := qPos v3 b q
  have hp : k0_chk35 p := (← Prog.lift (TpuEff.assume (k0_chk35 p) (k0_chk35.dec p))).down
  SparseCore.vectorStoreIdx nm ![p] (qRow v3 q ix iz) (fun _ => 1#1) false (k0_idx69_inb p hp) (View.stores_vmem_bits_univ h_S8192 rfl)
  have p1 : IVec S16 32 := addi p (broadcast S16 16#32)
  have h1 : k0_chk36 p1 := (← Prog.lift (TpuEff.assume (k0_chk36 p1) (k0_chk36.dec p1))).down
  SparseCore.vectorStoreIdx nm ![p1] (addi (qRow v3 q ix iz) (broadcast S16 1#32)) (fun _ => 1#1) false (k0_idx70_inb p1 h1) (View.stores_vmem_bits_univ h_S8192 rfl)
  have p2 : IVec S16 32 := addi p (broadcast S16 32#32)
  have h2 : k0_chk37 p2 := (← Prog.lift (TpuEff.assume (k0_chk37 p2) (k0_chk37.dec p2))).down
  SparseCore.vectorStoreIdx nm ![p2] (addi (qRow v3 q ix iz) (broadcast S16 65#32)) (fun _ => 1#1) false (k0_idx71_inb p2 h2) (View.stores_vmem_bits_univ h_S8192 rfl)
  have p3 : IVec S16 32 := addi p (broadcast S16 48#32)
  have h3 : k0_chk38 p3 := (← Prog.lift (TpuEff.assume (k0_chk38 p3) (k0_chk38.dec p3))).down
  SparseCore.vectorStoreIdx nm ![p3] (addi (addi (qRow v3 q ix iz) (broadcast S16 65#32)) (broadcast S16 1#32)) (fun _ => 1#1) false (k0_idx72_inb p3 h3) (View.stores_vmem_bits_univ h_S8192 rfl)
  SparseCore.vectorStoreIdx wm ![p] (k0_pay30 (k0_pay21 dx) (k0_pay22 dz)) (fun _ => 1#1) false (k0_idx73_inb p hp) (View.stores_vmem_bits_univ h_S8192 rfl)
  have h4 : k0_chk39 p1 := (← Prog.lift (TpuEff.assume (k0_chk39 p1) (k0_chk39.dec p1))).down
  SparseCore.vectorStoreIdx wm ![p1] (k0_pay32 dz (k0_pay21 dx)) (fun _ => 1#1) false (k0_idx74_inb p1 h4) (View.stores_vmem_bits_univ h_S8192 rfl)
  have h5 : k0_chk40 p2 := (← Prog.lift (TpuEff.assume (k0_chk40 p2) (k0_chk40.dec p2))).down
  SparseCore.vectorStoreIdx wm ![p2] (k0_pay34 dx (k0_pay22 dz)) (fun _ => 1#1) false (k0_idx75_inb p2 h5) (View.stores_vmem_bits_univ h_S8192 rfl)
  have h6 : k0_chk41 p3 := (← Prog.lift (TpuEff.assume (k0_chk41 p3) (k0_chk41.dec p3))).down
  SparseCore.vectorStoreIdx wm ![p3] (k0_pay36 dx dz) (fun _ => 1#1) false (k0_idx76_inb p3 h6) (View.stores_vmem_bits_univ h_S8192 rfl)

/-- Eight vectors of sixteen lanes: one row of 128 words, carried through the additions. -/
abbrev Acc (F : FTy → Type) [FloatOps F] : Type :=
  FVec F S16 .f32 × FVec F S16 .f32 × FVec F S16 .f32 × FVec F S16 .f32 × FVec F S16 .f32 × FVec F S16 .f32 × FVec F S16 .f32 × FVec F S16 .f32

/-- The vector `k` of eight. -/
def comp (A : Acc F) : Fin 8 → FVec F S16 .f32 :=
  ![A.1, A.2.1, A.2.2.1, A.2.2.2.1, A.2.2.2.2.1, A.2.2.2.2.2.1, A.2.2.2.2.2.2.1, A.2.2.2.2.2.2.2]

/-- Where sixteen words of the fetched row `r` are read. -/
def accOff (r : Fin k0_t4_loop.trips) (k : Fin 8) : Fin 2 → Nat :=
  ![(Scalar.indexCast (Scf.iv 0#32 1#32 r)).toNat, 16 * k.val]

theorem accOff_inb : ∀ (r : Fin k0_t4_loop.trips) (k : Fin 8), ∀ a, accOff r k a + S1x16.size a ≤ S128x128.size a := by decide +kernel

/-- Sixteen words of the fetched row `r`. -/
def accLoad (i : grid0.Coords) (rm : Memref sig .scVector .vmem S128x128 .f32) (r : Fin k0_t4_loop.trips) (k : Fin 8) :
    TileProg F i (Vec F S1x16 .f32) :=
  Prog.lift (.load rm (Rect.unit (s := S128x128) (accOff r k) S1x16.size (accOff_inb r k)).toLoadRect (View.loadsAt_vmem h_S1x16))

/-- One fetched row times its weight, added to the eight vectors. -/
def accBody (i : grid0.Coords) (rm : Memref sig .scVector .vmem S128x128 .f32) (wm : Memref sig .scVector .vmem S8192 .f32)
    (base c0 c1 : BitVec 32) (r : Fin k0_t4_loop.trips) (A : Acc F) : TileProg F i (Acc F) := do
  have p : IVec S16 32 := broadcast S16 (Scalar.addi (Scalar.muli base 128#32) (Scf.iv c0 c1 r))
  have hp : k0_chk69 p := (← Prog.lift (TpuEff.assume (k0_chk69 p) (k0_chk69.dec p))).down
  let w : Vec F S16 .f32 ← SparseCore.vectorLoadIdx wm ![p] (k0_idx113_inb p hp) (View.loads_vmem h_S8192)
  let x0 ← accLoad i rm r 0
  let x1 ← accLoad i rm r 1
  let x2 ← accLoad i rm r 2
  let x3 ← accLoad i rm r 3
  let x4 ← accLoad i rm r 4
  let x5 ← accLoad i rm r 5
  let x6 ← accLoad i rm r 6
  let x7 ← accLoad i rm r 7
  pure (k0_pay94 (comp A 0) w x0, k0_pay94 (comp A 1) w x1, k0_pay94 (comp A 2) w x2, k0_pay94 (comp A 3) w x3,
    k0_pay94 (comp A 4) w x4, k0_pay94 (comp A 5) w x5, k0_pay94 (comp A 6) w x6, k0_pay94 (comp A 7) w x7)

/-- Where sixteen words of row `b` of the result are written. -/
def outOff (b : Fin k0_t3_loop.trips) (k : Fin 8) : Fin 2 → Nat :=
  ![(Scalar.indexCast (Scf.iv 0#32 1#32 b)).toNat, 16 * k.val]

theorem outOff_inb : ∀ (b : Fin k0_t3_loop.trips) (k : Fin 8), ∀ a, outOff b k a + S1x16.size a ≤ S32x128.size a := by decide +kernel

/-- Sixteen words of row `b` of the result. -/
def outPut (i : grid0.Coords) (om : Memref sig .scVector .vmem S32x128 .f32) (b : Fin k0_t3_loop.trips) (A : Acc F) (k : Fin 8) :
    TileProg F i PUnit := do
  let _ : Vec F S1x16 .f32 ← Prog.lift (.load om (Rect.unit (s := S32x128) (outOff b k) S1x16.size (outOff_inb b k)).toLoadRect (View.loadsAt_vmem h_S1x16))
  Prog.lift (.store om (Rect.unit (s := S32x128) (outOff b k) S1x16.size (outOff_inb b k)) (k0_pay9 (comp A k)) Finset.univ (View.stores_vmem_bits_univ h_S1x16 rfl) (.inl rfl))

/-- The whole table, as a copy names it. -/
abbrev tabSl (arg2 : Memref sig .scVector .hbm S270400x128 .f32) : Memref sig .scVector .hbm S270400x128 .f32 :=
  arg2.slice (Rect.unit (s := S270400x128) ![0, 0] S270400x128.size inb_S270400x128_S270400x128_0_0) (fun _ => rfl)

variable (i : grid0.Coords)
  (arg2 : Memref sig .scVector .hbm S270400x128 .f32) (harg2 : arg2.IsWhole) (arg3 : Memref sig .scVector .hbm S8x4096 .f32) (harg3 : arg3.IsWhole) (arg4 : Memref sig .scVector .hbm S8x4096 .f32) (harg4 : arg4.IsWhole) (arg5 : Memref sig .scVector .hbm S72 .f32) (harg5 : arg5.IsWhole) (arg6 : Memref sig .scVector .hbm S64 .f32) (harg6 : arg6.IsWhole) (arg7 : Memref sig .scVector .hbm S4096x128 .f32) (harg7 : arg7.IsWhole) (arg8 : Memref sig .scVector .vmem S8x128 .f32) (harg8 : arg8.IsWhole) (arg9 : Memref sig .scVector .vmem S8x128 .f32) (harg9 : arg9.IsWhole) (arg10 : Memref sig .scVector .vmem S72 .f32) (harg10 : arg10.IsWhole) (arg11 : Memref sig .scVector .vmem S64 .f32) (harg11 : arg11.IsWhole) (arg12 : Memref sig .scVector .vmem S8x32 .i32) (harg12 : arg12.IsWhole) (arg13 : Memref sig .scVector .vmem S8x32 .i32) (harg13 : arg13.IsWhole) (arg14 : Memref sig .scVector .vmem S8x32 .f32) (harg14 : arg14.IsWhole) (arg15 : Memref sig .scVector .vmem S8x32 .f32) (harg15 : arg15.IsWhole) (arg16 : Memref sig .scVector .vmem S8192 .i32) (harg16 : arg16.IsWhole) (arg17 : Memref sig .scVector .vmem S8192 .f32) (harg17 : arg17.IsWhole) (arg18 : Memref sig .scVector .vmem S128x128 .f32) (harg18 : arg18.IsWhole) (arg19 : Memref sig .scVector .vmem S128x128 .f32) (harg19 : arg19.IsWhole) (arg20 : Memref sig .scVector .vmem S32x128 .f32) (harg20 : arg20.IsWhole)
  (arg21 arg22 v6_r0 v6_r1 v6_r2 v6_r3 v1170_r4 : DmaSems sig S_)

/-- A trip of the loop that fills the row numbers and weights: its four blocks. -/
theorem k0_t2_body_restated (v3 : IVec S16 32) (t : Fin k0_t1_loop.trips) (v585 : BitVec 32) (v1125 : FVec F S1x16 .f32) (b : Fin k0_t2_loop.trips) (x : BitVec 32) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v6_r0 v6_r1 v6_r2 v6_r3 v1170_r4 v3 t v585 v1125 b x
      = (do rows (bld i arg12 arg13 arg14 arg15 arg16 arg17 v3 b) 4 le_rfl; pure 0#32) := by sl_kernel_rfl

/-- What the first half of a column leaves for the second: the eight vectors, and the words it computed on the way. -/
abbrev Half (F : FTy → Type) [FloatOps F] : Type :=
  Σ' (_ : BitVec 32) (_ : FVec F S16 .f32) (_ : FVec F S16 .f32) (_ : FVec F S16 .f32) (_ : FVec F S16 .f32) (_ : FVec F S16 .f32) (_ : FVec F S16 .f32) (_ : FVec F S16 .f32) (_ : FVec F S16 .f32) (_ : BitVec 32) (_ : BitVec 32), BitVec 32

/-- The eight vectors among what the first half of a column leaves. -/
def Half.acc (H : Half F) : Acc F :=
  (H.2.1, H.2.2.1, H.2.2.2.1, H.2.2.2.2.1, H.2.2.2.2.2.1, H.2.2.2.2.2.2.1, H.2.2.2.2.2.2.2.1, H.2.2.2.2.2.2.2.2.1)

/-- The first half of a column: its first 128 rows are already on their way; the second 128 are asked for, the first added
up, the next column's first 128 asked for, and the second 128 waited for. -/
def colFst (b : Fin k0_t3_loop.trips) : TileProg F i (Half F) := do
  SparseCore.enqueueIndirectGather rfl (tabSl arg2) arg19 gathers_S270400x128_S128x128 (arg16.slice (Rect.unit (s := S8192) (k0_off34 b) S128.size (k0_off34_inb b)) (fun _ => rfl)) rfl arg22.sem (View.wordExact_bits rfl) rfl (Or.inl rfl)
  SparseCore.waitIndirectGather arg21.sem (tabSl arg2) arg18 (View.wordExact_bits rfl) harg18.wordExact
  let A : Acc F ← Scf.Loop.for k0_t4_loop k0_t4_ok (k0_pay86 (F := F), k0_pay86 (F := F), k0_pay86 (F := F), k0_pay86 (F := F), k0_pay86 (F := F), k0_pay86 (F := F), k0_pay86 (F := F), k0_pay86 (F := F)) (accBody i arg18 arg17 (Scalar.muli 2#32 (Scf.iv 0#32 1#32 b)) 0#32 1#32)
  if h : k0_cond1 b = 1#1 then do
    SparseCore.enqueueIndirectGather rfl (tabSl arg2) arg18 gathers_S270400x128_S128x128 (arg16.slice (Rect.unit (s := S8192) (k0_off43 b) S128.size (k0_off43_inb b h)) (fun _ => rfl)) rfl arg21.sem (View.wordExact_bits rfl) rfl (Or.inl rfl)
    pure ⟨⟩
  else do
    pure ⟨⟩
  SparseCore.waitIndirectGather arg22.sem (tabSl arg2) arg19 (View.wordExact_bits rfl) harg19.wordExact
  pure ⟨Scf.iv 0#32 1#32 b, A.1, A.2.1, A.2.2.1, A.2.2.2.1, A.2.2.2.2.1, A.2.2.2.2.2.1, A.2.2.2.2.2.2.1, A.2.2.2.2.2.2.2, Scalar.addi (Scalar.muli 2#32 (Scf.iv 0#32 1#32 b)) 1#32, 0#32, 1#32⟩

/-- A trip of the loop over the columns of a chunk: the first half, the second half's rows added up, and the sum stored. -/
def colBody (b : Fin k0_t3_loop.trips) (x : BitVec 32) : TileProg F i (BitVec 32) := do
  let H : Half F ← colFst i arg2 arg16 arg17 arg18 harg18 arg19 harg19 arg21 arg22 b
  let B : Acc F ← Scf.Loop.for k0_t4_loop k0_t4_ok H.acc (accBody i arg19 arg17 H.2.2.2.2.2.2.2.2.2.1 H.2.2.2.2.2.2.2.2.2.2.1 H.2.2.2.2.2.2.2.2.2.2.2)
  rows (outPut i arg20 b B) 8 le_rfl
  pure 0#32

/-- The printed first half of a column is `colFst`. -/
theorem k0_part6_restated (b : Fin k0_t3_loop.trips) :
    k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v6_r0 v6_r1 v6_r2 v6_r3 v1170_r4 0#32 1#32 b = colFst i arg2 arg16 arg17 arg18 harg18 arg19 harg19 arg21 arg22 b := by sl_kernel_rfl

/-- The printed trip of the loop over columns is `colBody`. -/
theorem k0_t3_body_restated (b : Fin k0_t3_loop.trips) (x : BitVec 32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v6_r0 v6_r1 v6_r2 v6_r3 v1170_r4 b x = colBody i arg2 arg16 arg17 arg18 harg18 arg19 harg19 arg20 arg21 arg22 b x := by sl_kernel_rfl

/-- Every block of every column of a chunk. -/
def bldAll (v3 : IVec S16 32) : TileProg F i PUnit := do
  let _ : BitVec 32 ← Scf.Loop.for k0_t2_loop k0_t2_ok 0#32 (fun b _ => do rows (bld i arg12 arg13 arg14 arg15 arg16 arg17 v3 b) 4 le_rfl; pure 0#32)
  pure ⟨⟩

/-- A chunk of thirty-two columns. -/
def chunkBody (v3 : IVec S16 32) (t : Fin k0_t1_loop.trips) (x : BitVec 32) : TileProg F i (BitVec 32) := do
  rows (grp i arg8 arg10 arg11 arg12 arg14 t 0) 8 le_rfl
  rows (grp i arg9 arg10 arg11 arg13 arg15 t 0) 8 le_rfl
  rows (grp i arg8 arg10 arg11 arg12 arg14 t 1) 8 le_rfl
  rows (grp i arg9 arg10 arg11 arg13 arg15 t 1) 8 le_rfl
  bldAll i arg12 arg13 arg14 arg15 arg16 arg17 v3
  SparseCore.enqueueIndirectGather rfl (tabSl arg2) arg18 gathers_S270400x128_S128x128 (arg16.slice (Rect.unit (s := S8192) ![0] S128.size inb_S8192_S128_0) (fun _ => rfl)) rfl arg21.sem (View.wordExact_bits rfl) rfl (Or.inl rfl)
  let _ : BitVec 32 ← Scf.Loop.for k0_t3_loop k0_t3_ok 0#32 (colBody i arg2 arg16 arg17 arg18 harg18 arg19 harg19 arg20 arg21 arg22)
  Prog.lift (.enqueueDma arg20 (.here (arg7.slice (Rect.unit (s := S4096x128) (k0_off60 i t) S32x128.size (k0_off60_inb i t)) (fun _ => rfl))) (.dma v1170_r4.sem) harg20.wordExact (View.wordExact_bits rfl) ⟨Or.inl rfl, trivial⟩)
  Prog.lift (.waitDma2 v1170_r4.sem arg20 (arg7.slice (Rect.unit (s := S4096x128) (k0_off60 i t) S32x128.size (k0_off60_inb i t)) (fun _ => rfl)) harg20.wordExact (View.wordExact_bits rfl))
  pure 0#32

/-- The printed trip of the loop over chunks is `chunkBody`. -/
theorem k0_t1_body_restated (v3 : IVec S16 32) (t : Fin k0_t1_loop.trips) (x : BitVec 32) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v6_r0 v6_r1 v6_r2 v6_r3 v1170_r4 v3 t x = chunkBody i arg2 arg7 arg8 arg9 arg10 arg11 arg12 arg13 arg14 arg15 arg16 arg17 arg18 harg18 arg19 harg19 arg20 harg20 arg21 arg22 v1170_r4 v3 t x := by sl_kernel_rfl

end Cert.KernelIdeal.Gen

end
-- ==== Proof.LanesKernelIdeal.lean ====
/-
  One step of each repetition of the kernel's body: sixteen lanes of a chunk's bins and offsets, sixteen pairs of a
  column's row numbers and weights, one fetched row added up, sixteen words of the result put down.
-/
module

public import proofs.«01_k».proof.Proof.RestateKernelIdeal
public import proofs.«01_k».proof.Proof.Spec

@[expose] public section

noncomputable section

namespace Cert.KernelIdeal.Lanes

open Cert.KernelIdeal Cert.KernelIdeal.Gen
open Cert.Proof.Hold Cert.Proof.Spec
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (d : Dev nD) (i : grid0.Coords) (bd : Option 𝒱.V) (E : Set Name)

/-- The tile that runs the body at grid coordinates `i` of device `d`. -/
abbrev cT (d : Dev nD) (i : grid0.Coords) : Thread nD τ := V d ((i 0).castLE hcore0) ((i 1).castLE hsub0)

/-- The place in the order of filling that word `j` of a chunk's bins has. -/
def ord (j : S8x32.Idx) : ℕ := (j 1).val / 16 * 8 + (j 0).val

/-- The column of the tile that column `k` of chunk `t` is. -/
def colIx (t : Fin k0_t1_loop.trips) (k : Fin 32) : Fin 128 := ⟨32 * t.val + k.val, by have h : t.val < 4 := t.isLt; omega⟩

/-- The bins of a chunk. -/
def binT (xs : S8x128.Idx → F .f32) (t : Fin k0_t1_loop.trips) : S8x32.Idx → BitVec 32 := fun j => bin (xs (ix2 (j 0) (colIx t (j 1))))

/-- The offsets of a chunk. -/
def difT (xs : S8x128.Idx → F .f32) (B : S72.Idx → F .f32) (L : S64.Idx → F .f32) (t : Fin k0_t1_loop.trips) : S8x32.Idx → F .f32 :=
  fun j => dif B L (xs (ix2 (j 0) (colIx t (j 1))))

/-- A chunk's bins and offsets, filled up to place `n`. -/
def grpI (src : Memref sig .scVector .vmem S8x128 .f32) (bm : Memref sig .scVector .vmem S72 .f32)
    (lm : Memref sig .scVector .vmem S64 .f32) (im : Memref sig .scVector .vmem S8x32 .i32) (dm : Memref sig .scVector .vmem S8x32 .f32)
    (xs : S8x128.Idx → F .f32) (B : S72.Idx → F .f32) (L : S64.Idx → F .f32) (t : Fin k0_t1_loop.trips) (n : ℕ) : sProp 𝕄 :=
  iprop(hold (cT d i) src fullShare xs ∗ hold (cT d i) bm fullShare B ∗ hold (cT d i) lm fullShare L
    ∗ (∃ y, ⌜∀ j, ord j < n → y j = binT xs t j⌝ ∗ hold (cT d i) im fullShare y)
    ∗ (∃ y, ⌜∀ j, ord j < n → y j = difT xs B L t j⌝ ∗ hold (cT d i) dm fullShare y))

theorem grpOff_eq : ∀ (t : Fin k0_t1_loop.trips) (g : Fin 2) (r : Fin 8), grpOff t g r 0 = r.val ∧ grpOff t g r 1 = 32 * t.val + 16 * g.val := by decide +kernel

/-- The bins computed from sixteen words are in range of both lookup tables. -/
theorem chk_bin (v : Vec F S1x16 .f32) : k0_chk1 (k0_pay103 v) :=
  ⟨fun a x => by match a with | 0 => exact lt_trans (bin_lt _) (by decide), fun a x => by match a with | 0 => exact bin_lt _⟩

/-- The bins stored are those of the words read. -/
theorem pay_bin (v : Vec F S1x16 .f32) (j : S1x16.Idx) : k0_pay104 (k0_pay103 v) j = bin (v j) := by
  show bin (v (Shape.reshapeEquiv _ (Shape.reshapeEquiv _ j))) = _
  rw [Shape.reshapeEquiv_reshapeEquiv, Shape.reshapeEquiv_self]

/-- The offsets stored are those of the words read. -/
theorem pay_dif (B : S72.Idx → F .f32) (L : S64.Idx → F .f32) (v : Vec F S1x16 .f32) (h1 h2) (j : S1x16.Idx) :
    k0_pay105 v (loadIdx (e := .f32) B ![k0_pay103 v] h1) (loadIdx (e := .f32) L ![k0_pay103 v] h2) j = dif B L (v j) := by
  have e : ∀ w : S1x16.Idx, w = j → FloatOps.mulf (FloatOps.subf (v w) (B (ix1 ⟨(bin (v w)).toNat, (bin_lt _).trans (by decide)⟩)))
      (L (ix1 ⟨(bin (v w)).toNat, bin_lt _⟩)) = dif B L (v j) := by rintro w rfl; rfl
  rw [← e (Shape.reshapeEquiv shapeCasts_S1x16_S16 (Shape.reshapeEquiv shapeCasts_S16_S1x16 j)) (by rw [Shape.reshapeEquiv_reshapeEquiv, Shape.reshapeEquiv_self])]
  show FloatOps.mulf (FloatOps.subf _ (B _)) (L _) = _
  congr 1
  · congr 2; funext a; match a with | 0 => rfl
  · congr 1; funext a; match a with | 0 => rfl

/-- Whether word `j` belongs to row `r` of half `g`. -/
def inGrp (g : Fin 2) (r : Fin 8) (j : S8x32.Idx) : Prop := (j 0).val = r.val ∧ (j 1).val / 16 = g.val

instance (g : Fin 2) (r : Fin 8) (j : S8x32.Idx) : Decidable (inGrp g r j) := by unfold inGrp; infer_instance

section Upd
variable {α : Type} (g : Fin 2) (r : Fin 8) (t : Fin k0_t1_loop.trips) (T y : S8x32.Idx → α)

/-- One row of one half replaced. -/
def upd : S8x32.Idx → α := fun j => if inGrp g r j then T j else y j

theorem upd_emb (j : S1x16.Idx) : upd g r T y ((Rect.unit (s := S8x32) ![r.val, 16 * g.val] S1x16.size (grpDst_inb g r)).emb j)
    = T ((Rect.unit (s := S8x32) ![r.val, 16 * g.val] S1x16.size (grpDst_inb g r)).emb j) := by
  refine if_pos ⟨?_, ?_⟩
  · have h : (j 0).val < 1 := (j 0).isLt
    show r.val + 1 * (j 0).val = r.val
    omega
  · have h : (j 1).val < 16 := (j 1).isLt
    show (16 * g.val + 1 * (j 1).val) / 16 = g.val
    omega

theorem upd_off (j : S8x32.Idx) (h : ∀ x, (Rect.unit (s := S8x32) ![r.val, 16 * g.val] S1x16.size (grpDst_inb g r)).emb x ≠ j) :
    upd g r T y j = y j := by
  refine if_neg fun ⟨h0, h1⟩ => h (ix2 (n0 := 1) (n1 := 16) 0 ⟨(j 1).val % 16, Nat.mod_lt _ (by decide)⟩) ?_
  funext a
  match a with
  | 0 => exact Fin.ext (show r.val + 1 * 0 = (j 0).val by omega)
  | 1 => exact Fin.ext (show 16 * g.val + 1 * ((j 1).val % 16) = (j 1).val by omega)

theorem upd_done (h : ∀ j, ord j < 8 * g.val + r.val → y j = T j) (j : S8x32.Idx) (hj : ord j < 8 * g.val + (r.val + 1)) :
    upd g r T y j = T j := by
  unfold upd
  split
  · rfl
  · rename_i hn
    refine h j ?_
    unfold ord inGrp at *
    have h0 : (j 0).val < 8 := (j 0).isLt
    have h1 : (j 1).val < 32 := (j 1).isLt
    omega

end Upd

/-- The words that a group reads are those its bins and offsets are put down for. -/
theorem emb_grp (xs : S8x128.Idx → F .f32) (t : Fin k0_t1_loop.trips) (g : Fin 2) (r : Fin 8) (j : S1x16.Idx) :
    (Rect.unit (s := S8x128) (grpOff t g r) S1x16.size (grpOff_inb t g r)).emb j
      = ix2 (n0 := 8) (n1 := 128) ((Rect.unit (s := S8x32) ![r.val, 16 * g.val] S1x16.size (grpDst_inb g r)).emb j 0)
          (colIx t ((Rect.unit (s := S8x32) ![r.val, 16 * g.val] S1x16.size (grpDst_inb g r)).emb j 1)) := by
  obtain ⟨h0, h1⟩ := grpOff_eq t g r
  funext a
  match a with
  | 0 => exact Fin.ext (show grpOff t g r 0 + 1 * (j 0).val = r.val + 1 * (j 0).val by omega)
  | 1 => exact Fin.ext (show grpOff t g r 1 + 1 * (j 1).val = 32 * t.val + (16 * g.val + 1 * (j 1).val) by omega)

/-- One group of lanes: its row of its half is filled. -/
theorem wp_grp (src : Memref sig .scVector .vmem S8x128 .f32) (bm : Memref sig .scVector .vmem S72 .f32)
    (lm : Memref sig .scVector .vmem S64 .f32) (im : Memref sig .scVector .vmem S8x32 .i32) (dm : Memref sig .scVector .vmem S8x32 .f32)
    (xs : S8x128.Idx → F .f32) (B : S72.Idx → F .f32) (L : S64.Idx → F .f32) (t : Fin k0_t1_loop.trips) (g : Fin 2) (r : Fin 8) :
    grpI (Ix := Ix) (Name := Name) (U := U) (Lvl := Lvl) d i src bm lm im dm xs B L t (8 * g.val + r.val)
      ⊢ wp frame (wpE defs 𝒱 (cT d i) bd) E (grp i src bm lm im dm t g r) fun _ => grpI d i src bm lm im dm xs B L t (8 * g.val + (r.val + 1)) := by
  unfold grp
  simp only [Prog.lift, Prog.bind_op, Prog.bind_ret, Prog.pure_eq_ret]
  unfold grpI
  iintro ⟨Hs, Hb, Hl, ⟨%y, %hy, Hi⟩, ⟨%w, %hw, Hd⟩⟩
  iapply (hold_load 𝒱 (cT d i) bd E xs) $$ Hs
  iintro Hs
  rw [wp_assume_of 𝒱 (cT d i) bd E (chk_bin _)]
  iapply (hold_loadIdx 𝒱 (cT d i) bd E B) $$ Hb
  iintro Hb
  iapply (hold_loadIdx 𝒱 (cT d i) bd E L) $$ Hl
  iintro Hl
  iapply (hold_load 𝒱 (cT d i) bd E y) $$ Hi
  iintro Hi
  iapply (hold_store 𝒱 (cT d i) bd E y (upd g r (binT xs t) y)
    (fun j => by rw [upd_emb, pay_bin, emb_grp xs]; rfl) (upd_off g r _ _)) $$ Hi
  iintro Hi
  iapply (hold_load 𝒱 (cT d i) bd E w) $$ Hd
  iintro Hd
  iapply (hold_store 𝒱 (cT d i) bd E w (upd g r (difT xs B L t) w)
    (fun j => by rw [upd_emb, pay_dif, emb_grp xs]; rfl) (upd_off g r _ _)) $$ Hd
  iintro Hd
  iapply (le_wp_ret Idealize.ShloMosaic.frame (wpE defs 𝒱 (cT d i) bd) E PUnit.unit)
  iframe Hs Hb Hl
  isplitl [Hi]
  · iexists (upd g r (binT xs t) y)
    iframe Hi
    ipureintro
    exact upd_done g r _ _ hy
  · iexists (upd g r (difT xs B L t) w)
    iframe Hd
    ipureintro
    exact upd_done g r _ _ hw

/-! ## Row numbers and weights -/

/-- The lane numbers. -/
abbrev lanes : IVec S16 32 := iota .scVector S16 32 [0] iota_S16_d0_w32_scVector

theorem rx_eq : ∀ (q : Fin 4) (k : Fin 16), (shrsi (qLane lanes q) (broadcast S16 3#32) (ix1 k)).toNat = (16 * q.val + k.val) / 8 := by decide +kernel

theorem rz_eq : ∀ (q : Fin 4) (k : Fin 16), (andi (qLane lanes q) (broadcast S16 7#32) (ix1 k)).toNat = (16 * q.val + k.val) % 8 := by decide +kernel

theorem qLane_eq : ∀ (q : Fin 4) (k : Fin 16), qLane lanes q (ix1 k) = BitVec.ofNat 32 (16 * q.val + k.val) := by decide +kernel

theorem col_eq : ∀ b : Fin k0_t2_loop.trips, (Scf.iv 0#32 1#32 b).toNat = b.val := by decide +kernel

theorem qPos_eq : ∀ (b : Fin k0_t2_loop.trips) (q : Fin 4) (k : Fin 16), (qPos lanes b q (ix1 k)).toNat = 256 * b.val + 64 * q.val + k.val := by
  decide +kernel

theorem qPos_add (b : Fin k0_t2_loop.trips) (q : Fin 4) (k : Fin 16) (n : ℕ) (hn : n < 64) :
    (addi (qPos lanes b q) (broadcast S16 (BitVec.ofNat 32 n)) (ix1 k)).toNat = 256 * b.val + 64 * q.val + n + k.val := by
  have h := qPos_eq b q k
  have hb : b.val < 32 := b.isLt
  show (qPos lanes b q (ix1 k) + BitVec.ofNat 32 n).toNat = _
  rw [BitVec.toNat_add, h, BitVec.toNat_ofNat]
  omega

/-- The row numbers of a chunk. -/
def numT (bx bz : S8x32.Idx → BitVec 32) : S8192.Idx → BitVec 32 := fun m =>
  num (fun r => bx (ix2 r ⟨(m 0).val / 256, by have h : (m 0).val < 8192 := (m 0).isLt; omega⟩))
    (fun r => bz (ix2 r ⟨(m 0).val / 256, by have h : (m 0).val < 8192 := (m 0).isLt; omega⟩)) ((m 0).val % 256)

/-- The weights of a chunk. -/
def wtT (dx dz : S8x32.Idx → F .f32) : S8192.Idx → F .f32 := fun m =>
  wt (fun r => dx (ix2 r ⟨(m 0).val / 256, by have h : (m 0).val < 8192 := (m 0).isLt; omega⟩))
    (fun r => dz (ix2 r ⟨(m 0).val / 256, by have h : (m 0).val < 8192 := (m 0).isLt; omega⟩)) ((m 0).val % 256)

theorem ofLane_eq (k : Fin 16) : (Shape.ofLane (d := ![16]) k : S16.Idx) = ix1 k := by
  funext a; match a with | 0 => rfl

/-- An indexed store of sixteen consecutive words behind those already as they should be. -/
theorem store_fill {e : EltTy} (y T : S8192.Idx → Elt F e) (n : ℕ) (hy : ∀ m, (m 0).val < n → y m = T m) (p : IVec S16 32)
    (hp : ∀ k : Fin 16, (p (ix1 k)).toNat = n + k.val) (v : Vec F S16 e)
    (hv : ∀ (k : Fin 16) (m : S8192.Idx), (m 0).val = n + k.val → v (ix1 k) = T m) (h) (m : S8192.Idx) (hm : (m 0).val < n + 16) :
    storeIdx y ![p] v (fun _ => 1#1) false h m = T m := by
  have hp' : ∀ k : Fin 16, (p (Shape.ofLane (d := ![16]) k)).toNat = n + k.val := fun k =>
    (congrArg (fun i => (p i).toNat) (ofLane_eq k)).trans (hp k)
  by_cases hmn : (m 0).val < n
  · refine (storeIdx_of_none (s := S8192) (d := ![16]) ![p] v h y m ?_).trans (hy m hmn)
    intro k hk
    have h0 : (m 0).val = n + k.val := (hk 0).trans (hp' k)
    omega
  · have hk : (m 0).val - n < 16 := by omega
    have hk' : (m 0).val = n + ((m 0).val - n) := by omega
    refine (storeIdx_of_one (s := S8192) (d := ![16]) ![p] v h y m (⟨(m 0).val - n, hk⟩ : Fin 16) ?_ ?_).trans
      ((congrArg v (ofLane_eq _)).trans (hv _ _ hk'))
    · intro a
      match a with
      | 0 => exact hk'.trans (hp' ⟨(m 0).val - n, hk⟩).symm
    · intro k' hk'
      have h0 : (m 0).val = n + k'.val := (hk' 0).trans (hp' k')
      exact Fin.ext (by show k'.val = (m 0).val - n; omega)

/-- The row number at a place of a block, by the block's pair and the corner. -/
theorem num_at (bx bz : Fin 8 → BitVec 32) (q : Fin 4) (k : Fin 16) (c : Fin 4) (p : ℕ) (hp : p = 64 * q.val + 16 * c.val + k.val) (X Z : Fin 8)
    (hX : X.val = (16 * q.val + k.val) / 8) (hZ : Z.val = (16 * q.val + k.val) % 8) :
    num bx bz p = (let r := BitVec.ofNat 32 (16 * q.val + k.val) * 4225#32 + bx X * 65#32 + bz Z
      (![r, r + 1#32, r + 65#32, r + 65#32 + 1#32] : Fin 4 → BitVec 32) c) := by
  have e1 : pair p = 16 * q.val + k.val := by unfold pair; omega
  have e2 : corner p = c := Fin.ext (by show p / 16 % 4 = c.val; omega)
  have e3 : pX p = X := Fin.ext (by show pair p / 8 % 8 = X.val; rw [e1, hX]; omega)
  have e4 : pZ p = Z := Fin.ext (by show pair p % 8 = Z.val; rw [e1, hZ])
  unfold num
  rw [e1, e2, e3, e4]

/-- The weight at a place of a block, by the block's pair and the corner. -/
theorem wt_at (dx dz : Fin 8 → F .f32) (q : Fin 4) (k : Fin 16) (c : Fin 4) (p : ℕ) (hp : p = 64 * q.val + 16 * c.val + k.val) (X Z : Fin 8)
    (hX : X.val = (16 * q.val + k.val) / 8) (hZ : Z.val = (16 * q.val + k.val) % 8) :
    wt dx dz p = (let one : F .f32 := Scalar.ofBits .f32 0x3F800000#32
      (![FloatOps.mulf (FloatOps.subf one (dx X)) (FloatOps.subf one (dz Z)), FloatOps.mulf (FloatOps.subf one (dx X)) (dz Z),
        FloatOps.mulf (dx X) (FloatOps.subf one (dz Z)), FloatOps.mulf (dx X) (dz Z)] : Fin 4 → F .f32) c) := by
  have e1 : pair p = 16 * q.val + k.val := by unfold pair; omega
  have e2 : corner p = c := Fin.ext (by show p / 16 % 4 = c.val; omega)
  have e3 : pX p = X := Fin.ext (by show pair p / 8 % 8 = X.val; rw [e1, hX]; omega)
  have e4 : pZ p = Z := Fin.ext (by show pair p % 8 = Z.val; rw [e1, hZ])
  unfold wt
  rw [e2, e3, e4]

/-- The two coordinates of a lane's pair, and the column. -/
def qX (q : Fin 4) (k : Fin 16) : Fin 8 := ⟨(16 * q.val + k.val) / 8, by omega⟩
def qZ (q : Fin 4) (k : Fin 16) : Fin 8 := ⟨(16 * q.val + k.val) % 8, by omega⟩
def bC (b : Fin k0_t2_loop.trips) : Fin 32 := ⟨b.val, b.isLt⟩

/-- What an indexed read of a chunk's bins (or offsets) at a block's first coordinates gives each lane. -/
theorem read_x {e : EltTy} (f : S8x32.Idx → Elt F e) (b : Fin k0_t2_loop.trips) (q : Fin 4) (h) (k : Fin 16) :
    loadIdx (F := F) (e := e) f ![shrsi (qLane lanes q) (broadcast S16 3#32), broadcast S16 (Scf.iv 0#32 1#32 b)] h (ix1 k) = f (ix2 (qX q k) (bC b)) := by
  refine congrArg f (funext fun a => ?_)
  match a with
  | 0 => exact Fin.ext (rx_eq q k)
  | 1 => exact Fin.ext (col_eq b)

/-- What an indexed read at a block's second coordinates gives each lane. -/
theorem read_z {e : EltTy} (f : S8x32.Idx → Elt F e) (b : Fin k0_t2_loop.trips) (q : Fin 4) (h) (k : Fin 16) :
    loadIdx (F := F) (e := e) f ![andi (qLane lanes q) (broadcast S16 7#32), broadcast S16 (Scf.iv 0#32 1#32 b)] h (ix1 k) = f (ix2 (qZ q k) (bC b)) := by
  refine congrArg f (funext fun a => ?_)
  match a with
  | 0 => exact Fin.ext (rz_eq q k)
  | 1 => exact Fin.ext (col_eq b)

theorem numT_at (bx bz : S8x32.Idx → BitVec 32) (b : Fin k0_t2_loop.trips) (q : Fin 4) (c : Fin 4) (k : Fin 16) (m : S8192.Idx)
    (hm : (m 0).val = 256 * b.val + 64 * q.val + 16 * c.val + k.val) :
    numT bx bz m = (let r := BitVec.ofNat 32 (16 * q.val + k.val) * 4225#32 + bx (ix2 (qX q k) (bC b)) * 65#32 + bz (ix2 (qZ q k) (bC b))
      (![r, r + 1#32, r + 65#32, r + 65#32 + 1#32] : Fin 4 → BitVec 32) c) := by
  unfold numT
  rw [num_at _ _ q k c _ (by omega) (qX q k) (qZ q k) rfl rfl]
  have e : (⟨(m 0).val / 256, by have h : (m 0).val < 8192 := (m 0).isLt; omega⟩ : Fin 32) = bC b := Fin.ext (by show _ = b.val; dsimp only; omega)
  rw [e]

theorem wtT_at (dx dz : S8x32.Idx → F .f32) (b : Fin k0_t2_loop.trips) (q : Fin 4) (c : Fin 4) (k : Fin 16) (m : S8192.Idx)
    (hm : (m 0).val = 256 * b.val + 64 * q.val + 16 * c.val + k.val) :
    wtT dx dz m = (let one : F .f32 := Scalar.ofBits .f32 0x3F800000#32
      let x := dx (ix2 (qX q k) (bC b))
      let z := dz (ix2 (qZ q k) (bC b))
      (![FloatOps.mulf (FloatOps.subf one x) (FloatOps.subf one z), FloatOps.mulf (FloatOps.subf one x) z,
        FloatOps.mulf x (FloatOps.subf one z), FloatOps.mulf x z] : Fin 4 → F .f32) c) := by
  unfold wtT
  rw [wt_at _ _ q k c _ (by omega) (qX q k) (qZ q k) rfl rfl]
  have e : (⟨(m 0).val / 256, by have h : (m 0).val < 8192 := (m 0).isLt; omega⟩ : Fin 32) = bC b := Fin.ext (by show _ = b.val; dsimp only; omega)
  rw [e]

/-- A fact about every lane. -/
theorem lane_all {P : S16.Idx → Prop} (h : ∀ k : Fin 16, P (ix1 k)) (x : S16.Idx) : P x := by
  rw [eq_ix1 x]; exact h _

theorem chk_x (b : Fin k0_t2_loop.trips) (q : Fin 4) :
    k0_chk33 (broadcast S16 (Scf.iv 0#32 1#32 b)) (shrsi (qLane lanes q) (broadcast S16 3#32)) := by
  have h : ∀ a x, ((![shrsi (qLane lanes q) (broadcast S16 3#32), broadcast S16 (Scf.iv 0#32 1#32 b)] : Fin 2 → IVec S16 32) a x).toNat < S8x32.size a := by
    intro a
    match a with
    | 0 =>
      exact lane_all fun k => by
        show (shrsi (qLane lanes q) (broadcast S16 3#32) (ix1 k)).toNat < 8
        rw [rx_eq]; omega
    | 1 =>
      exact lane_all fun k => by
        show (Scf.iv 0#32 1#32 b).toNat < 32
        rw [col_eq]; exact b.isLt
  exact ⟨h, h⟩

theorem chk_z (b : Fin k0_t2_loop.trips) (q : Fin 4) :
    k0_chk34 (broadcast S16 (Scf.iv 0#32 1#32 b)) (andi (qLane lanes q) (broadcast S16 7#32)) := by
  have h : ∀ a x, ((![andi (qLane lanes q) (broadcast S16 7#32), broadcast S16 (Scf.iv 0#32 1#32 b)] : Fin 2 → IVec S16 32) a x).toNat < S8x32.size a := by
    intro a
    match a with
    | 0 =>
      exact lane_all fun k => by
        show (andi (qLane lanes q) (broadcast S16 7#32) (ix1 k)).toNat < 8
        rw [rz_eq]; omega
    | 1 =>
      exact lane_all fun k => by
        show (Scf.iv 0#32 1#32 b).toNat < 32
        rw [col_eq]; exact b.isLt
  exact ⟨h, h⟩

theorem chk_p (b : Fin k0_t2_loop.trips) (q : Fin 4) (a : Fin 1) (x : S16.Idx) : ((![qPos lanes b q] : Fin 1 → IVec S16 32) a x).toNat < S8192.size a := by
  match a with
  | 0 =>
    exact lane_all (P := fun x => (qPos lanes b q x).toNat < 8192) (fun k => by
      have hb : b.val < 32 := b.isLt
      rw [qPos_eq]; omega) x

theorem chk_pn (b : Fin k0_t2_loop.trips) (q : Fin 4) (n : ℕ) (hn : n ≤ 48) (a : Fin 1) (x : S16.Idx) :
    ((![addi (qPos lanes b q) (broadcast S16 (BitVec.ofNat 32 n))] : Fin 1 → IVec S16 32) a x).toNat < S8192.size a := by
  match a with
  | 0 =>
    exact lane_all (P := fun x => (addi (qPos lanes b q) (broadcast S16 (BitVec.ofNat 32 n)) x).toNat < 8192) (fun k => by
      have hb : b.val < 32 := b.isLt
      rw [qPos_add _ _ _ _ (by omega)]; omega) x

/-- A chunk's row numbers and weights, filled up to place `n`. -/
def bldI (xi zi : Memref sig .scVector .vmem S8x32 .i32) (xd zd : Memref sig .scVector .vmem S8x32 .f32)
    (nm : Memref sig .scVector .vmem S8192 .i32) (wm : Memref sig .scVector .vmem S8192 .f32)
    (bx bz : S8x32.Idx → BitVec 32) (dx dz : S8x32.Idx → F .f32) (n : ℕ) : sProp 𝕄 :=
  iprop(hold (F := F) (e := .i32) (cT d i) xi fullShare bx ∗ hold (F := F) (e := .i32) (cT d i) zi fullShare bz ∗ hold (cT d i) xd fullShare dx ∗ hold (cT d i) zd fullShare dz
    ∗ (∃ y, ⌜∀ m, (m 0).val < n → y m = numT bx bz m⌝ ∗ hold (F := F) (e := .i32) (cT d i) nm fullShare y)
    ∗ (∃ y, ⌜∀ m, (m 0).val < n → y m = wtT dx dz m⌝ ∗ hold (cT d i) wm fullShare y))

set_option maxHeartbeats 2000000 in
/-- One block of one column: its row numbers and weights are filled. -/
theorem wp_bld (xi zi : Memref sig .scVector .vmem S8x32 .i32) (xd zd : Memref sig .scVector .vmem S8x32 .f32)
    (nm : Memref sig .scVector .vmem S8192 .i32) (wm : Memref sig .scVector .vmem S8192 .f32)
    (bx bz : S8x32.Idx → BitVec 32) (dx dz : S8x32.Idx → F .f32) (b : Fin k0_t2_loop.trips) (q : Fin 4) :
    bldI (Ix := Ix) (Name := Name) (U := U) (Lvl := Lvl) d i xi zi xd zd nm wm bx bz dx dz (256 * b.val + 64 * q.val)
      ⊢ wp frame (wpE defs 𝒱 (cT d i) bd) E (bld i xi zi xd zd nm wm lanes b q)
          fun _ => bldI d i xi zi xd zd nm wm bx bz dx dz (256 * b.val + 64 * (q.val + 1)) := by
  unfold bld
  simp only [Prog.lift, Prog.bind_op, Prog.bind_ret, Prog.pure_eq_ret]
  unfold bldI
  iintro ⟨Hxi, Hzi, Hxd, Hzd, ⟨%y, %hy, Hn⟩, ⟨%w, %hw, Hw⟩⟩
  rw [wp_assume_of 𝒱 (cT d i) bd E (chk_x b q)]
  rw [wp_assume_of 𝒱 (cT d i) bd E (chk_z b q)]
  iapply (hold_loadIdx (e := .i32) 𝒱 (cT d i) bd E bx) $$ Hxi
  iintro Hxi
  iapply (hold_loadIdx (e := .i32) 𝒱 (cT d i) bd E bz) $$ Hzi
  iintro Hzi
  iapply (hold_loadIdx 𝒱 (cT d i) bd E dx) $$ Hxd
  iintro Hxd
  iapply (hold_loadIdx 𝒱 (cT d i) bd E dz) $$ Hzd
  iintro Hzd
  rw [wp_assume_of 𝒱 (cT d i) bd E (show k0_chk35 (qPos lanes b q) from ⟨chk_p b q, chk_p b q⟩)]
  iapply (hold_storeIdx (e := .i32) 𝒱 (cT d i) bd E y) $$ Hn
  iintro Hn
  rw [wp_assume_of 𝒱 (cT d i) bd E (show k0_chk36 (addi (qPos lanes b q) (broadcast S16 16#32)) from chk_pn b q 16 (by omega))]
  iapply (hold_storeIdx (e := .i32) 𝒱 (cT d i) bd E _) $$ Hn
  iintro Hn
  rw [wp_assume_of 𝒱 (cT d i) bd E (show k0_chk37 (addi (qPos lanes b q) (broadcast S16 32#32)) from chk_pn b q 32 (by omega))]
  iapply (hold_storeIdx (e := .i32) 𝒱 (cT d i) bd E _) $$ Hn
  iintro Hn
  rw [wp_assume_of 𝒱 (cT d i) bd E (show k0_chk38 (addi (qPos lanes b q) (broadcast S16 48#32)) from chk_pn b q 48 (by omega))]
  iapply (hold_storeIdx (e := .i32) 𝒱 (cT d i) bd E _) $$ Hn
  iintro Hn
  iapply (hold_storeIdx 𝒱 (cT d i) bd E w) $$ Hw
  iintro Hw
  rw [wp_assume_of 𝒱 (cT d i) bd E (show k0_chk39 (addi (qPos lanes b q) (broadcast S16 16#32)) from chk_pn b q 16 (by omega))]
  iapply (hold_storeIdx 𝒱 (cT d i) bd E _) $$ Hw
  iintro Hw
  rw [wp_assume_of 𝒱 (cT d i) bd E (show k0_chk40 (addi (qPos lanes b q) (broadcast S16 32#32)) from chk_pn b q 32 (by omega))]
  iapply (hold_storeIdx 𝒱 (cT d i) bd E _) $$ Hw
  iintro Hw
  rw [wp_assume_of 𝒱 (cT d i) bd E (show k0_chk41 (addi (qPos lanes b q) (broadcast S16 48#32)) from chk_pn b q 48 (by omega))]
  iapply (hold_storeIdx_end 𝒱 (cT d i) bd E _) $$ Hw
  iintro Hw
  isplitl [Hxi]; · iexact Hxi
  isplitl [Hzi]; · iexact Hzi
  isplitl [Hxd]; · iexact Hxd
  isplitl [Hzd]; · iexact Hzd
  isplitl [Hn]
  · iexists _
    isplitr [Hn]
    rotate_left
    · iexact Hn
    · ipureintro
      intro m hm
      refine store_fill _ _ (256 * b.val + 64 * q.val + 48) ?_ _ (fun k => qPos_add b q k 48 (by omega)) _ ?_ _ m (by omega)
      · intro m hm
        refine store_fill _ _ (256 * b.val + 64 * q.val + 32) ?_ _ (fun k => qPos_add b q k 32 (by omega)) _ ?_ _ m (by omega)
        · intro m hm
          refine store_fill _ _ (256 * b.val + 64 * q.val + 16) ?_ _ (fun k => qPos_add b q k 16 (by omega)) _ ?_ _ m (by omega)
          · intro m hm
            refine store_fill _ _ (256 * b.val + 64 * q.val) hy _ (fun k => qPos_eq b q k) _ ?_ _ m (by omega)
            intro k m hm
            rw [numT_at bx bz b q 0 k m (by simpa using hm)]
            show qLane lanes q (ix1 k) * 4225#32 + loadIdx (F := F) (e := .i32) _ _ _ (ix1 k) * 65#32 + loadIdx (F := F) (e := .i32) _ _ _ (ix1 k) = _
            rw [read_x (F := F) (e := .i32), read_z (F := F) (e := .i32), qLane_eq]
            rfl
          · intro k m hm
            rw [numT_at bx bz b q 1 k m (by show _ = _ + 16 * 1 + _; omega)]
            show qLane lanes q (ix1 k) * 4225#32 + loadIdx (F := F) (e := .i32) _ _ _ (ix1 k) * 65#32 + loadIdx (F := F) (e := .i32) _ _ _ (ix1 k) + 1#32 = _
            rw [read_x (F := F) (e := .i32), read_z (F := F) (e := .i32), qLane_eq]
            rfl
        · intro k m hm
          rw [numT_at bx bz b q 2 k m (by show _ = _ + 16 * 2 + _; omega)]
          show qLane lanes q (ix1 k) * 4225#32 + loadIdx (F := F) (e := .i32) _ _ _ (ix1 k) * 65#32 + loadIdx (F := F) (e := .i32) _ _ _ (ix1 k) + 65#32 = _
          rw [read_x (F := F) (e := .i32), read_z (F := F) (e := .i32), qLane_eq]
          rfl
      · intro k m hm
        rw [numT_at bx bz b q 3 k m (by show _ = _ + 16 * 3 + _; omega)]
        show qLane lanes q (ix1 k) * 4225#32 + loadIdx (F := F) (e := .i32) _ _ _ (ix1 k) * 65#32 + loadIdx (F := F) (e := .i32) _ _ _ (ix1 k) + 65#32 + 1#32 = _
        rw [read_x (F := F) (e := .i32), read_z (F := F) (e := .i32), qLane_eq]
        rfl
  · iexists _
    isplitr [Hw]
    rotate_left
    · iexact Hw
    · ipureintro
      intro m hm
      refine store_fill _ _ (256 * b.val + 64 * q.val + 48) ?_ _ (fun k => qPos_add b q k 48 (by omega)) _ ?_ _ m (by omega)
      · intro m hm
        refine store_fill _ _ (256 * b.val + 64 * q.val + 32) ?_ _ (fun k => qPos_add b q k 32 (by omega)) _ ?_ _ m (by omega)
        · intro m hm
          refine store_fill _ _ (256 * b.val + 64 * q.val + 16) ?_ _ (fun k => qPos_add b q k 16 (by omega)) _ ?_ _ m (by omega)
          · intro m hm
            refine store_fill _ _ (256 * b.val + 64 * q.val) hw _ (fun k => qPos_eq b q k) _ ?_ _ m (by omega)
            intro k m hm
            rw [wtT_at dx dz b q 0 k m (by simpa using hm)]
            show FloatOps.mulf (FloatOps.subf _ (loadIdx (F := F) (e := .f32) _ _ _ (ix1 k))) (FloatOps.subf _ (loadIdx (F := F) (e := .f32) _ _ _ (ix1 k))) = _
            rw [read_x (F := F) (e := .f32), read_z (F := F) (e := .f32)]
            rfl
          · intro k m hm
            rw [wtT_at dx dz b q 1 k m (by show _ = _ + 16 * 1 + _; omega)]
            show FloatOps.mulf (FloatOps.subf _ (loadIdx (F := F) (e := .f32) _ _ _ (ix1 k))) (loadIdx (F := F) (e := .f32) _ _ _ (ix1 k)) = _
            rw [read_x (F := F) (e := .f32), read_z (F := F) (e := .f32)]
            rfl
        · intro k m hm
          rw [wtT_at dx dz b q 2 k m (by show _ = _ + 16 * 2 + _; omega)]
          show FloatOps.mulf (loadIdx (F := F) (e := .f32) _ _ _ (ix1 k)) (FloatOps.subf _ (loadIdx (F := F) (e := .f32) _ _ _ (ix1 k))) = _
          rw [read_x (F := F) (e := .f32), read_z (F := F) (e := .f32)]
          rfl
      · intro k m hm
        rw [wtT_at dx dz b q 3 k m (by show _ = _ + 16 * 3 + _; omega)]
        show FloatOps.mulf (loadIdx (F := F) (e := .f32) _ _ _ (ix1 k)) (loadIdx (F := F) (e := .f32) _ _ _ (ix1 k)) = _
        rw [read_x (F := F) (e := .f32), read_z (F := F) (e := .f32)]
        rfl

end Cert.KernelIdeal.Lanes

end
-- ==== Proof.SumKernelIdeal.lean ====
/-
  The sums of the kernel's body: one fetched row times its weight added to the eight vectors, the loop over the fetched
  rows, and the eight vectors put down as a row of the result.
-/
module

public import proofs.«01_k».proof.Proof.LanesKernelIdeal
public import Idealize.ShloMosaic.Lib.Pointwise.Reshape

@[expose] public section

noncomputable section

namespace Cert.KernelIdeal.Lanes

open Cert.KernelIdeal Cert.KernelIdeal.Gen
open Cert.Proof.Hold Cert.Proof.Spec
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (d : Dev nD) (i : grid0.Coords) (bd : Option 𝒱.V) (E : Set Name)

/-- Word `n` of a chunk's list. -/
def at8 {α : Type} (f : S8192.Idx → α) (n : ℕ) : α := f (ix1 ⟨n % 8192, Nat.mod_lt _ (by decide)⟩)

theorem at8_of_lt {α : Type} (f : S8192.Idx → α) (n : ℕ) (h : n < 8192) : at8 f n = f (ix1 ⟨n, h⟩) :=
  congrArg (fun m => f (ix1 m)) (Fin.ext (Nat.mod_eq_of_lt h))

/-- The 128 rows of the table that a list names from word `n` on. -/
def fetched (T : S270400x128.Idx → F .f32) (N : S8192.Idx → BitVec 32) (n : ℕ) : S128x128.Idx → F .f32 :=
  fun j => rowAt T (at8 N (n + (j 0).val)) (j 1)

/-- The first `n` weighted rows of column `b` of a chunk, added up. -/
def part (T : S270400x128.Idx → F .f32) (N : S8192.Idx → BitVec 32) (W : S8192.Idx → F .f32) (b : ℕ) (o : Fin 128) (n : ℕ) : F .f32 :=
  acc T (fun p => at8 N (256 * b + p)) (fun p => at8 W (256 * b + p)) o n

/-- Lane `l` of vector `k`, as a word of a row. -/
def lanIx (k : Fin 8) (l : Fin 16) : Fin 128 := ⟨16 * k.val + l.val, by omega⟩

/-- The eight vectors hold the first `n` weighted rows of column `b`, added up. -/
def sums (T : S270400x128.Idx → F .f32) (N : S8192.Idx → BitVec 32) (W : S8192.Idx → F .f32) (b : ℕ) (n : ℕ) (A : Acc F) : Prop :=
  ∀ (k : Fin 8) (l : Fin 16), comp A k (ix1 l) = part T N W b (lanIx k l) n

theorem accOff_eq : ∀ (r : Fin k0_t4_loop.trips) (k : Fin 8), accOff r k 0 = r.val ∧ accOff r k 1 = 16 * k.val := by decide +kernel

theorem row_eq : ∀ r : Fin k0_t4_loop.trips, (Scf.iv 0#32 1#32 r).toNat = r.val := by decide +kernel

/-- What the sum reads of a weighted row. -/
theorem pay_acc (a w : FVec F S16 .f32) (x : Vec F S1x16 .f32) (l : Fin 16) :
    k0_pay94 a w x (ix1 l) = FloatOps.addf (a (ix1 l)) (FloatOps.mulf (w (ix1 l)) (x (ix2 (n0 := 1) (n1 := 16) 0 l))) := by
  have e : Shape.reshapeEquiv shapeCasts_S1x16_S16 (ix1 l) = ix2 (n0 := 1) (n1 := 16) 0 l := by
    simp only [reshapeIdx]
  show FloatOps.addf _ (FloatOps.mulf _ (x (Shape.reshapeEquiv shapeCasts_S1x16_S16 (ix1 l)))) = _
  rw [e]

/-- The eight vectors after one more row. -/
theorem sums_succ (T : S270400x128.Idx → F .f32) (N : S8192.Idx → BitVec 32) (W : S8192.Idx → F .f32) (b h : ℕ) (hb : b < 32) (hh : h < 2)
    (r : Fin k0_t4_loop.trips) (A A' : Acc F) (hA : sums T N W b (128 * h + r.val) A) (p : IVec S16 32)
    (hp : ∀ l, (p l).toNat = 256 * b + 128 * h + r.val) (hin : ∀ a x, ((![p] : Fin 1 → IVec S16 32) a x).toNat < S8192.size a)
    (hA' : ∀ k, comp A' k = k0_pay94 (comp A k) (loadIdx (F := F) (e := .f32) W ![p] hin)
      fun y => fetched T N (256 * b + 128 * h) ((Rect.unit (s := S128x128) (accOff r k) S1x16.size (accOff_inb r k)).emb y)) :
    sums T N W b (128 * h + (r.val + 1)) A' := by
  intro k l
  have hr : r.val < 128 := r.isLt
  obtain ⟨h0, h1⟩ := accOff_eq r k
  have e : (Rect.unit (s := S128x128) (accOff r k) S1x16.size (accOff_inb r k)).emb (ix2 (n0 := 1) (n1 := 16) 0 l) = ix2 (n0 := 128) (n1 := 128) r (lanIx k l) := by
    funext a
    match a with
    | 0 => exact Fin.ext (show accOff r k 0 + 1 * 0 = r.val by omega)
    | 1 => exact Fin.ext (show accOff r k 1 + 1 * l.val = 16 * k.val + l.val by omega)
  have ew : loadIdx (F := F) (e := .f32) W ![p] hin (ix1 l) = at8 W (256 * b + (128 * h + r.val)) := by
    rw [at8_of_lt _ _ (by omega)]
    refine congrArg W (funext fun a => ?_)
    match a with
    | 0 => exact Fin.ext ((hp _).trans (by show _ = 256 * b + (128 * h + r.val); omega))
  rw [hA', pay_acc, hA, e, ew]
  show _ = FloatOps.addf _ (FloatOps.mulf (at8 W (256 * b + (128 * h + r.val))) (rowAt T (at8 N (256 * b + (128 * h + r.val))) (lanIx k l)))
  rw [show 256 * b + (128 * h + r.val) = 256 * b + 128 * h + r.val by omega]
  rfl

/-- The loop over 128 fetched rows: the two lists' contents, and the vectors' sums. -/
def accI (rm : Memref sig .scVector .vmem S128x128 .f32) (wm : Memref sig .scVector .vmem S8192 .f32)
    (T : S270400x128.Idx → F .f32) (N : S8192.Idx → BitVec 32) (W : S8192.Idx → F .f32) (b h : ℕ) (n : ℕ) (A : Acc F) : sProp 𝕄 :=
  iprop(hold (cT d i) rm fullShare (fetched T N (256 * b + 128 * h)) ∗ hold (cT d i) wm fullShare W ∗ ⌜sums T N W b (128 * h + n) A⌝)

set_option maxHeartbeats 1000000 in
/-- One fetched row is added. -/
theorem wp_accBody (rm : Memref sig .scVector .vmem S128x128 .f32) (wm : Memref sig .scVector .vmem S8192 .f32)
    (T : S270400x128.Idx → F .f32) (N : S8192.Idx → BitVec 32) (W : S8192.Idx → F .f32) (b h : ℕ) (hb : b < 32) (hh : h < 2)
    (base : BitVec 32) (hbase : base.toNat = 2 * b + h) (r : Fin k0_t4_loop.trips) (A : Acc F) :
    accI (Ix := Ix) (Name := Name) (U := U) (Lvl := Lvl) d i rm wm T N W b h r.val A
      ⊢ wp frame (wpE defs 𝒱 (cT d i) bd) E (accBody i rm wm base 0#32 1#32 r A) fun A' => accI d i rm wm T N W b h (r.val + 1) A' := by
  have hr : r.val < 128 := r.isLt
  have hp : ∀ l : S16.Idx, (broadcast S16 (Scalar.addi (Scalar.muli base 128#32) (Scf.iv 0#32 1#32 r)) l).toNat = 256 * b + 128 * h + r.val := by
    intro l
    show (base * 128#32 + Scf.iv 0#32 1#32 r).toNat = _
    rw [BitVec.toNat_add, BitVec.toNat_mul, row_eq, hbase]
    show ((2 * b + h) * 128 % 2 ^ 32 + r.val) % 2 ^ 32 = _
    omega
  have hc : k0_chk69 (broadcast S16 (Scalar.addi (Scalar.muli base 128#32) (Scf.iv 0#32 1#32 r))) := fun a x => by
    match a with
    | 0 => exact lt_of_eq_of_lt (hp x) (show 256 * b + 128 * h + r.val < 8192 by omega)
  unfold accBody accLoad
  simp only [Prog.lift, Prog.bind_op, Prog.bind_ret, Prog.pure_eq_ret]
  unfold accI
  iintro ⟨Hr, Hw, %hA⟩
  rw [wp_assume_of 𝒱 (cT d i) bd E hc]
  iapply (hold_loadIdx 𝒱 (cT d i) bd E W) $$ Hw
  iintro Hw
  iapply (hold_load 𝒱 (cT d i) bd E (fetched T N (256 * b + 128 * h))) $$ Hr
  iintro Hr
  iapply (hold_load 𝒱 (cT d i) bd E (fetched T N (256 * b + 128 * h))) $$ Hr
  iintro Hr
  iapply (hold_load 𝒱 (cT d i) bd E (fetched T N (256 * b + 128 * h))) $$ Hr
  iintro Hr
  iapply (hold_load 𝒱 (cT d i) bd E (fetched T N (256 * b + 128 * h))) $$ Hr
  iintro Hr
  iapply (hold_load 𝒱 (cT d i) bd E (fetched T N (256 * b + 128 * h))) $$ Hr
  iintro Hr
  iapply (hold_load 𝒱 (cT d i) bd E (fetched T N (256 * b + 128 * h))) $$ Hr
  iintro Hr
  iapply (hold_load 𝒱 (cT d i) bd E (fetched T N (256 * b + 128 * h))) $$ Hr
  iintro Hr
  iapply (hold_load 𝒱 (cT d i) bd E (fetched T N (256 * b + 128 * h))) $$ Hr
  iintro Hr
  iapply (le_wp_ret Idealize.ShloMosaic.frame (wpE defs 𝒱 (cT d i) bd) E _)
  iframe Hr Hw
  ipureintro
  refine sums_succ T N W b h hb hh r A _ hA _ hp hc (fun k => ?_)
  match k with
  | 0 => rfl
  | 1 => rfl
  | 2 => rfl
  | 3 => rfl
  | 4 => rfl
  | 5 => rfl
  | 6 => rfl
  | 7 => rfl

/-! ## A row of the result -/

theorem outOff_eq : ∀ (b : Fin k0_t3_loop.trips) (k : Fin 8), outOff b k 0 = b.val ∧ outOff b k 1 = 16 * k.val := by decide +kernel

/-- The words stored of a vector. -/
theorem pay_out (a : FVec F S16 .f32) (j : S1x16.Idx) : k0_pay9 a j = a (ix1 (n0 := 16) (j 1)) := by
  have e : Shape.reshapeEquiv shapeCasts_S16_S1x16 j = ix1 (n0 := 16) (j 1) := by
    rw [eq_ix2 (n0 := 1) (n1 := 16) j]
    simp only [reshapeIdx]
    have h : (j 0).val < 1 := (j 0).isLt
    funext a
    match a with
    | 0 => exact Fin.ext (by simp)
  show a (Shape.reshapeEquiv shapeCasts_S16_S1x16 j) = _
  rw [e]

/-- Column `b`'s whole sum, as a row. -/
def total (T : S270400x128.Idx → F .f32) (N : S8192.Idx → BitVec 32) (W : S8192.Idx → F .f32) : S32x128.Idx → F .f32 :=
  fun j => part T N W (j 0).val (j 1) 256

/-- The result's rows, filled up to vector `n` in order. -/
def outI (om : Memref sig .scVector .vmem S32x128 .f32) (R : S32x128.Idx → F .f32) (n : ℕ) : sProp 𝕄 :=
  iprop(∃ y, ⌜∀ j : S32x128.Idx, (j 0).val * 8 + (j 1).val / 16 < n → y j = R j⌝ ∗ hold (cT d i) om fullShare y)

/-- One vector of a column is put down. -/
theorem wp_outPut (om : Memref sig .scVector .vmem S32x128 .f32) (T : S270400x128.Idx → F .f32) (N : S8192.Idx → BitVec 32) (W : S8192.Idx → F .f32)
    (b : Fin k0_t3_loop.trips) (A : Acc F) (hA : sums T N W b.val 256 A) (k : Fin 8) :
    outI (Ix := Ix) (Name := Name) (U := U) (Lvl := Lvl) d i om (total T N W) (b.val * 8 + k.val)
      ⊢ wp frame (wpE defs 𝒱 (cT d i) bd) E (outPut i om b A k) fun _ => outI d i om (total T N W) (b.val * 8 + (k.val + 1)) := by
  obtain ⟨h0, h1⟩ := outOff_eq b k
  unfold outPut outI
  simp only [Prog.lift, Prog.bind_op, Prog.bind_ret, Prog.pure_eq_ret]
  iintro ⟨%y, %hy, Ho⟩
  iapply (hold_load 𝒱 (cT d i) bd E y) $$ Ho
  iintro Ho
  iapply (hold_store 𝒱 (cT d i) bd E y (fun j => if (j 0).val = b.val ∧ (j 1).val / 16 = k.val then total T N W j else y j) ?_ ?_) $$ Ho
  · intro j
    have hj0 : (j 0).val < 1 := (j 0).isLt
    have hj1 : (j 1).val < 16 := (j 1).isLt
    have e : (Rect.unit (s := S32x128) (outOff b k) S1x16.size (outOff_inb b k)).emb j = ix2 (n0 := 32) (n1 := 128) b (lanIx k (j 1)) := by
      funext a
      match a with
      | 0 => exact Fin.ext (show outOff b k 0 + 1 * (j 0).val = b.val by omega)
      | 1 => exact Fin.ext (show outOff b k 1 + 1 * (j 1).val = 16 * k.val + (j 1).val by omega)
    rw [e, pay_out]
    exact (if_pos ⟨rfl, by show (16 * k.val + (j 1).val) / 16 = k.val; omega⟩).trans (hA k (j 1)).symm
  · intro j hj
    refine if_neg fun ⟨e0, e1⟩ => hj (ix2 (n0 := 1) (n1 := 16) 0 ⟨(j 1).val % 16, Nat.mod_lt _ (by decide)⟩) ?_
    funext a
    match a with
    | 0 => exact Fin.ext (show outOff b k 0 + 1 * 0 = (j 0).val by omega)
    | 1 => exact Fin.ext (show outOff b k 1 + 1 * ((j 1).val % 16) = (j 1).val by omega)
  iintro Ho
  iapply (le_wp_ret Idealize.ShloMosaic.frame (wpE defs 𝒱 (cT d i) bd) E PUnit.unit)
  iexists _
  isplitr [Ho]
  rotate_left
  · iexact Ho
  ipureintro
  intro j hj
  have hj1 : (j 1).val < 128 := (j 1).isLt
  have hk : k.val < 8 := k.isLt
  show (if (j 0).val = b.val ∧ (j 1).val / 16 = k.val then total T N W j else y j) = _
  split
  · rfl
  · exact hy j (by omega)

end Cert.KernelIdeal.Lanes

end
-- ==== Proof.ColKernelIdeal.lean ====
/-
  A column of the kernel's body: its 256 rows fetched in two halves, the second while the first is added up, and its sum
  put down.
-/
module

public import proofs.«01_k».proof.Proof.SumKernelIdeal
public import Idealize.ShloMosaic.Lib.SparseCore.FromWhole

@[expose] public section

noncomputable section

namespace Cert.KernelIdeal.Lanes

open Cert.KernelIdeal Cert.KernelIdeal.Gen
open Cert.Proof.Hold Cert.Proof.Spec
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (d : Dev nD) (i : grid0.Coords) (bd : Option 𝒱.V)
variable [Infinite Name] (EC : UEmb Counters (MT nD τ sig Ix (Elt F) Name U Lvl)) [EC.LandsIn (upEmb : UEmb _ (MT nD τ sig Ix (Elt F) Name U Lvl))] (ι : Ix)

/-- A whole memref's elements are its buffer's. -/
theorem hold_whole {sp : Space} {s : Shape} {e : EltTy} {m : Memref sig .scVector sp s e} (hm : m.IsWhole) (q : PosShare TreeShare) (x : s.Idx → Elt F e) :
    (hold (cT d i) m q x : sProp 𝕄) = (m.view.loc (cT d i) ↦{q} m.view.rep x) := by
  unfold hold; rw [hm.set_eq_univ]

/-- A slice of a held memref reads the values there. -/
theorem read_slice_rep {sp : Space} {s : Shape} {e : EltTy} (m : Memref sig .scVector sp s e) (r : Rect s) (hr : ∀ a, r.stride a = 1) (x : s.Idx → Elt F e)
    (j : r.shape.Idx) : (m.slice r hr).view.read (Elt F) (m.view.rep x) j = x (r.emb j) :=
  congrFun (View.read_rep m.view x) (r.emb j)

/-- A whole buffer that reads `x` is held with the values `x`. -/
theorem hold_of_whole {sp : Space} {s : Shape} {e : EltTy} {m : Memref sig .scVector sp s e} (hm : m.IsWhole) (q : PosShare TreeShare)
    (g : Buf (Elt F) (m.view.loc (cT d i))) (x : s.Idx → Elt F e) (h : m.view.read (Elt F) g = x) :
    (m.view.loc (cT d i) ↦{q} g : sProp 𝕄) ⊢ hold (cT d i) m q x := by
  have h1 := hold_of_read (Ix := Ix) (Name := Name) (U := U) (Lvl := Lvl) (cT d i) m q g x h
  rw [hm.set_eq_univ] at h1
  exact h1

/-- The word of a one-axis shape at a place in the order is the word there. -/
theorem symm_val (k : Fin S128.numel) : (S128.rowMajor.symm k 0).val = k.val := by
  rw [← Shape.rowMajor_val_one (d := ![128]) (S128.rowMajor.symm k)]
  exact congrArg Fin.val (Equiv.apply_symm_apply _ _)

/-- What 128 words of a list fetch from the table. -/
theorem payload_eq (T : S270400x128.Idx → F .f32) (N : S8192.Idx → BitVec 32) (hN : ∀ m, (N m).toNat < 270400) (off : Fin 1 → ℕ)
    (inb : ∀ a, off a + S128.size a ≤ S8192.size a) (g : S270400x128.Idx → Elt F .f32) (l : S128.Idx → Elt F .i32)
    (hg : ∀ x, g x = T ((Rect.unit (s := S270400x128) ![0, 0] S270400x128.size inb_S270400x128_S270400x128_0_0).emb x))
    (hl : ∀ x, l x = N ((Rect.unit (s := S8192) off S128.size inb).emb x)) (hn) (hin) :
    SparseCore.gatherPayload (F := F) (e := .f32) gathers_S270400x128_S128x128 g (SparseCore.rows (F := F) (si := S128) l hn hin)
      = fetched T N (off 0) := by
  have hb : off 0 + 128 ≤ 8192 := inb 0
  funext j
  have hj : (j 0).val < 128 := (j 0).isLt
  show g (gathers_S270400x128_S128x128.idx (SparseCore.rows (F := F) (si := S128) l hn hin) j) = T (ix2 _ (j 1))
  rw [hg]
  refine congrArg T (funext fun a => ?_)
  match a with
  | 0 =>
    refine Fin.ext ?_
    show 0 + 1 * (gathers_S270400x128_S128x128.idx (SparseCore.rows (F := F) (si := S128) l hn hin) j gathers_S270400x128_S128x128.axis).val
      = (at8 N (off 0 + (j 0).val)).toNat % 270400
    rw [Shape.Gathers.idx_axis]
    show 0 + 1 * (l (S128.rowMajor.symm _)).toNat = _
    have e : l (S128.rowMajor.symm ((j gathers_S270400x128_S128x128.axis').cast hn.symm)) = at8 N (off 0 + (j 0).val) := by
      rw [hl, at8_of_lt _ _ (by omega)]
      refine congrArg N (funext fun a => ?_)
      match a with
      | 0 =>
        refine Fin.ext ?_
        show off 0 + 1 * (S128.rowMajor.symm ((j gathers_S270400x128_S128x128.axis').cast hn.symm) 0).val = off 0 + (j 0).val
        rw [symm_val]
        show off 0 + 1 * (j 0).val = _
        omega
    have h3 : (at8 N (off 0 + (j 0).val)).toNat < 270400 := hN _
    rw [e]
    omega
  | 1 =>
    refine Fin.ext ?_
    show 0 + 1 * (gathers_S270400x128_S128x128.idx (SparseCore.rows (F := F) (si := S128) l hn hin) j 1).val = (j 1).val
    rw [Shape.Gathers.idx_of_ne _ _ _ _ (by decide)]
    show 0 + 1 * (j 1).val = (j 1).val
    omega

/-- 128 rows of the table are asked for. -/
theorem wp_fetch {α : Type} {Q : α → sProp 𝕄} {k : PUnit → Prog (TpuEff nD τ sig (Elt F) Λ₀ (cT d i).2) α}
    (tm : Memref sig .scVector .hbm S270400x128 .f32) (htm : tm.IsWhole) (nm : Memref sig .scVector .vmem S8192 .i32) (hnm : nm.IsWhole)
    (rm : Memref sig .scVector .vmem S128x128 .f32) (hrm : rm.IsWhole) (sem : DmaSem sig)
    (hcr : ∑ j, (rm.slice (S128x128.rowRect gathers_S270400x128_S128x128.axis' j) (S128x128.stride_rowRect gathers_S270400x128_S128x128.axis' j)).view.dmaCredit = rm.view.dmaCredit)
    (off : Fin 1 → ℕ) (inb : ∀ a, off a + S128.size a ≤ S8192.size a) (q qo : PosShare TreeShare)
    (T : S270400x128.Idx → F .f32) (N : S8192.Idx → BitVec 32) (hN : ∀ m, (N m).toNat < 270400) {h1 h2 h3 h4 h5} (y : S128x128.Idx → F .f32) :
    iprop(hold (cT d i) tm q T ∗ hold (cT d i) rm fullShare y ∗ hold (F := F) (e := .i32) (cT d i) nm qo N ∗ semVal (cT d i, SemLoc.dma sem) 0)
      ⊢ iprop((Transfers.Flight EC (cT d i) (.dma sem) ι rm.view.dmaCredit
            iprop(hold (cT d i) rm fullShare (fetched T N (off 0)) ∗ hold (cT d i) tm q T ∗ hold (F := F) (e := .i32) (cT d i) nm qo N)
          -∗ wp frame (wpE defs 𝒱 (cT d i) bd) Set.univ (k ⟨⟩) Q)
        -∗ wp frame (wpE defs 𝒱 (cT d i) bd) Set.univ
          (SparseCore.enqueueIndirectGather rfl (tabSl tm) rm gathers_S270400x128_S128x128 (nm.slice (Rect.unit (s := S8192) off S128.size inb) (fun _ => rfl)) h1 sem h2 h3 h4 h5 >>= k) Q) := by
  rw [hold_whole (d := d) (i := i) htm, hold_whole (d := d) (i := i) hnm, hold_whole (d := d) (i := i) hrm]
  have er : ∀ x, (tabSl tm).view.read (Elt F) (tm.view.rep T) x = T ((Rect.unit (s := S270400x128) ![0, 0] S270400x128.size inb_S270400x128_S270400x128_0_0).emb x) := fun x =>
    read_slice_rep tm (Rect.unit (s := S270400x128) ![0, 0] S270400x128.size inb_S270400x128_S270400x128_0_0) (fun _ => rfl) T x
  have el : ∀ x, (nm.slice (Rect.unit (s := S8192) off S128.size inb) (fun _ => rfl)).view.read (Elt F) (nm.view.rep (Val := Elt F) N) x = N ((Rect.unit (s := S8192) off S128.size inb).emb x) := fun x =>
    read_slice_rep (F := F) (e := .i32) nm (Rect.unit (s := S8192) off S128.size inb) (fun _ => rfl) N x
  iintro ⟨Ht, Hr, Hn, Hv⟩ Hk
  iapply (SparseCore.wp_gatherFromWhole (defs := defs) EC 𝒱 (cT d i) bd (src := tabSl tm) (dst := rm) (hg := gathers_S270400x128_S128x128)
    (offs := nm.slice (Rect.unit (s := S8192) off S128.size inb) (fun _ => rfl)) (sem := sem) ι rm.view.dmaCredit hcr (by decide)
    (fun x => by rw [el]; exact hN _)) $$ [Ht Hr Hn Hv]
  · isplitl [Ht]; · iexact Ht
    isplitl [Hr]; · iexact Hr
    isplitl [Hn]; · iexact Hn
    iexact Hv
  iintro Hf
  iapply Hk
  iapply (Transfers.Flight_mono EC (cT d i) ?_) $$ Hf
  iintro ⟨Hr, Ht, Hn⟩
  isplitl [Hr]
  · iapply (hold_of_whole d i hrm fullShare _ (fetched T N (off 0)) ((View.read_write_univ _ _).trans (payload_eq T N hN off inb _ _ er el h1 _))) $$ Hr
  isplitl [Ht]; · iexact Ht
  iexact Hn

/-- Waiting for the rows of a list gives back what the copy took, and the rows. -/
theorem wp_arrive {α : Type} {Q : α → sProp 𝕄} {k : PUnit → Prog (TpuEff nD τ sig (Elt F) Λ₀ (cT d i).2) α}
    (tm : Memref sig .scVector .hbm S270400x128 .f32) (rm : Memref sig .scVector .vmem S128x128 .f32) (sem : DmaSem sig) {h1 h2} {D : sProp 𝕄}
    {O : CellTallies nD τ sig Ix} {W : Waits sig Ix} :
    iprop(Transfers.Flight EC (cT d i) (.dma sem) ι rm.view.dmaCredit D ∗ owes (cT d i) O W ∗ Transfers.MayWaits (cT d i) ι O)
      ⊢ iprop((D ∗ semVal (cT d i, SemLoc.dma sem) 0 ∗ owes (cT d i) O (insert (SemLoc.dma sem, ι) W) -∗ wp frame (wpE defs 𝒱 (cT d i) bd) Set.univ (k ⟨⟩) Q)
        -∗ wp frame (wpE defs 𝒱 (cT d i) bd) Set.univ (SparseCore.waitIndirectGather sem (tabSl tm) rm h1 h2 >>= k) Q) := by
  iintro ⟨Hf, HO, #Hmw⟩
  iapply (Transfers.wp_waitLocalO EC 𝒱 (cT d i) bd ι (rfl : rm.view.dmaCredit = _))
  isplitl [Hf]; · iexact Hf
  isplitl [HO]; · iexact HO
  iapply (Transfers.MayWaits.elim (SemLoc.dma sem)) $$ Hmw

/-! ## A column -/

theorem off34_eq : ∀ b : Fin k0_t3_loop.trips, k0_off34 b 0 = 256 * b.val + 128 * 1 := by decide +kernel

theorem off43_eq : ∀ b : Fin k0_t3_loop.trips, k0_off43 b 0 = 256 * (b.val + 1) + 128 * 0 := by decide +kernel

theorem cond1_eq : ∀ b : Fin k0_t3_loop.trips, k0_cond1 b = 1#1 ↔ b.val + 1 < 32 := by decide +kernel

theorem base0_eq : ∀ b : Fin k0_t3_loop.trips, (Scalar.muli 2#32 (Scf.iv 0#32 1#32 b)).toNat = 2 * b.val + 0 := by decide +kernel

theorem base1_eq : ∀ b : Fin k0_t3_loop.trips, (Scalar.addi (Scalar.muli 2#32 (Scf.iv 0#32 1#32 b)) 1#32).toNat = 2 * b.val + 1 := by decide +kernel

/-- One more wait at `ι` keeps a set of waits what it was but for `ι`. -/
theorem owed_insert {ι : Ix} {Ws W' : Waits sig Ix} {s : SemLoc sig} (h : ∀ p ∈ W', p ∈ Ws ∨ p.2 = ι) (p : SemLoc sig × Ix) (hp : p ∈ insert (s, ι) W') :
    p ∈ Ws ∨ p.2 = ι := by
  rcases Finset.mem_insert.1 hp with e | e
  · exact .inr (by rw [e])
  · exact h p e

/-- Vectors of zeros are the sum of no rows. -/
theorem sums_zero (T : S270400x128.Idx → F .f32) (N : S8192.Idx → BitVec 32) (W : S8192.Idx → F .f32) (b : ℕ) :
    sums T N W b 0 (k0_pay86 (F := F), k0_pay86 (F := F), k0_pay86 (F := F), k0_pay86 (F := F), k0_pay86 (F := F), k0_pay86 (F := F), k0_pay86 (F := F), k0_pay86 (F := F)) := by
  intro k l
  match k with
  | 0 => rfl
  | 1 => rfl
  | 2 => rfl
  | 3 => rfl
  | 4 => rfl
  | 5 => rfl
  | 6 => rfl
  | 7 => rfl

section Col

variable (arg2 : Memref sig .scVector .hbm S270400x128 .f32) (arg16 : Memref sig .scVector .vmem S8192 .i32) (arg17 : Memref sig .scVector .vmem S8192 .f32)
  (arg18 : Memref sig .scVector .vmem S128x128 .f32) (harg18 : arg18.IsWhole) (arg19 : Memref sig .scVector .vmem S128x128 .f32) (harg19 : arg19.IsWhole)
  (arg20 : Memref sig .scVector .vmem S32x128 .f32) (arg21 arg22 : DmaSems sig S_)

/-- The first half of a column on its way into the first of the two row buffers (before column `b` of 32), or, when no
column is left, what it takes home. -/
def fstI (q1 : PosShare TreeShare) (T : S270400x128.Idx → F .f32) (N : S8192.Idx → BitVec 32) (b : ℕ) : sProp 𝕄 :=
  if b < 32 then
    Transfers.Flight EC (cT d i) (.dma arg21.sem) ι arg18.view.dmaCredit
      iprop(hold (cT d i) arg18 fullShare (fetched T N (256 * b + 128 * 0)) ∗ hold (cT d i) arg2 q1 T ∗ hold (F := F) (e := .i32) (cT d i) arg16 fullShare.left N)
  else iprop((∃ y, hold (cT d i) arg18 fullShare y) ∗ hold (cT d i) arg2 q1 T ∗ hold (F := F) (e := .i32) (cT d i) arg16 fullShare.left N ∗ semVal (cT d i, SemLoc.dma arg21.sem) 0)

theorem fstI_lt (q1 : PosShare TreeShare) (T : S270400x128.Idx → F .f32) (N : S8192.Idx → BitVec 32) (b : ℕ) (hb : b < 32) :
    fstI d i EC ι arg2 arg16 arg18 arg21 q1 T N b ⊣⊢ Transfers.Flight EC (cT d i) (.dma arg21.sem) ι arg18.view.dmaCredit
      iprop(hold (cT d i) arg18 fullShare (fetched T N (256 * b + 128 * 0)) ∗ hold (cT d i) arg2 q1 T ∗ hold (F := F) (e := .i32) (cT d i) arg16 fullShare.left N) := by
  unfold fstI; rw [if_pos hb]

theorem fstI_ge (q1 : PosShare TreeShare) (T : S270400x128.Idx → F .f32) (N : S8192.Idx → BitVec 32) (b : ℕ) (hb : ¬ b < 32) :
    fstI d i EC ι arg2 arg16 arg18 arg21 q1 T N b
      ⊣⊢ iprop((∃ y, hold (cT d i) arg18 fullShare y) ∗ hold (cT d i) arg2 q1 T ∗ hold (F := F) (e := .i32) (cT d i) arg16 fullShare.left N ∗ semVal (cT d i, SemLoc.dma arg21.sem) 0) := by
  unfold fstI; rw [if_neg hb]

/-- The loop over columns before column `b`. -/
def colI (q1 q2 : PosShare TreeShare) (T : S270400x128.Idx → F .f32) (N : S8192.Idx → BitVec 32) (W : S8192.Idx → F .f32)
    (O : CellTallies nD τ sig Ix) (Ws : Waits sig Ix) (b : ℕ) : sProp 𝕄 :=
  iprop(Transfers.MayWaits (cT d i) ι O ∗ (∃ W', ⌜∀ p ∈ W', p ∈ Ws ∨ p.2 = ι⌝ ∗ owes (cT d i) O W')
    ∗ hold (cT d i) arg2 q2 T ∗ hold (F := F) (e := .i32) (cT d i) arg16 fullShare.right N ∗ (∃ y, hold (cT d i) arg19 fullShare y)
    ∗ semVal (cT d i, SemLoc.dma arg22.sem) 0 ∗ hold (cT d i) arg17 fullShare W ∗ outI d i arg20 (total T N W) (b * 8)
    ∗ fstI d i EC ι arg2 arg16 arg18 arg21 q1 T N b)

set_option maxHeartbeats 2000000 in
/-- The second half of a column: its rows arrive, the sums go on over them, and the column's line of the output is written. -/
theorem wp_colSnd (q1 q2 : PosShare TreeShare) (T : S270400x128.Idx → F .f32) (N : S8192.Idx → BitVec 32)
    (W : S8192.Idx → F .f32) (O : CellTallies nD τ sig Ix) (Ws : Waits sig Ix) (b : Fin k0_t3_loop.trips) (A : Gen.Acc F) (hA : sums T N W b.val 128 A)
    (W₂ : Waits sig Ix) (hW₂ : ∀ p ∈ W₂, p ∈ Ws ∨ p.2 = ι) {h1 h2} :
    iprop(Transfers.MayWaits (cT d i) ι O ∗ outI d i arg20 (total T N W) (b.val * 8)
      ∗ Transfers.Flight EC (cT d i) (.dma arg22.sem) ι arg19.view.dmaCredit
          iprop(hold (cT d i) arg19 fullShare (fetched T N (256 * b.val + 128 * 1)) ∗ hold (cT d i) arg2 q2 T ∗ hold (F := F) (e := .i32) (cT d i) arg16 fullShare.right N)
      ∗ owes (cT d i) O W₂ ∗ hold (cT d i) arg17 fullShare W ∗ fstI d i EC ι arg2 arg16 arg18 arg21 q1 T N (b.val + 1))
      ⊢ wp frame (wpE defs 𝒱 (cT d i) bd) Set.univ
          ((do
            SparseCore.waitIndirectGather arg22.sem (tabSl arg2) arg19 h1 h2
            pure ⟨Scf.iv 0#32 1#32 b, A.1, A.2.1, A.2.2.1, A.2.2.2.1, A.2.2.2.2.1, A.2.2.2.2.2.1, A.2.2.2.2.2.2.1, A.2.2.2.2.2.2.2, Scalar.addi (Scalar.muli 2#32 (Scf.iv 0#32 1#32 b)) 1#32, 0#32, 1#32⟩) : TileProg F i (Half F))
          fun H => wp frame (wpE defs 𝒱 (cT d i) bd) Set.univ
            ((do
              let B ← Scf.Loop.for k0_t4_loop k0_t4_ok H.acc (accBody i arg19 arg17 H.2.2.2.2.2.2.2.2.2.1 H.2.2.2.2.2.2.2.2.2.2.1 H.2.2.2.2.2.2.2.2.2.2.2)
              rows (outPut i arg20 b B) 8 le_rfl
              pure 0#32) : TileProg F i (BitVec 32))
            fun _ => colI d i EC ι arg2 arg16 arg17 arg18 arg19 arg20 arg21 arg22 q1 q2 T N W O Ws (b.val + 1) := by
  have hb : b.val < 32 := b.isLt
  iintro ⟨#Hmw, Ho, Hg, HO, Hw, Hf⟩
  iapply (wp_arrive 𝒱 d i bd EC ι arg2 arg19 arg22.sem) $$ [Hg HO]
  · iframe Hg HO Hmw
  iintro ⟨⟨Hr, Ht, Hn⟩, Hv, HO⟩
  simp only [Prog.pure_eq_ret]
  iapply (le_wp_ret Idealize.ShloMosaic.frame (wpE defs 𝒱 (cT d i) bd) Set.univ _ _)
  iapply (Scf.wp_for_bind frame (wpE defs 𝒱 (cT d i) bd) Set.univ _ _ _ _ _ _ (accI d i arg19 arg17 T N W b.val 1)
    (fun r A => wp_accBody 𝒱 d i bd Set.univ arg19 arg17 T N W b.val 1 hb (by omega) _ (base1_eq b) r A)) $$ [Hr Hw]
  · unfold accI
    iframe Hr Hw
    ipureintro
    exact hA
  iintro %B HI
  unfold accI
  icases HI with ⟨Hr, Hw, %hB⟩
  iapply (wp_rows_bind 𝒱 (cT d i) bd Set.univ (outPut i arg20 b B) (fun k => outI d i arg20 (total T N W) (b.val * 8 + k))
    (fun k => wp_outPut 𝒱 d i bd Set.univ arg20 T N W b B hB k) 8 le_rfl) $$ Ho
  iintro Ho
  simp only [Prog.pure_eq_ret]
  iapply (le_wp_ret Idealize.ShloMosaic.frame (wpE defs 𝒱 (cT d i) bd) Set.univ _ _)
  unfold colI
  rw [show (b.val + 1) * 8 = b.val * 8 + 8 by omega]
  iframe Hmw Ht Hn Hv Hw Ho Hf
  isplitl [HO]
  · iexists _
    isplitr [HO]
    rotate_left
    · iexact HO
    ipureintro
    exact owed_insert hW₂
  iexists _
  iexact Hr

set_option maxHeartbeats 2000000 in
/-- One column. -/
theorem wp_colBody (h2 : arg2.IsWhole) (h16 : arg16.IsWhole)
    (hcr : ∀ rm : Memref sig .scVector .vmem S128x128 .f32, ∑ j, (rm.slice (S128x128.rowRect gathers_S270400x128_S128x128.axis' j)
      (S128x128.stride_rowRect gathers_S270400x128_S128x128.axis' j)).view.dmaCredit = rm.view.dmaCredit)
    (q1 q2 : PosShare TreeShare) (T : S270400x128.Idx → F .f32) (N : S8192.Idx → BitVec 32) (hN : ∀ m, (N m).toNat < 270400)
    (W : S8192.Idx → F .f32) (O : CellTallies nD τ sig Ix) (Ws : Waits sig Ix) (b : Fin k0_t3_loop.trips) (x : BitVec 32) :
    colI d i EC ι arg2 arg16 arg17 arg18 arg19 arg20 arg21 arg22 q1 q2 T N W O Ws b.val
      ⊢ wp frame (wpE defs 𝒱 (cT d i) bd) Set.univ (colBody i arg2 arg16 arg17 arg18 harg18 arg19 harg19 arg20 arg21 arg22 b x)
          fun _ => colI d i EC ι arg2 arg16 arg17 arg18 arg19 arg20 arg21 arg22 q1 q2 T N W O Ws (b.val + 1) := by
  have hb : b.val < 32 := b.isLt
  unfold colBody
  rw [wp_bind]
  unfold colFst colI
  iintro ⟨#Hmw, ⟨%W', %hW', HO⟩, Ht, Hn, ⟨%y, Hr⟩, Hv, Hw, Ho, Hf⟩
  iapply (wp_fetch 𝒱 d i bd EC ι arg2 h2 arg16 h16 arg19 harg19 arg22.sem (hcr _) _ _ q2 fullShare.right T N hN y) $$ [Ht Hr Hn Hv]
  · iframe Ht Hr Hn Hv
  iintro Hg
  ihave Hf := (fstI_lt d i EC ι arg2 arg16 arg18 arg21 q1 T N b.val hb).1 $$ Hf
  iapply (wp_arrive 𝒱 d i bd EC ι arg2 arg18 arg21.sem) $$ [Hf HO]
  · iframe Hf HO Hmw
  iintro ⟨⟨Hr0, Ht1, Hn1⟩, Hv0, HO⟩
  iapply (Scf.wp_for_bind frame (wpE defs 𝒱 (cT d i) bd) Set.univ _ _ _ _ _ _ (accI d i arg18 arg17 T N W b.val 0)
    (fun r A => wp_accBody 𝒱 d i bd Set.univ arg18 arg17 T N W b.val 0 hb (by omega) _ (base0_eq b) r A)) $$ [Hr0 Hw]
  · unfold accI
    iframe Hr0 Hw
    ipureintro
    exact sums_zero T N W b.val
  iintro %A HI
  unfold accI
  icases HI with ⟨Hr0, Hw, %hA⟩
  by_cases h : k0_cond1 b = 1#1
  · rw [dif_pos h]
    iapply (wp_fetch 𝒱 d i bd EC ι arg2 h2 arg16 h16 arg18 harg18 arg21.sem (hcr _) _ _ q1 fullShare.left T N hN _) $$ [Ht1 Hr0 Hn1 Hv0]
    · iframe Ht1 Hr0 Hn1 Hv0
    iintro Hf
    rw [off43_eq]
    ihave Hf := (fstI_lt d i EC ι arg2 arg16 arg18 arg21 q1 T N (b.val + 1) ((cond1_eq b).1 h)).2 $$ Hf
    iapply (wp_colSnd 𝒱 d i bd EC ι arg2 arg16 arg17 arg18 arg19 arg20 arg21 arg22 q1 q2 T N W O Ws b A hA _ (owed_insert hW'))
    rw [off34_eq]
    iframe Hmw Ho Hg HO Hw Hf
  · rw [dif_neg h]
    ihave Hf := (fstI_ge d i EC ι arg2 arg16 arg18 arg21 q1 T N (b.val + 1) (fun e => h ((cond1_eq b).2 e))).2 $$ [Hr0 Ht1 Hn1 Hv0]
    · isplitl [Hr0]; · iexists _; iexact Hr0
      iframe Ht1 Hn1 Hv0
    iapply (wp_colSnd 𝒱 d i bd EC ι arg2 arg16 arg17 arg18 arg19 arg20 arg21 arg22 q1 q2 T N W O Ws b A hA _ (owed_insert hW'))
    rw [off34_eq]
    iframe Hmw Ho Hg HO Hw Hf

end Col

end Cert.KernelIdeal.Lanes

end
-- ==== Proof.ChunkKernelIdeal.lean ====
/-
  A chunk of the kernel's body: thirty-two columns, from their bins to the thirty-two rows of the result.
-/
module

public import proofs.«01_k».proof.Proof.ColKernelIdeal

@[expose] public section

noncomputable section

namespace Cert.KernelIdeal.Lanes

open Cert.KernelIdeal Cert.KernelIdeal.Gen
open Cert.Proof.Hold Cert.Proof.Spec
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (d : Dev nD) (i : grid0.Coords) (bd : Option 𝒱.V)
variable [Infinite Name] (EC : UEmb Counters (MT nD τ sig Ix (Elt F) Name U Lvl)) [EC.LandsIn (upEmb : UEmb _ (MT nD τ sig Ix (Elt F) Name U Lvl))] (ι : Ix)

/-! ## Copies -/

include EC in
/-- A copy and the wait for it: the destination then holds what the source reads. -/
theorem wp_copy {sp sp' : Space} {s : Shape} {e : EltTy} {α : Type} {Q : α → sProp 𝕄} {k : PUnit → Prog (TpuEff nD τ sig (Elt F) Λ₀ (cT d i).2) α}
    (src : Memref sig .scVector sp s e) (dst : Memref sig .scVector sp' s e) (sem : DmaSem sig) {h1 h2 h3 h4 h5} (q : PosShare TreeShare)
    (fs : Buf (Elt F) (src.view.loc (cT d i))) (Sd : Finset (Idx (dst.view.loc (cT d i)))) (fd : Buf (Elt F) (dst.view.loc (cT d i)))
    (hp : 0 < dst.view.dmaCredit) (hSd : dst.view.set ⊆ Sd) (O : CellTallies nD τ sig Ix) (W : Waits sig Ix) :
    iprop((src.view.loc (cT d i) ↦{q} fs) ∗ (dst.view.loc (cT d i) ↦[Sd]{fullShare} fd) ∗ semVal (cT d i, SemLoc.dma sem) 0 ∗ owes (cT d i) O W ∗ Transfers.MayWaits (cT d i) ι O)
      ⊢ iprop(((src.view.loc (cT d i) ↦{q} fs) ∗ (dst.view.loc (cT d i) ↦[Sd]{fullShare} dst.view.write (Elt F) fd (src.view.read (Elt F) fs) Finset.univ)
            ∗ semVal (cT d i, SemLoc.dma sem) 0 ∗ owes (cT d i) O (insert (SemLoc.dma sem, ι) W) -∗ wp frame (wpE defs 𝒱 (cT d i) bd) Set.univ (k ⟨⟩) Q)
        -∗ wp frame (wpE defs 𝒱 (cT d i) bd) Set.univ (.op (.enqueueDma src (.here dst) (.dma sem) h1 h2 h3) fun _ => .op (.waitDma2 sem src dst h4 h5) k) Q) := by
  iintro ⟨Hs, Hd, Hv, HO, #Hmw⟩ Hk
  iapply (Transfers.wp_dmaFromWhole EC 𝒱 (cT d i) bd ι dst.view.dmaCredit rfl hp hSd) $$ [Hs Hd Hv]
  · iframe Hs Hd Hv
  iintro Hf
  iapply (Transfers.wp_waitLocalO EC 𝒱 (cT d i) bd ι (rfl : dst.view.dmaCredit = _)) $$ [Hf HO]
  · isplitl [Hf]; · iexact Hf
    isplitl [HO]; · iexact HO
    iapply (Transfers.MayWaits.elim (SemLoc.dma sem)) $$ Hmw
  iintro ⟨⟨Hd, Hs⟩, Hv, HO⟩
  iapply Hk
  iframe Hs Hd Hv HO

/-- A whole memref is held as its buffer is. -/
theorem hold_open {sp : Space} {s : Shape} {e : EltTy} {m : Memref sig .scVector sp s e} (hm : m.IsWhole) (q : PosShare TreeShare) (x : s.Idx → Elt F e) :
    (hold (cT d i) m q x : sProp 𝕄) ⊣⊢ (m.view.loc (cT d i) ↦{q} m.view.rep x) := by
  rw [hold_whole (d := d) (i := i) hm]

/-- A held share is two shares. -/
theorem hold_share {sp : Space} {s : Shape} {e : EltTy} (m : Memref sig .scVector sp s e) (q : PosShare TreeShare) (x : s.Idx → Elt F e) :
    (hold (cT d i) m q x : sProp 𝕄) ⊣⊢ iprop(hold (cT d i) m q.left x ∗ hold (cT d i) m q.right x) := by
  unfold hold; exact pointsTo_share (PosShare.mem_left_op_right q)

/-! ## Row numbers and weights -/

section Build

variable (arg12 arg13 : Memref sig .scVector .vmem S8x32 .i32) (arg14 arg15 : Memref sig .scVector .vmem S8x32 .f32)
  (arg16 : Memref sig .scVector .vmem S8192 .i32) (arg17 : Memref sig .scVector .vmem S8192 .f32)

/-- Every block of every column. -/
theorem wp_bldAll (bx bz : S8x32.Idx → BitVec 32) (dx dz : S8x32.Idx → F .f32) :
    bldI (Ix := Ix) (Name := Name) (U := U) (Lvl := Lvl) d i arg12 arg13 arg14 arg15 arg16 arg17 bx bz dx dz 0
      ⊢ wp frame (wpE defs 𝒱 (cT d i) bd) Set.univ (bldAll (F := F) i arg12 arg13 arg14 arg15 arg16 arg17 lanes) fun _ => bldI d i arg12 arg13 arg14 arg15 arg16 arg17 bx bz dx dz 8192 := by
  unfold bldAll
  iintro H
  iapply (Scf.wp_for_bind frame (wpE defs 𝒱 (cT d i) bd) Set.univ _ _ _ _ _ _ (fun b _ => bldI d i arg12 arg13 arg14 arg15 arg16 arg17 bx bz dx dz (256 * b)) ?_) $$ H
  · intro b _
    iintro H
    iapply (wp_rows_bind 𝒱 (cT d i) bd Set.univ (bld i arg12 arg13 arg14 arg15 arg16 arg17 lanes b) (fun q => bldI d i arg12 arg13 arg14 arg15 arg16 arg17 bx bz dx dz (256 * b.val + 64 * q))
      (fun q => wp_bld 𝒱 d i bd Set.univ arg12 arg13 arg14 arg15 arg16 arg17 bx bz dx dz b q) 4 le_rfl) $$ H
    iintro H
    simp only [Prog.pure_eq_ret]
    iapply (le_wp_ret Idealize.ShloMosaic.frame (wpE defs 𝒱 (cT d i) bd) Set.univ _ _)
    iexact H
  iintro %_ H
  simp only [Prog.pure_eq_ret]
  iapply (le_wp_ret Idealize.ShloMosaic.frame (wpE defs 𝒱 (cT d i) bd) Set.univ _ _)
  iexact H

end Build

/-- Sums over equal numbers and weights are equal. -/
theorem acc_congr (T : S270400x128.Idx → F .f32) {N N' : ℕ → BitVec 32} {W W' : ℕ → F .f32} (o : Fin 128) (n : ℕ) (hN : ∀ p < n, N p = N' p) (hW : ∀ p < n, W p = W' p) :
    acc T N W o n = acc T N' W' o n := by
  induction n with
  | zero => rfl
  | succ n ih =>
    show FloatOps.addf (acc T N W o n) _ = FloatOps.addf (acc T N' W' o n) _
    rw [ih (fun p h => hN p (by omega)) (fun p h => hW p (by omega)), hN n (by omega), hW n (by omega)]

/-- A chunk's sums are its columns' results. -/
theorem total_eq (T : S270400x128.Idx → F .f32) (B : S72.Idx → F .f32) (L : S64.Idx → F .f32) (xs zs : S8x128.Idx → F .f32) (t : Fin k0_t1_loop.trips) (j : S32x128.Idx) :
    total T (numT (binT xs t) (binT zs t)) (wtT (difT xs B L t) (difT zs B L t)) j
      = colOut T B L (fun r => xs (ix2 r (colIx t (j 0)))) (fun r => zs (ix2 r (colIx t (j 0)))) (j 1) := by
  have hj : (j 0).val < 32 := (j 0).isLt
  unfold total part colOut
  refine acc_congr T _ _ (fun p hp => ?_) (fun p hp => ?_)
  · rw [at8_of_lt _ _ (by omega)]
    unfold numT
    have e1 : (⟨(256 * (j 0).val + p) / 256, by omega⟩ : Fin 32) = j 0 := Fin.ext (by show (256 * (j 0).val + p) / 256 = (j 0).val; omega)
    have e2 : (256 * (j 0).val + p) % 256 = p := by omega
    show num (fun r => binT xs t (ix2 r ⟨(256 * (j 0).val + p) / 256, _⟩)) (fun r => binT zs t (ix2 r ⟨(256 * (j 0).val + p) / 256, _⟩)) ((256 * (j 0).val + p) % 256) = _
    rw [e1, e2]
    rfl
  · rw [at8_of_lt _ _ (by omega)]
    unfold wtT
    have e1 : (⟨(256 * (j 0).val + p) / 256, by omega⟩ : Fin 32) = j 0 := Fin.ext (by show (256 * (j 0).val + p) / 256 = (j 0).val; omega)
    have e2 : (256 * (j 0).val + p) % 256 = p := by omega
    show wt (fun r => difT xs B L t (ix2 r ⟨(256 * (j 0).val + p) / 256, _⟩)) (fun r => difT zs B L t (ix2 r ⟨(256 * (j 0).val + p) / 256, _⟩)) ((256 * (j 0).val + p) % 256) = _
    rw [e1, e2]
    rfl

/-- A chunk's row numbers are rows of the table. -/
theorem numT_lt (xs zs : S8x128.Idx → F .f32) (t : Fin k0_t1_loop.trips) (m : S8192.Idx) : (numT (binT xs t) (binT zs t) m).toNat < 270400 :=
  num_lt _ _ (fun _ => bin_lt _) (fun _ => bin_lt _) _ (Nat.mod_lt _ (by decide))

/-! ## A chunk -/

section Chunk

variable (arg2 : Memref sig .scVector .hbm S270400x128 .f32) (arg7 : Memref sig .scVector .hbm S4096x128 .f32)
  (arg8 arg9 : Memref sig .scVector .vmem S8x128 .f32) (arg10 : Memref sig .scVector .vmem S72 .f32) (arg11 : Memref sig .scVector .vmem S64 .f32)
  (arg12 arg13 : Memref sig .scVector .vmem S8x32 .i32) (arg14 arg15 : Memref sig .scVector .vmem S8x32 .f32)
  (arg16 : Memref sig .scVector .vmem S8192 .i32) (arg17 : Memref sig .scVector .vmem S8192 .f32)
  (arg18 : Memref sig .scVector .vmem S128x128 .f32) (harg18 : arg18.IsWhole) (arg19 : Memref sig .scVector .vmem S128x128 .f32) (harg19 : arg19.IsWhole)
  (arg20 : Memref sig .scVector .vmem S32x128 .f32) (harg20 : arg20.IsWhole) (arg21 arg22 v1170_r4 : DmaSems sig S_)

/-- The first row of the result that is the tile's. -/
def row0 : ℕ := 256 * (i 1).val + 128 * (i 0).val

/-- The result's rows of the tile, the first `n` of them as they should be. -/
def resI (Sd : Finset (Idx (arg7.view.loc (cT d i)))) (R : S4096x128.Idx → F .f32) (n : ℕ) : sProp 𝕄 :=
  iprop(∃ g : Buf (Elt F) (arg7.view.loc (cT d i)), ⌜∀ j : S4096x128.Idx, row0 i ≤ (j 0).val → (j 0).val < row0 i + n → arg7.view.read (Elt F) g j = R j⌝
    ∗ (arg7.view.loc (cT d i) ↦[Sd]{fullShare} g))

/-- The loop over chunks before chunk `t`. -/
def chunkI (q : PosShare TreeShare) (T : S270400x128.Idx → F .f32) (B : S72.Idx → F .f32) (L : S64.Idx → F .f32) (xs zs : S8x128.Idx → F .f32)
    (Sd : Finset (Idx (arg7.view.loc (cT d i)))) (R : S4096x128.Idx → F .f32) (O : CellTallies nD τ sig Ix) (Ws : Waits sig Ix) (t : ℕ) : sProp 𝕄 :=
  iprop(Transfers.MayWaits (cT d i) ι O ∗ (∃ W', ⌜∀ p ∈ W', p ∈ Ws ∨ p.2 = ι⌝ ∗ owes (cT d i) O W')
    ∗ hold (cT d i) arg2 q T ∗ hold (cT d i) arg8 fullShare xs ∗ hold (cT d i) arg9 fullShare zs ∗ hold (cT d i) arg10 fullShare B ∗ hold (cT d i) arg11 fullShare L
    ∗ (∃ y, hold (F := F) (e := .i32) (cT d i) arg12 fullShare y) ∗ (∃ y, hold (F := F) (e := .i32) (cT d i) arg13 fullShare y)
    ∗ (∃ y, hold (cT d i) arg14 fullShare y) ∗ (∃ y, hold (cT d i) arg15 fullShare y)
    ∗ (∃ y, hold (F := F) (e := .i32) (cT d i) arg16 fullShare y) ∗ (∃ y, hold (cT d i) arg17 fullShare y)
    ∗ (∃ y, hold (cT d i) arg18 fullShare y) ∗ (∃ y, hold (cT d i) arg19 fullShare y) ∗ (∃ y, hold (cT d i) arg20 fullShare y)
    ∗ semVal (cT d i, SemLoc.dma arg21.sem) 0 ∗ semVal (cT d i, SemLoc.dma arg22.sem) 0 ∗ semVal (cT d i, SemLoc.dma v1170_r4.sem) 0
    ∗ resI d i arg7 Sd R (32 * t))

theorem ord_lt (j : S8x32.Idx) : ord j < 16 := by
  have h0 : (j 0).val < 8 := (j 0).isLt
  have h1 : (j 1).val < 32 := (j 1).isLt
  unfold ord
  omega

/-- One half of a chunk's bins and offsets. -/
theorem wp_half {α : Type} {Q : α → sProp 𝕄} {k : PUnit → Prog (TpuEff nD τ sig (Elt F) Λ₀ (cT d i).2) α} (src : Memref sig .scVector .vmem S8x128 .f32) (bm : Memref sig .scVector .vmem S72 .f32)
    (lm : Memref sig .scVector .vmem S64 .f32) (im : Memref sig .scVector .vmem S8x32 .i32) (dm : Memref sig .scVector .vmem S8x32 .f32)
    (xs : S8x128.Idx → F .f32) (B : S72.Idx → F .f32) (L : S64.Idx → F .f32) (t : Fin k0_t1_loop.trips) (g : Fin 2) :
    grpI (Ix := Ix) (Name := Name) (U := U) (Lvl := Lvl) d i src bm lm im dm xs B L t (8 * g.val)
      ⊢ iprop((grpI d i src bm lm im dm xs B L t (8 * g.val + 8) -∗ wp frame (wpE defs 𝒱 (cT d i) bd) Set.univ (k ⟨⟩) Q)
        -∗ wp frame (wpE defs 𝒱 (cT d i) bd) Set.univ (rows (grp i src bm lm im dm t g) 8 le_rfl >>= k) Q) :=
  wp_rows_bind 𝒱 (cT d i) bd Set.univ (grp i src bm lm im dm t g) (fun r => grpI d i src bm lm im dm xs B L t (8 * g.val + r))
    (fun r => wp_grp 𝒱 d i bd Set.univ src bm lm im dm xs B L t g r) 8 le_rfl

/-- Writing a chunk's rows brings the tile's rows forward by thirty-two. -/
theorem res_step (R : S4096x128.Idx → F .f32) {t : Fin k0_t1_loop.trips} (Y : S32x128.Idx → F .f32)
    (hY : ∀ j : S32x128.Idx, Y j = R ((Rect.unit (s := S4096x128) (k0_off60 i t) S32x128.size (k0_off60_inb i t)).emb j))
    (g : Buf (Elt F) (arg7.view.loc (cT d i)))
    (hg : ∀ j : S4096x128.Idx, row0 i ≤ (j 0).val → (j 0).val < row0 i + 32 * t.val → arg7.view.read (Elt F) g j = R j)
    (j : S4096x128.Idx) (h0 : row0 i ≤ (j 0).val) (h1 : (j 0).val < row0 i + 32 * (t.val + 1)) :
    arg7.view.read (Elt F) ((arg7.slice (Rect.unit (s := S4096x128) (k0_off60 i t) S32x128.size (k0_off60_inb i t)) (fun _ => rfl)).view.write (Elt F) g
      (arg20.view.read (Elt F) (arg20.view.rep Y)) Finset.univ) j = R j := by
  rw [View.read_rep]
  show arg7.view.read (Elt F) (arg7.view.writes (Elt F) g [⟨Rect.unit (s := S4096x128) (k0_off60 i t) S32x128.size (k0_off60_inb i t), Y⟩]) j = R j
  have e0 : k0_off60 i t 0 = row0 i + 32 * t.val := by rw [k0_off60_eq]; rfl
  have e1 : k0_off60 i t 1 = 0 := by rw [k0_off60_eq]; rfl
  have hj1 : (j 1).val < 128 := (j 1).isLt
  by_cases h : (j 0).val < row0 i + 32 * t.val
  · have hj' : j ∉ (Rect.unit (s := S4096x128) (k0_off60 i t) S32x128.size (k0_off60_inb i t)).set := fun hm => by
      obtain ⟨k, hk⟩ := (Rect.unit (s := S4096x128) (k0_off60 i t) S32x128.size (k0_off60_inb i t)).toLoadRect.exists_idx_of_mem hm
      have h2 : k0_off60 i t 0 + 1 * (k 0).val = (j 0).val := congrArg (fun x : S4096x128.Idx => (x 0).val) hk
      omega
    rw [View.read_writes_apply_of_forall_not_mem _ _ _ _ (by simpa using hj')]
    exact hg j h0 h
  · obtain ⟨k, hk⟩ : ∃ k : S32x128.Idx, (Rect.unit (s := S4096x128) (k0_off60 i t) S32x128.size (k0_off60_inb i t)).emb k = j := by
      refine ⟨ix2 (n0 := 32) (n1 := 128) ⟨(j 0).val - (row0 i + 32 * t.val), by omega⟩ ⟨(j 1).val, hj1⟩, funext fun a => Fin.ext ?_⟩
      match a with
      | 0 =>
        show k0_off60 i t 0 + 1 * ((j 0).val - (row0 i + 32 * t.val)) = (j 0).val
        omega
      | 1 =>
        show k0_off60 i t 1 + 1 * (j 1).val = (j 1).val
        omega
    rw [← hk, View.read_writes_cons_emb]
    exact hY k

include EC in
set_option maxHeartbeats 4000000 in
/-- One chunk. -/
theorem wp_chunkBody (h2 : arg2.IsWhole) (h16 : arg16.IsWhole)
    (hcr : ∀ rm : Memref sig .scVector .vmem S128x128 .f32, ∑ j, (rm.slice (S128x128.rowRect gathers_S270400x128_S128x128.axis' j)
      (S128x128.stride_rowRect gathers_S270400x128_S128x128.axis' j)).view.dmaCredit = rm.view.dmaCredit)
    (q : PosShare TreeShare) (T : S270400x128.Idx → F .f32) (B : S72.Idx → F .f32) (L : S64.Idx → F .f32) (xs zs : S8x128.Idx → F .f32)
    (Sd : Finset (Idx (arg7.view.loc (cT d i)))) (hSd : ∀ t, (arg7.slice (Rect.unit (s := S4096x128) (k0_off60 i t) S32x128.size (k0_off60_inb i t)) (fun _ => rfl)).view.set ⊆ Sd)
    (hp : ∀ t, 0 < (arg7.slice (Rect.unit (s := S4096x128) (k0_off60 i t) S32x128.size (k0_off60_inb i t)) (fun _ => rfl)).view.dmaCredit)
    (R : S4096x128.Idx → F .f32)
    (hR : ∀ t (j : S32x128.Idx), R ((Rect.unit (s := S4096x128) (k0_off60 i t) S32x128.size (k0_off60_inb i t)).emb j)
      = colOut T B L (fun r => xs (ix2 r (colIx t (j 0)))) (fun r => zs (ix2 r (colIx t (j 0)))) (j 1))
    (O : CellTallies nD τ sig Ix) (Ws : Waits sig Ix) (t : Fin k0_t1_loop.trips) (x : BitVec 32) :
    chunkI (Ix := Ix) (Name := Name) (U := U) (Lvl := Lvl) d i ι arg2 arg7 arg8 arg9 arg10 arg11 arg12 arg13 arg14 arg15 arg16 arg17 arg18 arg19 arg20 arg21 arg22 v1170_r4 q T B L xs zs Sd R O Ws t.val
      ⊢ wp frame (wpE defs 𝒱 (cT d i) bd) Set.univ (chunkBody i arg2 arg7 arg8 arg9 arg10 arg11 arg12 arg13 arg14 arg15 arg16 arg17 arg18 harg18 arg19 harg19 arg20 harg20 arg21 arg22 v1170_r4 lanes t x)
          fun _ => chunkI d i ι arg2 arg7 arg8 arg9 arg10 arg11 arg12 arg13 arg14 arg15 arg16 arg17 arg18 arg19 arg20 arg21 arg22 v1170_r4 q T B L xs zs Sd R O Ws (t.val + 1) := by
  unfold chunkBody chunkI
  iintro ⟨#Hmw, ⟨%W', %hW', HO⟩, Ht, Hx, Hz, Hb, Hl, ⟨%y12, H12⟩, ⟨%y13, H13⟩, ⟨%y14, H14⟩, ⟨%y15, H15⟩, ⟨%y16, H16⟩, ⟨%y17, H17⟩, ⟨%y18, H18⟩, ⟨%y19, H19⟩, ⟨%y20, H20⟩, Hv1, Hv2, Hv4, Hres⟩
  iapply (wp_half 𝒱 d i bd arg8 arg10 arg11 arg12 arg14 xs B L t 0) $$ [Hx Hb Hl H12 H14]
  · unfold grpI
    iframe Hx Hb Hl
    isplitl [H12]
    · iexists y12
      iframe H12
      ipureintro
      exact fun j hj => absurd hj (Nat.not_lt_zero _)
    · iexists y14
      iframe H14
      ipureintro
      exact fun j hj => absurd hj (Nat.not_lt_zero _)
  unfold grpI
  iintro ⟨Hx, Hb, Hl, H12, H14⟩
  iapply (wp_half 𝒱 d i bd arg9 arg10 arg11 arg13 arg15 zs B L t 0) $$ [Hz Hb Hl H13 H15]
  · unfold grpI
    iframe Hz Hb Hl
    isplitl [H13]
    · iexists y13
      iframe H13
      ipureintro
      exact fun j hj => absurd hj (Nat.not_lt_zero _)
    · iexists y15
      iframe H15
      ipureintro
      exact fun j hj => absurd hj (Nat.not_lt_zero _)
  unfold grpI
  iintro ⟨Hz, Hb, Hl, H13, H15⟩
  iapply (wp_half 𝒱 d i bd arg8 arg10 arg11 arg12 arg14 xs B L t 1) $$ [Hx Hb Hl H12 H14]
  · unfold grpI
    iframe Hx Hb Hl
    isplitl [H12]
    · iexact H12
    · iexact H14
  unfold grpI
  iintro ⟨Hx, Hb, Hl, ⟨%b12, %hb12, H12⟩, ⟨%b14, %hb14, H14⟩⟩
  iapply (wp_half 𝒱 d i bd arg9 arg10 arg11 arg13 arg15 zs B L t 1) $$ [Hz Hb Hl H13 H15]
  · unfold grpI
    iframe Hz Hb Hl
    isplitl [H13]
    · iexact H13
    · iexact H15
  unfold grpI
  iintro ⟨Hz, Hb, Hl, ⟨%b13, %hb13, H13⟩, ⟨%b15, %hb15, H15⟩⟩
  obtain rfl : b12 = binT xs t := funext fun j => hb12 j (ord_lt j)
  obtain rfl : b13 = binT zs t := funext fun j => hb13 j (ord_lt j)
  obtain rfl : b14 = difT xs B L t := funext fun j => hb14 j (ord_lt j)
  obtain rfl : b15 = difT zs B L t := funext fun j => hb15 j (ord_lt j)
  rw [wp_bind]
  iapply (wp_wand frame (wpE defs 𝒱 (cT d i) bd) Set.univ) $$ [H12 H13 H14 H15 H16 H17]
  · iapply (wp_bldAll 𝒱 d i bd arg12 arg13 arg14 arg15 arg16 arg17 (binT xs t) (binT zs t) (difT xs B L t) (difT zs B L t))
    unfold bldI
    iframe H12 H13 H14 H15
    isplitl [H16]
    · iexists y16
      iframe H16
      ipureintro
      exact fun j hj => absurd hj (Nat.not_lt_zero _)
    · iexists y17
      iframe H17
      ipureintro
      exact fun j hj => absurd hj (Nat.not_lt_zero _)
  unfold bldI
  iintro %_ ⟨H12, H13, H14, H15, ⟨%b16, %hb16, H16⟩, ⟨%b17, %hb17, H17⟩⟩
  obtain rfl : b16 = numT (binT xs t) (binT zs t) := funext fun j => hb16 j (j 0).isLt
  obtain rfl : b17 = wtT (difT xs B L t) (difT zs B L t) := funext fun j => hb17 j (j 0).isLt
  ihave Ht := (hold_share d i arg2 q T).1 $$ Ht
  icases Ht with ⟨Ht1, Ht2⟩
  ihave H16 := (hold_share (e := .i32) d i arg16 fullShare _).1 $$ H16
  icases H16 with ⟨Hn1, Hn2⟩
  iapply (wp_fetch 𝒱 d i bd EC ι arg2 h2 arg16 h16 arg18 harg18 arg21.sem (hcr _) _ _ q.left fullShare.left T _ (numT_lt xs zs t) _) $$ [Ht1 H18 Hn1 Hv1]
  · iframe Ht1 H18 Hn1 Hv1
  iintro Hf
  rw [show (![0] : Fin 1 → ℕ) 0 = 256 * 0 + 128 * 0 from rfl]
  ihave Hf := (fstI_lt d i EC ι arg2 arg16 arg18 arg21 q.left T (numT (binT xs t) (binT zs t)) 0 (by omega)).2 $$ Hf
  iapply (Scf.wp_for_bind frame (wpE defs 𝒱 (cT d i) bd) Set.univ _ _ _ _ _ _ (fun b _ => colI d i EC ι arg2 arg16 arg17 arg18 arg19 arg20 arg21 arg22 q.left q.right T
      (numT (binT xs t) (binT zs t)) (wtT (difT xs B L t) (difT zs B L t)) O Ws b)
    (fun b x => wp_colBody 𝒱 d i bd EC ι arg2 arg16 arg17 arg18 harg18 arg19 harg19 arg20 arg21 arg22 h2 h16 hcr q.left q.right T _ (numT_lt xs zs t) _ O Ws b x)) $$ [HO Ht2 Hn2 H19 Hv2 H17 H20 Hf]
  · unfold colI outI
    iframe Hmw Ht2 Hn2 Hv2 H17 Hf
    isplitl [HO]
    · iexists W'
      iframe HO
      ipureintro
      exact hW'
    isplitl [H19]
    · iexists y19
      iexact H19
    iexists y20
    iframe H20
    ipureintro
    exact fun j hj => absurd hj (by omega)
  iintro %_ H
  unfold colI outI
  icases H with ⟨-, ⟨%W₂, %hW₂, HO⟩, Ht2, Hn2, H19, Hv2, H17, ⟨%y, %hy, H20⟩, Hf⟩
  obtain rfl : y = total T (numT (binT xs t) (binT zs t)) (wtT (difT xs B L t) (difT zs B L t)) := funext fun j => hy j (by
    have h0 : (j 0).val < 32 := (j 0).isLt
    have h1 : (j 1).val < 128 := (j 1).isLt
    show (j 0).val * 8 + (j 1).val / 16 < 32 * 8
    omega)
  ihave Hf := (fstI_ge d i EC ι arg2 arg16 arg18 arg21 q.left T (numT (binT xs t) (binT zs t)) (Scf.trips k0_t3_loop.lb k0_t3_loop.ub k0_t3_loop.st) (by decide)).1 $$ Hf
  icases Hf with ⟨H18, Ht1, Hn1, Hv1⟩
  ihave Ht := (hold_share d i arg2 q T).2 $$ [Ht1 Ht2]
  · iframe Ht1 Ht2
  ihave H16 := (hold_share (e := .i32) d i arg16 fullShare _).2 $$ [Hn1 Hn2]
  · iframe Hn1 Hn2
  unfold resI
  icases Hres with ⟨%g, %hg, Hg⟩
  simp only [Prog.lift, Prog.bind_op, Prog.bind_ret, Prog.pure_eq_ret]
  iapply (wp_copy 𝒱 d i bd EC ι arg20 (arg7.slice (Rect.unit (s := S4096x128) (k0_off60 i t) S32x128.size (k0_off60_inb i t)) (fun _ => rfl)) v1170_r4.sem fullShare
    (arg20.view.rep (total T (numT (binT xs t) (binT zs t)) (wtT (difT xs B L t) (difT zs B L t)))) Sd g (hp t) (hSd t) O W₂) $$ [H20 Hg Hv4 HO]
  · iframe Hv4 HO Hmw
    isplitl [H20]
    · iapply (hold_open d i harg20 fullShare _).1 $$ H20
    · iexact Hg
  iintro ⟨H20, Hg, Hv4, HO⟩
  iapply (le_wp_ret Idealize.ShloMosaic.frame (wpE defs 𝒱 (cT d i) bd) Set.univ _ _)
  iframe Hmw Ht Hx Hz Hb Hl H18 H19 Hv1 Hv2 Hv4
  isplitl [HO]
  · iexists _
    isplitr [HO]
    rotate_left
    · iexact HO
    ipureintro
    exact owed_insert hW₂
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H20]
  · iexists _
    iapply (hold_open d i harg20 fullShare _).2 $$ H20
  iexists _
  isplitr [Hg]
  rotate_left
  · iexact Hg
  ipureintro
  exact res_step d i arg7 arg20 R _ (fun j => (total_eq T B L xs zs t j).trans (hR t j).symm) g hg

end Chunk

end Cert.KernelIdeal.Lanes

end
-- ==== Proof.TileKernelIdeal.lean ====
/-
  The kernel's body at one tile: the inputs are copied in and four chunks of columns are worked through.
-/
module

public import proofs.«01_k».proof.Proof.ChunkKernelIdeal

@[expose] public section

noncomputable section

namespace Cert.KernelIdeal.Lanes

open Cert.KernelIdeal Cert.KernelIdeal.Gen
open Cert.Proof.Hold Cert.Proof.Spec
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ₀} (𝒱 : Variants) (d : Dev nD) (i : grid0.Coords) (bd : Option 𝒱.V)
variable [Infinite Name] (EC : UEmb Counters (MT nD τ sig Ix (Elt F) Name U Lvl)) [EC.LandsIn (upEmb : UEmb _ (MT nD τ sig Ix (Elt F) Name U Lvl))] (ι : Ix)

include EC in
/-- A copy into a whole buffer and the wait for it. -/
theorem wp_take {sp sp' : Space} {s : Shape} {e : EltTy} {α : Type} {Q : α → sProp 𝕄} {k : PUnit → Prog (TpuEff nD τ sig (Elt F) Λ₀ (cT d i).2) α}
    (src : Memref sig .scVector sp s e) (dst : Memref sig .scVector sp' s e) (hdst : dst.IsWhole) (sem : DmaSem sig) {h1 h2 h3 h4 h5} (q : PosShare TreeShare)
    (fs : Buf (Elt F) (src.view.loc (cT d i))) (Y : s.Idx → Elt F e) (hY : src.view.read (Elt F) fs = Y)
    (hp : 0 < dst.view.dmaCredit) (O : CellTallies nD τ sig Ix) (Ws : Waits sig Ix) :
    iprop((src.view.loc (cT d i) ↦{q} fs) ∗ (∃ y, hold (cT d i) dst fullShare y) ∗ semVal (cT d i, SemLoc.dma sem) 0
        ∗ (∃ W', ⌜∀ p ∈ W', p ∈ Ws ∨ p.2 = ι⌝ ∗ owes (cT d i) O W') ∗ Transfers.MayWaits (cT d i) ι O)
      ⊢ iprop(((src.view.loc (cT d i) ↦{q} fs) ∗ hold (cT d i) dst fullShare Y
            ∗ semVal (cT d i, SemLoc.dma sem) 0 ∗ (∃ W', ⌜∀ p ∈ W', p ∈ Ws ∨ p.2 = ι⌝ ∗ owes (cT d i) O W') -∗ wp frame (wpE defs 𝒱 (cT d i) bd) Set.univ (k ⟨⟩) Q)
        -∗ wp frame (wpE defs 𝒱 (cT d i) bd) Set.univ (.op (.enqueueDma src (.here dst) (.dma sem) h1 h2 h3) fun _ => .op (.waitDma2 sem src dst h4 h5) k) Q) := by
  iintro ⟨Hs, ⟨%y, Hd⟩, Hv, ⟨%W', %hW', HO⟩, #Hmw⟩ Hk
  ihave Hd := (hold_open d i hdst fullShare y).1 $$ Hd
  iapply (wp_copy 𝒱 d i bd EC ι src dst sem q fs Finset.univ (dst.view.rep y) hp (Finset.subset_univ _) O W') $$ [Hs Hd Hv HO]
  · iframe Hs Hd Hv HO Hmw
  iintro ⟨Hs, Hd, Hv, HO⟩
  iapply Hk
  iframe Hs Hv
  isplitl [Hd]
  · iapply (hold_of_whole d i hdst fullShare _ Y (by rw [View.read_write_univ, hY])) $$ Hd
  iexists _
  isplitr [HO]
  rotate_left
  · iexact HO
  ipureintro
  exact owed_insert hW'

section Tile

variable (arg2 : Memref sig .scVector .hbm S270400x128 .f32) (harg2 : arg2.IsWhole) (arg3 arg4 : Memref sig .scVector .hbm S8x4096 .f32) (harg3 : arg3.IsWhole) (harg4 : arg4.IsWhole)
  (arg5 : Memref sig .scVector .hbm S72 .f32) (harg5 : arg5.IsWhole) (arg6 : Memref sig .scVector .hbm S64 .f32) (harg6 : arg6.IsWhole)
  (arg7 : Memref sig .scVector .hbm S4096x128 .f32) (harg7 : arg7.IsWhole)
  (arg8 arg9 : Memref sig .scVector .vmem S8x128 .f32) (harg8 : arg8.IsWhole) (harg9 : arg9.IsWhole)
  (arg10 : Memref sig .scVector .vmem S72 .f32) (harg10 : arg10.IsWhole) (arg11 : Memref sig .scVector .vmem S64 .f32) (harg11 : arg11.IsWhole)
  (arg12 arg13 : Memref sig .scVector .vmem S8x32 .i32) (harg12 : arg12.IsWhole) (harg13 : arg13.IsWhole)
  (arg14 arg15 : Memref sig .scVector .vmem S8x32 .f32) (harg14 : arg14.IsWhole) (harg15 : arg15.IsWhole)
  (arg16 : Memref sig .scVector .vmem S8192 .i32) (harg16 : arg16.IsWhole) (arg17 : Memref sig .scVector .vmem S8192 .f32) (harg17 : arg17.IsWhole)
  (arg18 : Memref sig .scVector .vmem S128x128 .f32) (harg18 : arg18.IsWhole) (arg19 : Memref sig .scVector .vmem S128x128 .f32) (harg19 : arg19.IsWhole)
  (arg20 : Memref sig .scVector .vmem S32x128 .f32) (harg20 : arg20.IsWhole) (arg21 arg22 v6_r0 v6_r1 v6_r2 v6_r3 v1170_r4 : DmaSems sig S_)

/-- The tile's columns of an array of 4096. -/
def cols (X : S8x4096.Idx → F .f32) : S8x128.Idx → F .f32 := fun j => X ((Rect.unit (s := S8x4096) (k0_off1 i) S8x128.size (k0_off1_inb i)).emb j)

theorem read_cols (am : Memref sig .scVector .hbm S8x4096 .f32) (X : S8x4096.Idx → F .f32) :
    (am.slice (Rect.unit (s := S8x4096) (k0_off1 i) S8x128.size (k0_off1_inb i)) (fun _ => rfl)).view.read (Elt F) (am.view.rep X) = cols i X :=
  funext fun j => read_slice_rep am (Rect.unit (s := S8x4096) (k0_off1 i) S8x128.size (k0_off1_inb i)) (fun _ => rfl) X j

theorem emb_off1 (r : Fin 8) (c : Fin 128) (k : Fin 4096) (hk : k.val = row0 i + c.val) :
    (Rect.unit (s := S8x4096) (k0_off1 i) S8x128.size (k0_off1_inb i)).emb (ix2 r c) = ix2 r k := by
  have e0 : k0_off1 i 0 = 0 := by rw [k0_off1_eq]; rfl
  have e1 : k0_off1 i 1 = row0 i := by rw [k0_off1_eq]; rfl
  funext a
  refine Fin.ext ?_
  match a with
  | 0 =>
    show k0_off1 i 0 + 1 * r.val = r.val
    omega
  | 1 =>
    show k0_off1 i 1 + 1 * c.val = k.val
    omega

/-- The result's rows of a chunk, from the tile's columns. -/
theorem out_emb (T : S270400x128.Idx → F .f32) (B : S72.Idx → F .f32) (L : S64.Idx → F .f32) (X Z : S8x4096.Idx → F .f32) (t : Fin k0_t1_loop.trips) (j : S32x128.Idx) :
    out T B L X Z ((Rect.unit (s := S4096x128) (k0_off60 i t) S32x128.size (k0_off60_inb i t)).emb j)
      = colOut T B L (fun r => cols i X (ix2 r (colIx t (j 0)))) (fun r => cols i Z (ix2 r (colIx t (j 0)))) (j 1) := by
  have e0 : k0_off60 i t 0 = row0 i + 32 * t.val := by rw [k0_off60_eq]; rfl
  have e1 : k0_off60 i t 1 = 0 := by rw [k0_off60_eq]; rfl
  have h1 : (Rect.unit (s := S4096x128) (k0_off60 i t) S32x128.size (k0_off60_inb i t)).emb j 1 = j 1 := Fin.ext (by
    show k0_off60 i t 1 + 1 * (j 1).val = (j 1).val
    omega)
  have h0 : ((Rect.unit (s := S4096x128) (k0_off60 i t) S32x128.size (k0_off60_inb i t)).emb j 0).val = row0 i + (colIx t (j 0)).val := by
    show k0_off60 i t 0 + 1 * (j 0).val = row0 i + (32 * t.val + (j 0).val)
    omega
  unfold out cols
  rw [h1]
  have hc : ∀ V : S8x4096.Idx → F .f32, (fun r : Fin 8 => V (ix2 r ((Rect.unit (s := S4096x128) (k0_off60 i t) S32x128.size (k0_off60_inb i t)).emb j 0)))
      = fun r => V ((Rect.unit (s := S8x4096) (k0_off1 i) S8x128.size (k0_off1_inb i)).emb (ix2 r (colIx t (j 0)))) := fun V =>
    funext fun r => congrArg V (emb_off1 i r _ _ h0).symm
  rw [hc X, hc Z]

/-- What a tile needs and gives back, but for its rows of the result. -/
def tileI (q qx qz qb ql : PosShare TreeShare) (T : S270400x128.Idx → F .f32) (B : S72.Idx → F .f32) (L : S64.Idx → F .f32) (X Z : S8x4096.Idx → F .f32)
    (O : CellTallies nD τ sig Ix) (Ws : Waits sig Ix) : sProp 𝕄 :=
  iprop((∃ W', ⌜∀ p ∈ W', p ∈ Ws ∨ p.2 = ι⌝ ∗ owes (cT d i) O W')
    ∗ hold (cT d i) arg2 q T ∗ hold (cT d i) arg3 qx X ∗ hold (cT d i) arg4 qz Z ∗ hold (cT d i) arg5 qb B ∗ hold (cT d i) arg6 ql L
    ∗ (∃ y, hold (cT d i) arg8 fullShare y) ∗ (∃ y, hold (cT d i) arg9 fullShare y) ∗ (∃ y, hold (cT d i) arg10 fullShare y) ∗ (∃ y, hold (cT d i) arg11 fullShare y)
    ∗ (∃ y, hold (F := F) (e := .i32) (cT d i) arg12 fullShare y) ∗ (∃ y, hold (F := F) (e := .i32) (cT d i) arg13 fullShare y)
    ∗ (∃ y, hold (cT d i) arg14 fullShare y) ∗ (∃ y, hold (cT d i) arg15 fullShare y)
    ∗ (∃ y, hold (F := F) (e := .i32) (cT d i) arg16 fullShare y) ∗ (∃ y, hold (cT d i) arg17 fullShare y)
    ∗ (∃ y, hold (cT d i) arg18 fullShare y) ∗ (∃ y, hold (cT d i) arg19 fullShare y) ∗ (∃ y, hold (cT d i) arg20 fullShare y)
    ∗ semVal (cT d i, SemLoc.dma arg21.sem) 0 ∗ semVal (cT d i, SemLoc.dma arg22.sem) 0
    ∗ semVal (cT d i, SemLoc.dma v6_r0.sem) 0 ∗ semVal (cT d i, SemLoc.dma v6_r1.sem) 0 ∗ semVal (cT d i, SemLoc.dma v6_r2.sem) 0 ∗ semVal (cT d i, SemLoc.dma v6_r3.sem) 0
    ∗ semVal (cT d i, SemLoc.dma v1170_r4.sem) 0)

/-- A loop over chunks whose trips each carry `I` one step further. -/
theorem wp_trips {Q : PUnit → sProp 𝕄} (I : ℕ → sProp 𝕄) (body : Fin k0_t1_loop.trips → BitVec 32 → TileProg F i (BitVec 32))
    (h : ∀ t x, I t.val ⊢ wp frame (wpE defs 𝒱 (cT d i) bd) Set.univ (body t x) fun _ => I (t.val + 1)) :
    I 0 ⊢ iprop((I (Scf.trips k0_t1_loop.lb k0_t1_loop.ub k0_t1_loop.st) -∗ Q ⟨⟩)
        -∗ wp frame (wpE defs 𝒱 (cT d i) bd) Set.univ (Scf.Loop.for k0_t1_loop k0_t1_ok 0#32 body >>= fun _ => .ret ⟨⟩) Q) := by
  iintro H Hk
  iapply (Scf.wp_for_bind frame (wpE defs 𝒱 (cT d i) bd) Set.univ _ _ _ _ _ _ (fun t (_ : BitVec 32) => I t) h) $$ H
  iintro %_ H
  iapply (le_wp_ret Idealize.ShloMosaic.frame (wpE defs 𝒱 (cT d i) bd) Set.univ _ _)
  iapply Hk $$ H

include EC in
/-- The four chunks of a tile. -/
theorem wp_chunks (h2 : arg2.IsWhole) (h16 : arg16.IsWhole) {Q : PUnit → sProp 𝕄}
    (hcr : ∀ rm : Memref sig .scVector .vmem S128x128 .f32, ∑ j, (rm.slice (S128x128.rowRect gathers_S270400x128_S128x128.axis' j)
      (S128x128.stride_rowRect gathers_S270400x128_S128x128.axis' j)).view.dmaCredit = rm.view.dmaCredit)
    (q : PosShare TreeShare) (T : S270400x128.Idx → F .f32) (B : S72.Idx → F .f32) (L : S64.Idx → F .f32) (X Z : S8x4096.Idx → F .f32)
    (Sd : Finset (Idx (arg7.view.loc (cT d i)))) (hSd : ∀ t, (arg7.slice (Rect.unit (s := S4096x128) (k0_off60 i t) S32x128.size (k0_off60_inb i t)) (fun _ => rfl)).view.set ⊆ Sd)
    (hp : ∀ t, 0 < (arg7.slice (Rect.unit (s := S4096x128) (k0_off60 i t) S32x128.size (k0_off60_inb i t)) (fun _ => rfl)).view.dmaCredit)
    (O : CellTallies nD τ sig Ix) (Ws : Waits sig Ix) :
    chunkI (Ix := Ix) (Name := Name) (U := U) (Lvl := Lvl) d i ι arg2 arg7 arg8 arg9 arg10 arg11 arg12 arg13 arg14 arg15 arg16 arg17 arg18 arg19 arg20 arg21 arg22 v1170_r4 q T B L (cols i X) (cols i Z) Sd (out T B L X Z) O Ws 0
      ⊢ iprop((chunkI (Ix := Ix) (Name := Name) (U := U) (Lvl := Lvl) d i ι arg2 arg7 arg8 arg9 arg10 arg11 arg12 arg13 arg14 arg15 arg16 arg17 arg18 arg19 arg20 arg21 arg22 v1170_r4 q T B L (cols i X) (cols i Z) Sd (out T B L X Z) O Ws (Scf.trips k0_t1_loop.lb k0_t1_loop.ub k0_t1_loop.st) -∗ Q ⟨⟩)
        -∗ wp frame (wpE defs 𝒱 (cT d i) bd) Set.univ (Scf.Loop.for k0_t1_loop k0_t1_ok 0#32 (chunkBody i arg2 arg7 arg8 arg9 arg10 arg11 arg12 arg13 arg14 arg15 arg16 arg17 arg18 harg18 arg19 harg19 arg20 harg20 arg21 arg22 v1170_r4 lanes) >>= fun _ => .ret ⟨⟩) Q) := by
  have hstep := fun (t : Fin k0_t1_loop.trips) (x : BitVec 32) => wp_chunkBody (defs := defs) 𝒱 d i bd EC ι arg2 arg7 arg8 arg9 arg10 arg11 arg12 arg13 arg14 arg15 arg16 arg17 arg18 harg18 arg19 harg19 arg20 harg20 arg21 arg22 v1170_r4 h2 h16 hcr q T B L (cols i X) (cols i Z) Sd hSd hp
      (out T B L X Z) (fun t j => out_emb i T B L X Z t j) O Ws t x
  exact wp_trips 𝒱 d i bd (chunkI d i ι arg2 arg7 arg8 arg9 arg10 arg11 arg12 arg13 arg14 arg15 arg16 arg17 arg18 arg19 arg20 arg21 arg22 v1170_r4 q T B L (cols i X) (cols i Z) Sd (out T B L X Z) O Ws) _ hstep

include EC in
set_option maxHeartbeats 4000000 in
/-- The whole body at one tile: its 128 rows of the result are what they should be. -/
theorem wp_tile
    (hcr : ∀ rm : Memref sig .scVector .vmem S128x128 .f32, ∑ j, (rm.slice (S128x128.rowRect gathers_S270400x128_S128x128.axis' j)
      (S128x128.stride_rowRect gathers_S270400x128_S128x128.axis' j)).view.dmaCredit = rm.view.dmaCredit)
    (hp8 : 0 < arg8.view.dmaCredit) (hp9 : 0 < arg9.view.dmaCredit) (hp10 : 0 < arg10.view.dmaCredit) (hp11 : 0 < arg11.view.dmaCredit)
    (q qx qz qb ql : PosShare TreeShare) (T : S270400x128.Idx → F .f32) (B : S72.Idx → F .f32) (L : S64.Idx → F .f32) (X Z : S8x4096.Idx → F .f32)
    (Sd : Finset (Idx (arg7.view.loc (cT d i)))) (hSd : ∀ t, (arg7.slice (Rect.unit (s := S4096x128) (k0_off60 i t) S32x128.size (k0_off60_inb i t)) (fun _ => rfl)).view.set ⊆ Sd)
    (hp : ∀ t, 0 < (arg7.slice (Rect.unit (s := S4096x128) (k0_off60 i t) S32x128.size (k0_off60_inb i t)) (fun _ => rfl)).view.dmaCredit)
    (O : CellTallies nD τ sig Ix) (Ws : Waits sig Ix) :
    iprop(Transfers.MayWaits (cT d i) ι O ∗ tileI (Ix := Ix) (Name := Name) (U := U) (Lvl := Lvl) d i ι arg2 arg3 arg4 arg5 arg6 arg8 arg9 arg10 arg11 arg12 arg13 arg14 arg15 arg16 arg17 arg18 arg19 arg20 arg21 arg22 v6_r0 v6_r1 v6_r2 v6_r3 v1170_r4 q qx qz qb ql T B L X Z O Ws
        ∗ resI d i arg7 Sd (out T B L X Z) 0)
      ⊢ wp frame (wpE defs 𝒱 (cT d i) bd) Set.univ
          (cc0__sc_body_skel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v6_r0 v6_r1 v6_r2 v6_r3 v1170_r4)
          fun _ => iprop(tileI d i ι arg2 arg3 arg4 arg5 arg6 arg8 arg9 arg10 arg11 arg12 arg13 arg14 arg15 arg16 arg17 arg18 arg19 arg20 arg21 arg22 v6_r0 v6_r1 v6_r2 v6_r3 v1170_r4 q qx qz qb ql T B L X Z O Ws
            ∗ resI d i arg7 Sd (out T B L X Z) 128) := by
  have hbody : k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v6_r0 v6_r1 v6_r2 v6_r3 v1170_r4 lanes
      = chunkBody i arg2 arg7 arg8 arg9 arg10 arg11 arg12 arg13 arg14 arg15 arg16 arg17 arg18 harg18 arg19 harg19 arg20 harg20 arg21 arg22 v1170_r4 lanes :=
    funext fun t => funext fun x => k0_t1_body_restated i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 v6_r0 v6_r1 v6_r2 v6_r3 v1170_r4 lanes t x
  unfold cc0__sc_body_skel
  simp only [Prog.lift, Prog.bind_op, Prog.bind_ret, Prog.pure_eq_ret]
  rw [hbody]
  unfold tileI
  iintro ⟨#Hmw, ⟨HO, H2, H3, H4, H5, H6, H8, H9, H10, H11, H12, H13, H14, H15, H16, H17, H18, H19, H20, Hv1, Hv2, Hs0, Hs1, Hs2, Hs3, Hs4⟩, Hres⟩
  ihave H3 := (hold_open d i harg3 qx X).1 $$ H3
  ihave H4 := (hold_open d i harg4 qz Z).1 $$ H4
  ihave H5 := (hold_open d i harg5 qb B).1 $$ H5
  ihave H6 := (hold_open d i harg6 ql L).1 $$ H6
  iapply (wp_take 𝒱 d i bd EC ι (arg3.slice (Rect.unit (s := S8x4096) (k0_off1 i) S8x128.size (k0_off1_inb i)) (fun _ => rfl)) arg8 harg8 v6_r0.sem qx (arg3.view.rep X) (cols i X)
    (read_cols i arg3 X) hp8 O Ws) $$ [H3 H8 Hs0 HO]
  · iframe H8 Hs0 HO Hmw
    iexact H3
  iintro ⟨H3, H8, Hs0, HO⟩
  iapply (wp_take 𝒱 d i bd EC ι (arg4.slice (Rect.unit (s := S8x4096) (k0_off1 i) S8x128.size (k0_off1_inb i)) (fun _ => rfl)) arg9 harg9 v6_r1.sem qz (arg4.view.rep Z) (cols i Z)
    (read_cols i arg4 Z) hp9 O Ws) $$ [H4 H9 Hs1 HO]
  · iframe H9 Hs1 HO Hmw
    iexact H4
  iintro ⟨H4, H9, Hs1, HO⟩
  iapply (wp_take 𝒱 d i bd EC ι arg5 arg10 harg10 v6_r2.sem qb (arg5.view.rep B) B (View.read_rep _ _) hp10 O Ws) $$ [H5 H10 Hs2 HO]
  · iframe H5 H10 Hs2 HO Hmw
  iintro ⟨H5, H10, Hs2, HO⟩
  iapply (wp_take 𝒱 d i bd EC ι arg6 arg11 harg11 v6_r3.sem ql (arg6.view.rep L) L (View.read_rep _ _) hp11 O Ws) $$ [H6 H11 Hs3 HO]
  · iframe H6 H11 Hs3 HO Hmw
  iintro ⟨H6, H11, Hs3, HO⟩
  iapply (wp_chunks 𝒱 d i bd EC ι arg2 arg7 arg8 arg9 arg10 arg11 arg12 arg13 arg14 arg15 arg16 arg17 arg18 harg18 arg19 harg19 arg20 harg20 arg21 arg22 v1170_r4 harg2 harg16 hcr q T B L X Z Sd hSd hp O Ws) $$ [HO H2 H8 H9 H10 H11 H12 H13 H14 H15 H16 H17 H18 H19 H20 Hv1 Hv2 Hs4 Hres]
  · unfold chunkI
    iframe Hmw HO H2 H8 H9 H10 H11 H12 H13 H14 H15 H16 H17 H18 H19 H20 Hv1 Hv2 Hs4
    iexact Hres
  iintro H
  unfold chunkI
  icases H with ⟨-, HO, H2, H8, H9, H10, H11, H12, H13, H14, H15, H16, H17, H18, H19, H20, Hv1, Hv2, Hs4, Hres⟩
  ihave H3 := (hold_open d i harg3 qx X).2 $$ [H3]
  · iexact H3
  ihave H4 := (hold_open d i harg4 qz Z).2 $$ [H4]
  · iexact H4
  ihave H5 := (hold_open d i harg5 qb B).2 $$ H5
  ihave H6 := (hold_open d i harg6 ql L).2 $$ H6
  iframe HO H2 H3 H4 H5 H6 H12 H13 H14 H15 H16 H17 H18 H19 H20 Hv1 Hv2 Hs0 Hs1 Hs2 Hs3 Hs4
  isplitr [Hres]
  · isplitl [H8]; · iexists _; iexact H8
    isplitl [H9]; · iexists _; iexact H9
    isplitl [H10]; · iexists _; iexact H10
    iexists _; iexact H11
  iexact Hres

end Tile

end Cert.KernelIdeal.Lanes

end
-- ==== Proof.TaskKernelIdeal.lean ====
/-
  One task of the SparseCore call: what the call's messages carry, and the body at every tile with the task's own buffers and semaphores.
-/
module

public import proofs.«01_k».proof.Proof.TileKernelIdeal
public import Idealize.ShloMosaic.Lib.SparseCore.Quiescent
public import Idealize.ShloMosaic.Lib.StableHlo.Run
public import Idealize.ShloMosaic.Lib.Pipeline.Kit

@[expose] public section

noncomputable section

namespace Cert.KernelIdeal.Task

open Cert.KernelIdeal Cert.KernelIdeal.Gen Cert.KernelIdeal.Lanes
open Cert.Proof.Hold Cert.Proof.Spec
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as it is launched -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Where the operands lie -/

local notation "tabV" => (Memref.whole main_v1_scv : Memref sig Kind.scVector Space.hbm S270400x128 EltTy.f32)
local notation "xV" => (Memref.whole main_arg0_scv : Memref sig Kind.scVector Space.hbm S8x4096 EltTy.f32)
local notation "zV" => (Memref.whole main_arg1_scv : Memref sig Kind.scVector Space.hbm S8x4096 EltTy.f32)
local notation "bV" => (Memref.whole main_v3_scv : Memref sig Kind.scVector Space.hbm S72 EltTy.f32)
local notation "lV" => (Memref.whole main_arg4_scv : Memref sig Kind.scVector Space.hbm S64 EltTy.f32)
local notation "oV" => (Memref.whole main_v4_scv : Memref sig Kind.scVector Space.hbm S4096x128 EltTy.f32)

abbrev tabLoc (d : Dev nD) : Loc nD τ sig := (SparseCore.T d).loc main_v1
abbrev xLoc (d : Dev nD) : Loc nD τ sig := (SparseCore.T d).loc main_arg0
abbrev zLoc (d : Dev nD) : Loc nD τ sig := (SparseCore.T d).loc main_arg1
abbrev bLoc (d : Dev nD) : Loc nD τ sig := (SparseCore.T d).loc main_v3
abbrev lLoc (d : Dev nD) : Loc nD τ sig := (SparseCore.T d).loc main_arg4
abbrev oLoc (d : Dev nD) : Loc nD τ sig := (SparseCore.T d).loc main_v4

/-- The rows of the result that a tile works out. -/
def tileRows (c : Fin 2) (s : Fin 16) : Finset S4096x128.Idx :=
  Finset.univ.filter fun j => 256 * s.val + 128 * c.val ≤ (j 0).val ∧ (j 0).val < 256 * s.val + 128 * c.val + 128

/-- The rows of the result that a SparseCore's tiles work out. -/
def coreRows (c : Fin 2) : Finset S4096x128.Idx := Finset.univ.biUnion (tileRows c)

theorem mem_tileRows (c : Fin 2) (s : Fin 16) (j : S4096x128.Idx) :
    j ∈ tileRows c s ↔ 256 * s.val + 128 * c.val ≤ (j 0).val ∧ (j 0).val < 256 * s.val + 128 * c.val + 128 := by
  unfold tileRows; rw [Finset.mem_filter]; exact ⟨fun h => h.2, fun h => ⟨Finset.mem_univ _, h⟩⟩

theorem mem_coreRows (c : Fin 2) (j : S4096x128.Idx) : j ∈ coreRows c ↔ ∃ s, j ∈ tileRows c s := by
  unfold coreRows; rw [Finset.mem_biUnion]; exact ⟨fun ⟨s, _, h⟩ => ⟨s, h⟩, fun ⟨s, h⟩ => ⟨s, Finset.mem_univ _, h⟩⟩

theorem tileRows_disjoint (c : Fin 2) (s : Fin 16) (_ : s ∈ (Finset.univ : Finset (Fin 16))) (s' : Fin 16) (_ : s' ∈ (Finset.univ : Finset (Fin 16))) (h : s ≠ s') :
    Disjoint (tileRows c s) (tileRows c s') := by
  refine Finset.disjoint_left.mpr fun j h1 h2 => h (Fin.ext ?_)
  rw [mem_tileRows] at h1 h2
  omega

theorem coreRows_disjoint (c : Fin 2) (_ : c ∈ (Finset.univ : Finset (Fin 2))) (c' : Fin 2) (_ : c' ∈ (Finset.univ : Finset (Fin 2))) (h : c ≠ c') :
    Disjoint (coreRows c) (coreRows c') := by
  refine Finset.disjoint_left.mpr fun j h1 h2 => h (Fin.ext ?_)
  rw [mem_coreRows] at h1 h2
  obtain ⟨s, h1⟩ := h1
  obtain ⟨s', h2⟩ := h2
  rw [mem_tileRows] at h1 h2
  omega

theorem coreRows_cover : (Finset.univ : Finset (Fin 2)).biUnion coreRows = Finset.univ := by
  refine Finset.eq_univ_iff_forall.mpr fun j => Finset.mem_biUnion.mpr ?_
  have hj : (j 0).val < 4096 := (j 0).isLt
  refine ⟨⟨(j 0).val / 128 % 2, by omega⟩, Finset.mem_univ _, (mem_coreRows _ _).mpr ⟨⟨(j 0).val / 256, by omega⟩, (mem_tileRows _ _ _).mpr ?_⟩⟩
  dsimp only
  omega

variable (W : Dev nD → Valuation τ sig (Elt F))

/-- What the call reads, at a share. -/
def inPts (d : Dev nD) (q : PosShare TreeShare) : sProp 𝕄 :=
  iprop((tabLoc d ↦{q} W d (Proc.devRef .tc main_v1)) ∗ (xLoc d ↦{q} W d (Proc.devRef .tc main_arg0)) ∗ (zLoc d ↦{q} W d (Proc.devRef .tc main_arg1))
    ∗ (bLoc d ↦{q} W d (Proc.devRef .tc main_v3)) ∗ lLoc d ↦{q} W d (Proc.devRef .tc main_arg4))

theorem inPts_pieces (d : Dev nD) (q : PosShare TreeShare) (o : ℕ) (ho : 0 < o) :
    (inPts W d q : sProp 𝕄) = bigSep Finset.univ fun j : Fin o => inPts W d (pieceOf q o ho j) := by
  unfold inPts
  rw [bigSep_sep', bigSep_sep', bigSep_sep', bigSep_sep', pointsTo_piecesOf _ _ ho q, pointsTo_piecesOf _ _ ho q, pointsTo_piecesOf _ _ ho q, pointsTo_piecesOf _ _ ho q,
    pointsTo_piecesOf _ _ ho q]

instance inPts_storable (d : Dev nD) (q : PosShare TreeShare) : BI.Storable (upEmb : UEmb _ 𝕄) (inPts W d q) := by
  unfold inPts; infer_instance

abbrev cq (c : Fin 2) : PosShare TreeShare := pieceOf fullShare 2 (by decide) c
abbrev tq (c : Fin 2) (s : Fin 16) : PosShare TreeShare := pieceOf (cq c) 16 (by decide) s

/-- Part of the result's array. -/
abbrev oPts (d : Dev nD) (I : Finset S4096x128.Idx) (f : Buf (Elt F) (oLoc d)) : sProp 𝕄 := oLoc d ↦[I]{fullShare} f

variable [FloatOps F]

/-- The result's values. -/
abbrev outV (d : Dev nD) : Buf (Elt F) (oLoc d) :=
  out (W d (Proc.devRef .tc main_v1)) (W d (Proc.devRef .tc main_v3)) (W d (Proc.devRef .tc main_arg4)) (W d (Proc.devRef .tc main_arg0)) (W d (Proc.devRef .tc main_arg1))

/-- The call takes its operands at shares and its SparseCore's rows of the result, hands each task its share and its rows, and brings them back with
    the result's values. -/
def P : (K (F := F)).Pay (nD := nD) (Val := Elt F) (Name := ℕ) (U := UU) where
  st := fun q d c => match q with | 0 => iprop(inPts W d (cq c) ∗ oPts d (coreRows c) (W d (Proc.devRef .tc main_v4)))
  dn := fun q d c => match q with | 0 => iprop(inPts W d (cq c) ∗ oPts d (coreRows c) (outV W d))
  go := fun q d c s => match q with | 0 => iprop(inPts W d (tq c s) ∗ oPts d (tileRows c s) (W d (Proc.devRef .tc main_v4)))
  td := fun q d c s => match q with | 0 => iprop(inPts W d (tq c s) ∗ oPts d (tileRows c s) (outV W d))
  x := fun _ _ => iprop(emp)

instance P_storable : (P (F := F) W).IsStorable where
  st q d c := match q with
    | 0 => (inferInstance : BI.Storable (upEmb : UEmb _ 𝕄) iprop(inPts W d (cq c) ∗ oPts d (coreRows c) (W d (Proc.devRef .tc main_v4))))
  dn q d c := match q with
    | 0 => (inferInstance : BI.Storable (upEmb : UEmb _ 𝕄) iprop(inPts W d (cq c) ∗ oPts d (coreRows c) (outV W d)))
  go q d c s := match q with
    | 0 => (inferInstance : BI.Storable (upEmb : UEmb _ 𝕄) iprop(inPts W d (tq c s) ∗ oPts d (tileRows c s) (W d (Proc.devRef .tc main_v4))))
  td q d c s := match q with
    | 0 => (inferInstance : BI.Storable (upEmb : UEmb _ 𝕄) iprop(inPts W d (tq c s) ∗ oPts d (tileRows c s) (outV W d)))

/-- A SparseCore's operands split over its tasks and join again. -/
theorem vecSplit : (K (F := F)).VecSplit' (P W) 0 := by
  intro d c
  show iprop(inPts W d (cq c) ∗ oPts d (coreRows c) (W d (Proc.devRef .tc main_v4))) ⊢ |={Set.univ}=> iprop(
      (bigSep Finset.univ fun s : Fin 16 => iprop(inPts W d (tq c s) ∗ oPts d (tileRows c s) (W d (Proc.devRef .tc main_v4))))
      ∗ ((bigSep Finset.univ fun s : Fin 16 => iprop(inPts W d (tq c s) ∗ oPts d (tileRows c s) (outV W d)))
          -∗ iprop(inPts W d (cq c) ∗ oPts d (coreRows c) (outV W d))))
  have hrows : ∀ f : Buf (Elt F) (oLoc d), (oPts d (coreRows c) f : sProp 𝕄) = bigSep Finset.univ fun s : Fin 16 => oPts d (tileRows c s) f := fun f =>
    pointsTo_biUnion Finset.univ (ℓ := oLoc d) (tileRows c) (tileRows_disjoint c)
  rw [bigSep_sep', bigSep_sep', hrows, hrows, inPts_pieces W d (cq c) 16 (by decide)]
  iintro H; imodintro
  isplitl [H]; · iexact H
  iintro H
  iexact H

/-! ## A task's own buffers and semaphores -/

section Own

variable (d : Dev nD) (c : Fin τ.nSC) (s : Fin τ.nSub)

def scratches : Finset (Ref sig .scVector) :=
  {cc0_scratch0, cc0_scratch1, cc0_scratch2, cc0_scratch3, cc0_scratch4, cc0_scratch5, cc0_scratch6, cc0_scratch7, cc0_scratch8, cc0_scratch9, cc0_scratch10, cc0_scratch11, cc0_scratch12}

def sems : Finset (DmaSem sig) :=
  {cc0_scratch13.sem, cc0_scratch14.sem, cc0_scoped0.sem, cc0_scoped1.sem, cc0_scoped2.sem, cc0_scoped3.sem, cc0_scoped4.sem}

omit [FloatOps F] in
theorem bigSep_scratches (Φ : Ref sig .scVector → sProp 𝕄) :
    bigSep scratches Φ = iprop(Φ cc0_scratch0 ∗ Φ cc0_scratch1 ∗ Φ cc0_scratch2 ∗ Φ cc0_scratch3 ∗ Φ cc0_scratch4 ∗ Φ cc0_scratch5 ∗ Φ cc0_scratch6 ∗ Φ cc0_scratch7
      ∗ Φ cc0_scratch8 ∗ Φ cc0_scratch9 ∗ Φ cc0_scratch10 ∗ Φ cc0_scratch11 ∗ Φ cc0_scratch12) := by
  unfold scratches
  iterate 12 rw [SparseCore.bigSep_insert' (by decide)]
  rw [bigSep_singleton]

omit [FloatOps F] in
theorem bigSep_sems (Φ : DmaSem sig → sProp 𝕄) :
    bigSep sems Φ = iprop(Φ cc0_scratch13.sem ∗ Φ cc0_scratch14.sem ∗ Φ cc0_scoped0.sem ∗ Φ cc0_scoped1.sem ∗ Φ cc0_scoped2.sem ∗ Φ cc0_scoped3.sem ∗ Φ cc0_scoped4.sem) := by
  unfold sems
  iterate 6 rw [SparseCore.bigSep_insert' (by decide)]
  rw [bigSep_singleton]

omit [FloatOps F] in
/-- A family over a finite set is its part at the places `f` names, and the rest. -/
theorem bigSep_named {I J : Type} [DecidableEq I] [DecidableEq J] (A : Finset I) (B : Finset J) (f : J → I) (hf : Function.Injective f) (hB : ∀ j ∈ B, f j ∈ A) (Φ : I → sProp 𝕄) :
    bigSep A Φ = iprop(bigSep B (fun j => Φ (f j)) ∗ bigSep (A \ B.image f) Φ) := by
  have hs : B.image f ⊆ A := fun x hx => by
    obtain ⟨j, hj, rfl⟩ := Finset.mem_image.mp hx
    exact hB j hj
  rw [bigSep_sdiff_split hs, SparseCore.bigSep_image_of_injOn (fun a _ b _ e => hf e) Φ]
  rfl

omit [FloatOps F] in
theorem ownBufs_V :
    (ownBufs (V d c s) : sProp 𝕄)
      = iprop(bigSep scratches (fun b => iprop(∃ f, (V d c s).loc b ↦{fullShare} f))
          ∗ bigSep (ownRefs (τ := τ) (.scVector c s) \ scratches.image (Proc.scVector c s).devRef) fun b => iprop(∃ f, ((d, b) : Loc nD τ sig) ↦{fullShare} f)) := by
  unfold SparseCore.Cfg.ownBufs
  refine bigSep_named _ scratches (Proc.scVector c s).devRef (Proc.devRef_injective _) (fun b hb => ?_) _
  refine SparseCore.Cfg.mem_ownRefs_of_owner (p := Proc.scVector c s) ?_
  have h : ∀ b ∈ scratches, ((Proc.scVector c s).devRef b).owner = .proc (.scVector c s) := by
    unfold scratches
    simp only [Finset.mem_insert, Finset.mem_singleton, forall_eq_or_imp, forall_eq]
    exact ⟨rfl, rfl, rfl, rfl, rfl, rfl, rfl, rfl, rfl, rfl, rfl, rfl, rfl⟩
  exact h b hb

omit [FloatOps F] in
theorem ownSems0_V :
    (ownSems0 (V d c s) : sProp 𝕄)
      = iprop(bigSep sems (fun m => semVal (V d c s, SemLoc.dma m) 0)
          ∗ bigSep (ownCells (V d c s) \ sems.image fun m => ((V d c s, SemLoc.dma m) : GSem nD τ sig)) fun g => semVal g 0) := by
  unfold SparseCore.Cfg.ownSems0
  refine bigSep_named _ sems (fun m => ((V d c s, SemLoc.dma m) : GSem nD τ sig)) (fun a b e => SemLoc.dma.inj (Prod.mk.inj e).2) (fun b hb => ?_) _
  refine mem_ownCells.mpr ⟨rfl, ?_⟩
  have h : ∀ b ∈ sems, (SemLoc.dma b : SemLoc sig).isScoped .scVector = true := by decide
  exact h b hb

end Own

/-! ## The task -/

section Body

variable (d : Dev nD) (i : grid0.Coords)

omit [FloatOps F] in
/-- The rows a tile writes in a chunk are its own. -/
theorem chunk_rows (t : Fin k0_t1_loop.trips) :
    ((oV).slice (Rect.unit (s := S4096x128) (k0_off60 i t) S32x128.size (k0_off60_inb i t)) (fun _ => rfl)).view.set ⊆ tileRows (i 0) (i 1) := by
  intro x hx
  obtain ⟨j, -, rfl⟩ := Finset.mem_map.mp hx
  have e0 : k0_off60 i t 0 = row0 i + 32 * t.val := by rw [k0_off60_eq]; rfl
  have hj : (j 0).val < 32 := (j 0).isLt
  have ht : t.val < 4 := t.isLt
  refine (mem_tileRows _ _ _).mpr ?_
  show 256 * (i 1).val + 128 * (i 0).val ≤ k0_off60 i t 0 + 1 * (j 0).val ∧ k0_off60 i t 0 + 1 * (j 0).val < 256 * (i 1).val + 128 * (i 0).val + 128
  have hr : row0 i = 256 * (i 1).val + 128 * (i 0).val := rfl
  omega

/-- A whole buffer held with its values. -/
theorem hold_buf {b : Ref sig .scVector} (q : PosShare TreeShare) (x : b.ty.shape.Idx → Elt F b.ty.elt) :
    (hold (cT d i) (Memref.whole b) q x : sProp 𝕄) = ((cT d i).loc b ↦{q} x) := by
  have h : (Memref.whole b).view.rep x = x := (View.read_rep (Memref.whole b).view x)
  rw [hold_whole d i (Memref.isWhole_whole b) q x, h]

/-- A whole buffer at some contents is held with some values. -/
theorem buf_hold {b : Ref sig .scVector} :
    (iprop(∃ f, (cT d i).loc b ↦{fullShare} f) : sProp 𝕄) ⊢ iprop(∃ y, hold (F := F) (cT d i) (Memref.whole b) fullShare y) := by
  iintro ⟨%f, H⟩
  iexists f
  iapply (Entails.of_eq (hold_buf d i fullShare f).symm) $$ H

/-- and the other way round. -/
theorem hold_some {b : Ref sig .scVector} :
    (iprop(∃ y, hold (F := F) (cT d i) (Memref.whole b) fullShare y) : sProp 𝕄) ⊢ iprop(∃ f, (cT d i).loc b ↦{fullShare} f) := by
  iintro ⟨%y, H⟩
  iexists y
  iapply (Entails.of_eq (hold_buf d i fullShare y)) $$ H

/-- The tile's rows of the result before the body: none as they should be yet. -/
theorem res_open (f : Buf (Elt F) (oLoc d)) :
    (oPts d (tileRows (i 0) (i 1)) f : sProp 𝕄) ⊢ resI d i oV (tileRows (i 0) (i 1)) (outV W d) 0 := by
  unfold resI
  iintro H
  iexists f
  isplitr [H]
  rotate_left
  · iexact H
  ipureintro
  exact fun j h1 h2 => absurd h1 (by omega)

/-- After the body every row of the tile is as it should be. -/
theorem res_close : (resI d i oV (tileRows (i 0) (i 1)) (outV W d) 128 : sProp 𝕄) ⊢ oPts d (tileRows (i 0) (i 1)) (outV W d) := by
  unfold resI
  iintro ⟨%g, %hg, H⟩
  iapply (Entails.of_eq (pointsTo_congr (ℓ := oLoc d) (I := tileRows (i 0) (i 1)) (q := fullShare) (f := g) (g := outV W d) fun j hj => ?_)) $$ H
  have h := (mem_tileRows _ _ _).mp hj
  exact hg j h.1 h.2

set_option maxHeartbeats 4000000 in
/-- The task on a vector subcore: from its shares, its rows and its own buffers and semaphores to the result's values in its rows. -/
theorem tile_body (hF : (K (F := F)).Facts) (O : CellTallies nD τ sig (HIx 1)) (Ws : Waits sig (HIx 1)) (hO : ∀ g, O g none = 0) :
    iprop(levAts (K (F := F)).L (K (F := F)).lev ∗ emp
        ∗ (inPts W d (tq (i 0) (i 1)) ∗ oPts d (tileRows (i 0) (i 1)) (W d (Proc.devRef .tc main_v4)))
        ∗ scopedBufs (cT d i) ∗ scopedSems0 (cT d i) ∗ owes (cT d i) O Ws)
      ⊢ wp frame (wpE (defs₀ (F := F)) 𝒱₀ (cT d i) none) Set.univ
          (cc0__sc_body i tabV (Memref.isWhole_whole _) xV (Memref.isWhole_whole _) zV (Memref.isWhole_whole _) bV (Memref.isWhole_whole _) lV (Memref.isWhole_whole _) oV (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _) (Memref.whole cc0_scratch8) (Memref.isWhole_whole _)
            (Memref.whole cc0_scratch9) (Memref.isWhole_whole _) (Memref.whole cc0_scratch10) (Memref.isWhole_whole _) (Memref.whole cc0_scratch11) (Memref.isWhole_whole _)
            (Memref.whole cc0_scratch12) (Memref.isWhole_whole _) cc0_scratch13 cc0_scratch14 cc0_scoped0 cc0_scoped1 cc0_scoped2 cc0_scoped3 cc0_scoped4)
          fun _ => iprop((inPts W d (tq (i 0) (i 1)) ∗ oPts d (tileRows (i 0) (i 1)) (outV W d))
            ∗ scopedBufs (cT d i) ∗ scopedSems0 (cT d i)
            ∗ ∃ W', ⌜∀ p ∈ W', p ∈ Ws ∨ p.2 = none⌝ ∗ owes (cT d i) O W') := by
  rw [cc0__sc_body_eq_skeleton]
  rw [(K (F := F)).scopedBufs_V hF d _ _, SparseCore.Cfg.scopedSems0_V (Val := Elt F) d _ _, ownSems0_V, ownBufs_V, bigSep_scratches, bigSep_sems]
  unfold inPts
  iintro ⟨#Hlv, -, ⟨⟨Ht, Hx, Hz, Hb, Hl⟩, Ho⟩, ⟨⟨H8, H9, H10, H11, H12, H13, H14, H15, H16, H17, H18, H19, H20⟩, Hbufs⟩, ⟨⟨Hv1, Hv2, Hs0, Hs1, Hs2, Hs3, Hs4⟩, Hsems⟩, HO⟩
  ihave Hmw := (show levAts (K (F := F)).L (K (F := F)).lev ⊢ Transfers.MayWaits (cT d i) (default : HIx 1) O from
    (K (F := F)).mayWaits_none (thr := cT d i) hO) $$ Hlv
  ihave Ho := (res_open W d i _) $$ Ho
  iapply (wp_wand frame (wpE (defs₀ (F := F)) 𝒱₀ (cT d i) none) Set.univ) $$ [Hmw Ht Hx Hz Hb Hl Ho H8 H9 H10 H11 H12 H13 H14 H15 H16 H17 H18 H19 H20 Hv1 Hv2 Hs0 Hs1 Hs2 Hs3 Hs4 HO]
  · iapply (wp_tile 𝒱₀ d i none countersEmb (default : HIx 1) tabV (Memref.isWhole_whole _) xV zV (Memref.isWhole_whole _) (Memref.isWhole_whole _) bV (Memref.isWhole_whole _) lV (Memref.isWhole_whole _)
      oV (Memref.isWhole_whole _) (Memref.whole cc0_scratch0) (Memref.whole cc0_scratch1) (Memref.isWhole_whole _) (Memref.isWhole_whole _) (Memref.whole cc0_scratch2) (Memref.isWhole_whole _)
      (Memref.whole cc0_scratch3) (Memref.isWhole_whole _) (Memref.whole cc0_scratch4) (Memref.whole cc0_scratch5) (Memref.isWhole_whole _) (Memref.isWhole_whole _)
      (Memref.whole cc0_scratch6) (Memref.whole cc0_scratch7) (Memref.isWhole_whole _) (Memref.isWhole_whole _) (Memref.whole cc0_scratch8) (Memref.isWhole_whole _)
      (Memref.whole cc0_scratch9) (Memref.isWhole_whole _) (Memref.whole cc0_scratch10) (Memref.isWhole_whole _) (Memref.whole cc0_scratch11) (Memref.isWhole_whole _)
      (Memref.whole cc0_scratch12) (Memref.isWhole_whole _) cc0_scratch13 cc0_scratch14 cc0_scoped0 cc0_scoped1 cc0_scoped2 cc0_scoped3 cc0_scoped4
      (fun rm => SparseCore.sum_rowCredit_eq_dmaCredit rm _ fun _ => rfl) (View.dmaCredit_pos _ (by decide)) (View.dmaCredit_pos _ (by decide)) (View.dmaCredit_pos _ (by decide)) (View.dmaCredit_pos _ (by decide))
      (tq (i 0) (i 1)) (tq (i 0) (i 1)) (tq (i 0) (i 1)) (tq (i 0) (i 1)) (tq (i 0) (i 1))
      (W d (Proc.devRef .tc main_v1)) (W d (Proc.devRef .tc main_v3)) (W d (Proc.devRef .tc main_arg4)) (W d (Proc.devRef .tc main_arg0)) (W d (Proc.devRef .tc main_arg1))
      (tileRows (i 0) (i 1)) (chunk_rows i) (fun t => View.dmaCredit_pos _ (show 0 < S32x128.numel by decide)) O Ws)
    unfold tileI
    isplitl [Hmw]; · iexact Hmw
    isplitr [Ho]
    rotate_left
    · iexact Ho
    isplitl [HO]
    · iexists Ws
      isplitr [HO]
      rotate_left
      · iexact HO
      ipureintro
      exact fun p hp => .inl hp
    isplitl [Ht]; · iapply (Entails.of_eq (hold_buf d i (b := main_v1_scv) (tq (i 0) (i 1)) (W d (Proc.devRef .tc main_v1))).symm) $$ Ht
    isplitl [Hx]; · iapply (Entails.of_eq (hold_buf d i (b := main_arg0_scv) (tq (i 0) (i 1)) (W d (Proc.devRef .tc main_arg0))).symm) $$ Hx
    isplitl [Hz]; · iapply (Entails.of_eq (hold_buf d i (b := main_arg1_scv) (tq (i 0) (i 1)) (W d (Proc.devRef .tc main_arg1))).symm) $$ Hz
    isplitl [Hb]; · iapply (Entails.of_eq (hold_buf d i (b := main_v3_scv) (tq (i 0) (i 1)) (W d (Proc.devRef .tc main_v3))).symm) $$ Hb
    isplitl [Hl]; · iapply (Entails.of_eq (hold_buf d i (b := main_arg4_scv) (tq (i 0) (i 1)) (W d (Proc.devRef .tc main_arg4))).symm) $$ Hl
    isplitl [H8]; · iapply (buf_hold d i (b := cc0_scratch0)) $$ H8
    isplitl [H9]; · iapply (buf_hold d i (b := cc0_scratch1)) $$ H9
    isplitl [H10]; · iapply (buf_hold d i (b := cc0_scratch2)) $$ H10
    isplitl [H11]; · iapply (buf_hold d i (b := cc0_scratch3)) $$ H11
    isplitl [H12]; · iapply (buf_hold d i (b := cc0_scratch4)) $$ H12
    isplitl [H13]; · iapply (buf_hold d i (b := cc0_scratch5)) $$ H13
    isplitl [H14]; · iapply (buf_hold d i (b := cc0_scratch6)) $$ H14
    isplitl [H15]; · iapply (buf_hold d i (b := cc0_scratch7)) $$ H15
    isplitl [H16]; · iapply (buf_hold d i (b := cc0_scratch8)) $$ H16
    isplitl [H17]; · iapply (buf_hold d i (b := cc0_scratch9)) $$ H17
    isplitl [H18]; · iapply (buf_hold d i (b := cc0_scratch10)) $$ H18
    isplitl [H19]; · iapply (buf_hold d i (b := cc0_scratch11)) $$ H19
    isplitl [H20]; · iapply (buf_hold d i (b := cc0_scratch12)) $$ H20
    iframe Hv1 Hv2 Hs0 Hs1 Hs2 Hs3 Hs4
  iintro %_ H
  unfold tileI
  icases H with ⟨⟨HO, Ht, Hx, Hz, Hb, Hl, H8, H9, H10, H11, H12, H13, H14, H15, H16, H17, H18, H19, H20, Hv1, Hv2, Hs0, Hs1, Hs2, Hs3, Hs4⟩, Ho⟩
  isplitl [Ht Hx Hz Hb Hl Ho]
  · isplitr [Ho]
    rotate_left
    · iapply (res_close W d i) $$ Ho
    isplitl [Ht]; · iapply (Entails.of_eq (hold_buf d i (b := main_v1_scv) (tq (i 0) (i 1)) (W d (Proc.devRef .tc main_v1)))) $$ Ht
    isplitl [Hx]; · iapply (Entails.of_eq (hold_buf d i (b := main_arg0_scv) (tq (i 0) (i 1)) (W d (Proc.devRef .tc main_arg0)))) $$ Hx
    isplitl [Hz]; · iapply (Entails.of_eq (hold_buf d i (b := main_arg1_scv) (tq (i 0) (i 1)) (W d (Proc.devRef .tc main_arg1)))) $$ Hz
    isplitl [Hb]; · iapply (Entails.of_eq (hold_buf d i (b := main_v3_scv) (tq (i 0) (i 1)) (W d (Proc.devRef .tc main_v3)))) $$ Hb
    iapply (Entails.of_eq (hold_buf d i (b := main_arg4_scv) (tq (i 0) (i 1)) (W d (Proc.devRef .tc main_arg4)))) $$ Hl
  isplitl [H8 H9 H10 H11 H12 H13 H14 H15 H16 H17 H18 H19 H20 Hbufs]
  · isplitr [Hbufs]
    rotate_left
    · iexact Hbufs
    isplitl [H8]; · iapply (hold_some d i (b := cc0_scratch0)) $$ H8
    isplitl [H9]; · iapply (hold_some d i (b := cc0_scratch1)) $$ H9
    isplitl [H10]; · iapply (hold_some d i (b := cc0_scratch2)) $$ H10
    isplitl [H11]; · iapply (hold_some d i (b := cc0_scratch3)) $$ H11
    isplitl [H12]; · iapply (hold_some d i (b := cc0_scratch4)) $$ H12
    isplitl [H13]; · iapply (hold_some d i (b := cc0_scratch5)) $$ H13
    isplitl [H14]; · iapply (hold_some d i (b := cc0_scratch6)) $$ H14
    isplitl [H15]; · iapply (hold_some d i (b := cc0_scratch7)) $$ H15
    isplitl [H16]; · iapply (hold_some d i (b := cc0_scratch8)) $$ H16
    isplitl [H17]; · iapply (hold_some d i (b := cc0_scratch9)) $$ H17
    isplitl [H18]; · iapply (hold_some d i (b := cc0_scratch10)) $$ H18
    isplitl [H19]; · iapply (hold_some d i (b := cc0_scratch11)) $$ H19
    iapply (hold_some d i (b := cc0_scratch12)) $$ H20
  isplitl [Hv1 Hv2 Hs0 Hs1 Hs2 Hs3 Hs4 Hsems]
  · iframe Hv1 Hv2 Hs0 Hs1 Hs2 Hs3 Hs4 Hsems
  iexact HO

end Body

end Cert.KernelIdeal.Task

end
-- ==== Proof.LaunchKernelIdeal.lean ====
/-
  The whole program: the operations before the SparseCore call, the call at all its tiles, the operation after it, and what the memory then holds.
-/
module

public import proofs.«01_k».proof.Proof.TaskKernelIdeal

@[expose] public section

noncomputable section

namespace Cert.KernelIdeal.Launch

open Cert.KernelIdeal Cert.KernelIdeal.Gen Cert.KernelIdeal.Lanes Cert.KernelIdeal.Task
open Cert.Proof.Spec
open Idealize.ShloMosaic
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The task as the launch asks for it -/

section Obl

variable (W : Dev nD → Valuation τ sig (Elt F))

/-- A tile's coordinates. -/
def at_ (c : Fin (grid0.bound 0)) (s : Fin (grid0.bound 1)) : grid0.Coords :=
  fun | 0 => c | 1 => s | ⟨_ + 2, h⟩ => absurd h (Nat.not_lt.2 (Nat.le_add_left _ _))

/-- The body the program's table gives at a tile. -/
def bodyAt (c : Fin (grid0.bound 0)) (s : Fin (grid0.bound 1)) :=
  cc0__sc_body (F := F) (at_ c s) (Memref.whole main_v1_scv) (Memref.isWhole_whole _) (Memref.whole main_arg0_scv) (Memref.isWhole_whole _) (Memref.whole main_arg1_scv) (Memref.isWhole_whole _)
    (Memref.whole main_v3_scv) (Memref.isWhole_whole _) (Memref.whole main_arg4_scv) (Memref.isWhole_whole _) (Memref.whole main_v4_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) cc0_scratch13 cc0_scratch14 cc0_scoped0 cc0_scoped1 cc0_scoped2 cc0_scoped3 cc0_scoped4

theorem defs₀_vector (c : Fin τ.nSC) (s : Fin τ.nSub) : defs₀ (F := F) (.scVector c s) 0 () = SparseCore.onTile hcore0 hsub0 (fun c s => bodyAt c s) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'
  isplitr
  · ipureintro; exact fun p hp => (hW' p hp).imp_right Or.inl
  · iexact HO

set_option maxRecDepth 16384 in
/-- Every task of the call does what the call's messages say. -/
theorem tileObl : (K (F := F)).TileObl (D (F := F)) 𝒱 (P W) v₀ 0 := by
  intro d c i O Ws hO _ _
  simp only [show (P W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body W d (at_ ⟨_, hci.1⟩ ⟨_, hci.2⟩) facts O Ws hO).trans (wp_mono frame _ _ fun _ => obl_post)

end Obl

/-! ## The operations around the call -/

variable (m : (ℓ : Loc nD τ sig) → Buf (Elt F) ℓ) (ρ : Dev nD → PrngReg)

abbrev opT : HloOp τ sig (Elt F) :=
  StableHlo.unary main_arg2 main_v0 ((transpose S8x8x65x65x128 [3, 4, 0, 1, 2] · transposes_S65x65x128x8x8_S8x8x65x65x128_3_4_0_1_2) : (⟨S65x65x128x8x8, .f32⟩ : BufTy).Contents (Elt F) → (⟨S8x8x65x65x128, .f32⟩ : BufTy).Contents (Elt F))
abbrev opR : HloOp τ sig (Elt F) := StableHlo.reshape main_v0 main_v1 (rfl : (.f32 : EltTy) = .f32) shapeCasts_S8x8x65x65x128_S270400x128
abbrev opC : HloOp τ sig (Elt F) := StableHlo.nullary main_cst (constant S_ .f32 0x00000000#32)
abbrev opB : HloOp τ sig (Elt F) :=
  StableHlo.unary main_cst main_v2 (broadcastInDim S7 ![] bcast_S_S7 : (⟨S_, .f32⟩ : BufTy).Contents (Elt F) → (⟨S7, .f32⟩ : BufTy).Contents (Elt F))
abbrev opJ : HloOp τ sig (Elt F) :=
  StableHlo.binary main_arg3 main_v2 main_v3 ((fun a b => concatenate S72 0 [⟨S65, a⟩, ⟨S7, b⟩] concatenates_S65_S7_S72_d0) : (⟨S65, .f32⟩ : BufTy).Contents (Elt F) → (⟨S7, .f32⟩ : BufTy).Contents (Elt F) → (⟨S72, .f32⟩ : BufTy).Contents (Elt F))
abbrev opO : HloOp τ sig (Elt F) :=
  StableHlo.unary main_v4 main_v5 ((transpose S128x4096 [1, 0] · transposes_S4096x128_S128x4096_1_0) : (⟨S4096x128, .f32⟩ : BufTy).Contents (Elt F) → (⟨S128x4096, .f32⟩ : BufTy).Contents (Elt F))

abbrev r_ (r : Ref sig .tc) : DevRef τ sig := Proc.devRef .tc r

/-- The TensorCore's arrays. -/
abbrev arrays : Finset (DevRef τ sig) :=
  {r_ main_arg0, r_ main_arg1, r_ main_arg2, r_ main_arg3, r_ main_arg4, r_ main_v0, r_ main_v1, r_ main_cst, r_ main_v2, r_ main_v3, r_ main_v4, r_ main_v5}

/-- The arrays at the start, before the call, after the call and at the end. -/
def V₀ (d : Dev nD) : Valuation τ sig (Elt F) := fun b => m (d, b)
abbrev V₁ (d : Dev nD) : Valuation τ sig (Elt F) := (opJ (F := F)).result ((opB (F := F)).result ((opC (F := F)).result ((opR (F := F)).result ((opT (F := F)).result (V₀ m d)))))
def V₂ (d : Dev nD) : Valuation τ sig (Elt F) := Function.update (V₁ m d) (r_ main_v4) (outV (V₁ m) d)
def V₃ (d : Dev nD) : Valuation τ sig (Elt F) := (opO (F := F)).result (V₂ m d)

omit [FloatOps F] in
theorem held_arrays (d : Dev nD) (W : Valuation τ sig (Elt F)) :
    (held (T d) arrays W : sProp 𝕄)
      = iprop(((d, r_ main_arg0) ↦{fullShare} W (r_ main_arg0)) ∗ ((d, r_ main_arg1) ↦{fullShare} W (r_ main_arg1)) ∗ ((d, r_ main_arg2) ↦{fullShare} W (r_ main_arg2))
          ∗ ((d, r_ main_arg3) ↦{fullShare} W (r_ main_arg3)) ∗ ((d, r_ main_arg4) ↦{fullShare} W (r_ main_arg4)) ∗ ((d, r_ main_v0) ↦{fullShare} W (r_ main_v0))
          ∗ ((d, r_ main_v1) ↦{fullShare} W (r_ main_v1)) ∗ ((d, r_ main_cst) ↦{fullShare} W (r_ main_cst)) ∗ ((d, r_ main_v2) ↦{fullShare} W (r_ main_v2))
          ∗ ((d, r_ main_v3) ↦{fullShare} W (r_ main_v3)) ∗ ((d, r_ main_v4) ↦{fullShare} W (r_ main_v4)) ∗ (d, r_ main_v5) ↦{fullShare} W (r_ main_v5)) := by
  unfold held arrays
  iterate 11 rw [SparseCore.bigSep_insert' (by decide)]
  rw [bigSep_singleton]

omit [FloatOps F] in
theorem unscoped_held (d : Dev nD) : (unscopedBufs d (fun b => m ((SparseCore.T d).loc b)) : sProp 𝕄) = held (T d) arrays (V₀ m d) := by
  rw [held_arrays]
  unfold unscopedBufs
  rw [show (Finset.univ.filter fun b : Ref sig .tc => ¬ b.isScoped)
      = {main_arg0, main_arg1, main_arg2, main_arg3, main_arg4, main_v0, main_v1, main_cst, main_v2, main_v3, main_v4, main_v5} by decide]
  iterate 11 rw [SparseCore.bigSep_insert' (by decide)]
  rw [bigSep_singleton]
  rfl

/-! ## The call's operands dealt to the two SparseCores -/

omit [FloatOps F] in
theorem oPts_cores (d : Dev nD) (f : Buf (Elt F) (oLoc d)) : (oLoc d ↦{fullShare} f : sProp 𝕄) = bigSep Finset.univ fun c : Fin 2 => oPts d (coreRows c) f := by
  unfold oPts
  rw [← pointsTo_biUnion Finset.univ (ℓ := oLoc d) coreRows coreRows_disjoint]
  exact congrArg (fun I : Finset S4096x128.Idx => (oLoc d ↦[I]{fullShare} f : sProp 𝕄)) coreRows_cover.symm

theorem st_eq (W : Dev nD → Valuation τ sig (Elt F)) (d : Dev nD) :
    (bigSep Finset.univ fun c : Fin ((K (F := F)).nCore 0) => (P W).st 0 d c) = (iprop(inPts W d fullShare ∗ oLoc d ↦{fullShare} W d (r_ main_v4)) : sProp 𝕄) := by
  rw [inPts_pieces W d fullShare 2 (by decide), oPts_cores, ← bigSep_sep']
  rfl
theorem dn_eq (W : Dev nD → Valuation τ sig (Elt F)) (d : Dev nD) :
    (bigSep Finset.univ fun c : Fin ((K (F := F)).nCore 0) => (P W).dn 0 d c) = (iprop(inPts W d fullShare ∗ oLoc d ↦{fullShare} outV W d) : sProp 𝕄) := by
  rw [inPts_pieces W d fullShare 2 (by decide), oPts_cores, ← bigSep_sep']
  rfl

/-! ## The launch's own state -/

def u₀ : UU := (initOf (K (F := F)).hsCells (K (F := F)).hsToks, 1)

theorem hu₀ (W : Dev nD → Valuation τ sig (Elt F)) : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P W).x q thr) := by
  have he : (bigSep Finset.univ fun thr : Thread nD τ => bigSep Finset.univ fun q : Fin 1 => (P (F := F) W).x q thr) = (iprop(emp) : sProp 𝕄) :=
    (bigSep_congr fun _ _ => bigSep_univ_of_subsingleton (0 : Fin 1)).trans (bigSep_emp_const _)
  have hd : (bigSep Finset.univ fun _ : Dev nD => iprop(emp)) = (iprop(emp) : sProp 𝕄) := bigSep_emp_const _
  rw [he, hd]
  unfold u₀
  iintro Hu
  ihave H := (ownU_pair (initOf (K (F := F)).hsCells (K (F := F)).hsToks) (1 : Counters)) $$ Hu
  icases H with ⟨HH, -⟩
  imodintro
  iframe HH
  isplitr <;> iempintro

/-! ## @main -/

theorem hT : (opT (F := F)).bufs ⊆ arrays := show ({r_ main_arg2, r_ main_v0} : Finset (DevRef τ sig)) ⊆ arrays by decide
theorem hR : (opR (F := F)).bufs ⊆ arrays := show ({r_ main_v0, r_ main_v1} : Finset (DevRef τ sig)) ⊆ arrays by decide
theorem hC : (opC (F := F)).bufs ⊆ arrays := show ({r_ main_cst} : Finset (DevRef τ sig)) ⊆ arrays by decide
theorem hB : (opB (F := F)).bufs ⊆ arrays := show ({r_ main_cst, r_ main_v2} : Finset (DevRef τ sig)) ⊆ arrays by decide
theorem hJ : (opJ (F := F)).bufs ⊆ arrays := show ({r_ main_arg3, r_ main_v2, r_ main_v3} : Finset (DevRef τ sig)) ⊆ arrays by decide
theorem hO : (opO (F := F)).bufs ⊆ arrays := show ({r_ main_v4, r_ main_v5} : Finset (DevRef τ sig)) ⊆ arrays by decide

abbrev FIN (d : Dev nD) : sProp 𝕄 := held (T d) arrays (V₃ m d)

theorem held_V₂ (d : Dev nD) :
    (held (T d) arrays (V₂ m d) : sProp 𝕄)
      = iprop(((d, r_ main_arg0) ↦{fullShare} V₁ m d (r_ main_arg0)) ∗ ((d, r_ main_arg1) ↦{fullShare} V₁ m d (r_ main_arg1)) ∗ ((d, r_ main_arg2) ↦{fullShare} V₁ m d (r_ main_arg2))
          ∗ ((d, r_ main_arg3) ↦{fullShare} V₁ m d (r_ main_arg3)) ∗ ((d, r_ main_arg4) ↦{fullShare} V₁ m d (r_ main_arg4)) ∗ ((d, r_ main_v0) ↦{fullShare} V₁ m d (r_ main_v0))
          ∗ ((d, r_ main_v1) ↦{fullShare} V₁ m d (r_ main_v1)) ∗ ((d, r_ main_cst) ↦{fullShare} V₁ m d (r_ main_cst)) ∗ ((d, r_ main_v2) ↦{fullShare} V₁ m d (r_ main_v2))
          ∗ ((d, r_ main_v3) ↦{fullShare} V₁ m d (r_ main_v3)) ∗ (oLoc d ↦{fullShare} outV (V₁ m) d) ∗ (d, r_ main_v5) ↦{fullShare} V₁ m d (r_ main_v5)) := by
  have h : ∀ b, b ≠ r_ main_v4 → V₂ m d b = V₁ m d b := fun b hb => Function.update_of_ne hb _ _
  have h4 : V₂ m d (r_ main_v4) = outV (V₁ m) d := Function.update_self _ _ _
  rw [held_arrays, h _ (by decide), h _ (by decide), h _ (by decide), h _ (by decide), h _ (by decide), h _ (by decide), h _ (by decide), h _ (by decide), h _ (by decide),
    h _ (by decide), h4, h (r_ main_v5) (by decide)]

theorem hmain (κ : GSem nD τ sig → ℕ) (d : Dev nD) :
    iprop((K (F := F)).ctx EH (P (V₁ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := opT) (S := arrays) hT (V := V₀ m d)) $$ [Hb Hh]
  · isplitl [Hb] <;> iassumption
  iintro ⟨Hb, Hh⟩
  rw [wp_ret]; imodintro
  iapply (wp_hlo_within 𝒱 (SparseCore.T d) none Set.univ (op := opR) (S := arrays) hR (V := (opT (F := F)).result (V₀ m d))) $$ [Hb Hh]
  · isplitl [Hb] <;> iassumption
  iintro ⟨Hb, Hh⟩
  rw [wp_ret]; imodintro
  iapply (wp_hlo_within 𝒱 (SparseCore.T d) none Set.univ (op := opC) (S := arrays) hC (V := (opR (F := F)).result ((opT (F := F)).result (V₀ m d)))) $$ [Hb Hh]
  · isplitl [Hb] <;> iassumption
  iintro ⟨Hb, Hh⟩
  rw [wp_ret]; imodintro
  iapply (wp_hlo_within 𝒱 (SparseCore.T d) none Set.univ (op := opB) (S := arrays) hB (V := (opC (F := F)).result ((opR (F := F)).result ((opT (F := F)).result (V₀ m d))))) $$ [Hb Hh]
  · isplitl [Hb] <;> iassumption
  iintro ⟨Hb, Hh⟩
  rw [wp_ret]; imodintro
  iapply (wp_hlo_within 𝒱 (SparseCore.T d) none Set.univ (op := opJ) (S := arrays) hJ
    (V := (opB (F := F)).result ((opC (F := F)).result ((opR (F := F)).result ((opT (F := F)).result (V₀ m d)))))) $$ [Hb Hh]
  · isplitl [Hb] <;> iassumption
  iintro ⟨Hb, Hh⟩
  rw [wp_ret]; imodintro
  ihave Hh := (Entails.of_eq (held_arrays (F := F) d (V₁ m d))) $$ Hh
  icases Hh with ⟨Hx, Hz, Hw, Hbd, Hl, H0, Ht, Hc, H2, H3, Ho, H5⟩
  iapply ((K (F := F)).wp_run (D (F := F)) 𝒱 (EH := EH) (P := P (V₁ m)) κ d 0) $$ [Hst Hb Hts Hx Hz Hw Hbd Hl H0 Ht Hc H2 H3 Ho H5]
  isplitr; · iexact Hctx
  isplitl [Hst]; · iexact Hst
  isplitl [Ht Hx Hz H3 Hl Ho]
  · iapply (Entails.of_eq (st_eq (V₁ m) d).symm)
    unfold inPts
    isplitr [Ho]
    rotate_left
    · iexact Ho
    isplitl [Ht]; · iexact Ht
    isplitl [Hx]; · iexact Hx
    isplitl [Hz]; · iexact Hz
    isplitl [H3]; · iexact H3
    iexact Hl
  iintro ⟨Hst, Hdn⟩
  ihave Hdn := (Entails.of_eq (dn_eq (V₁ m) d)) $$ Hdn
  unfold inPts
  icases Hdn with ⟨⟨Ht, Hx, Hz, H3, Hl⟩, Ho⟩
  iapply (wp_hlo_within 𝒱 (SparseCore.T d) none Set.univ (op := opO) (S := arrays) hO (V := V₂ m d)) $$ [Hb Hx Hz Hw Hbd Hl H0 Ht Hc H2 H3 Ho H5]
  · isplitl [Hb]; · iexact Hb
    iapply (Entails.of_eq (held_V₂ m d).symm)
    isplitl [Hx]; · iexact Hx
    isplitl [Hz]; · iexact Hz
    isplitl [Hw]; · iexact Hw
    isplitl [Hbd]; · iexact Hbd
    isplitl [Hl]; · iexact Hl
    isplitl [H0]; · iexact H0
    isplitl [Ht]; · iexact Ht
    isplitl [Hc]; · iexact Hc
    isplitl [H2]; · iexact H2
    isplitl [H3]; · iexact H3
    isplitl [Ho]; · iexact Ho
    iexact H5
  iintro ⟨Hb, Hh⟩
  rw [wp_ret]; imodintro; imodintro
  isplitl [Hst]; · iexact Hst
  isplitr [Hb Hts]
  · iexact Hh
  isplitl [Hb] <;> iassumption

/-- What the end state says of a device's arrays. -/
def fq (d : Dev nD) (s' : Phys nD τ sig (Elt F)) : Prop := ∀ b : DevRef τ sig, b ∈ arrays → s'.mem.mem (d, b) = V₃ m d b

theorem hfin (d : Dev nD) (s' : Phys nD τ sig (Elt F)) : iprop(FIN m d ∗ SI s') ⊢ (⌜fq m d s'⌝ : sProp 𝕄) := by
  have one : ∀ b : DevRef τ sig, iprop(FIN m d ∗ SI s') ⊢ (⌜b ∈ arrays → s'.mem.mem (d, b) = V₃ m d b⌝ : sProp 𝕄) := by
    intro b
    by_cases hb : b ∈ arrays
    · unfold FIN held
      iintro ⟨H, HSI⟩
      ihave H := (SparseCore.ent (bigSep_elim (Φ := fun b : DevRef τ sig => (((d, b) : Loc nD τ sig) ↦{fullShare} V₃ m d b : sProp 𝕄)) hb)) $$ H
      ihave H := (SI_pointsTo_agree (st := s') (ℓ := (d, b)) (I := Finset.univ) (q := fullShare) (f := V₃ m d b)) $$ [HSI H]
      · isplitl [HSI] <;> iassumption
      icases H with %h
      ipureintro; exact fun _ => funext fun i => h i (Finset.mem_univ i)
    · iintro -
      ipureintro; exact fun h => absurd h hb
  exact (Laws.forall_intro one).trans Laws.pure_forall.2

/-! ## The run -/

def QC : PUnit × MemSt nD τ sig (Elt F) → Prop := fun r => (∀ d : Dev nD, ∀ b : DevRef τ sig, b ∈ arrays → r.2.mem (d, b) = V₃ m d b) ∧ r.2.sem = fun _ => 0

/-- The program ends with every array at `V₃`, every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (V₁ m)) (A := ∅) facts v₀
    (fun q hq => match q with | 0 => nomatch hq)
    (fun q _ => match q with | 0 => tileObl (V₁ m))
    (fun q _ => match q with | 0 => SparseCore.Cfg.VecSplit.of_plain (vecSplit (V₁ m)))
    m ρ main (fun _ => iprop(emp)) (FIN m) (u₀ (F := F)) (sep_elim_left.trans (hu₀ (V₁ m))) (hmain m ρ) (fq m) (hfin m) (QC m) (fun _ h hz => ⟨h, hz⟩)

/-! ## What the arrays hold at the end -/

theorem V₁_arg {r : Ref sig .tc} (d : Dev nD) (h0 : r ≠ main_v0) (h1 : r ≠ main_v1) (hc : r ≠ main_cst) (h2 : r ≠ main_v2) (h3 : r ≠ main_v3) :
    V₁ m d (r_ r) = m (d, r_ r) := by
  unfold V₁
  rw [StableHlo.binary_result_ne _ _ _ _ _ _ _ _ h3, StableHlo.unary_result_ne _ _ _ _ _ _ h2, StableHlo.nullary_result_ne _ _ _ _ hc, StableHlo.reshape_result_ne _ _ _ _ _ _ _ h1,
    StableHlo.unary_result_ne _ _ _ _ _ _ h0]
  rfl

theorem V₃_arg {r : Ref sig .tc} (d : Dev nD) (h0 : r ≠ main_v0) (h1 : r ≠ main_v1) (hc : r ≠ main_cst) (h2 : r ≠ main_v2) (h3 : r ≠ main_v3) (h4 : r ≠ main_v4) (h5 : r ≠ main_v5) :
    V₃ m d (r_ r) = m (d, r_ r) := by
  unfold V₃
  rw [StableHlo.unary_result_ne _ _ _ _ _ _ h5]
  exact (Function.update_of_ne (fun e => h4 (Proc.devRef_injective _ e)) _ _).trans (V₁_arg m d h0 h1 hc h2 h3)

/-- The five arguments end as they began. -/
theorem args_kept {r : PUnit × MemSt nD τ sig (Elt F)} (h : QC m r) (d : Dev nD) :
    r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4) := by
  have one : ∀ r' : Ref sig .tc, r_ r' ∈ arrays → r' ≠ main_v0 → r' ≠ main_v1 → r' ≠ main_cst → r' ≠ main_v2 → r' ≠ main_v3 → r' ≠ main_v4 → r' ≠ main_v5 →
      r.2.mem ((d.tc : Thread nD τ).loc r') = m ((d.tc : Thread nD τ).loc r') := fun r' hm h0 h1 hc h2 h3 h4 h5 =>
    (h.1 d (r_ r') hm).trans (V₃_arg m d h0 h1 hc h2 h3 h4 h5)
  exact ⟨one main_arg0 (by decide) (by decide) (by decide) (by decide) (by decide) (by decide) (by decide) (by decide),
    one main_arg1 (by decide) (by decide) (by decide) (by decide) (by decide) (by decide) (by decide) (by decide),
    one main_arg2 (by decide) (by decide) (by decide) (by decide) (by decide) (by decide) (by decide) (by decide),
    one main_arg3 (by decide) (by decide) (by decide) (by decide) (by decide) (by decide) (by decide) (by decide),
    one main_arg4 (by decide) (by decide) (by decide) (by decide) (by decide) (by decide) (by decide) (by decide)⟩

/-- The table's rows: the table transposed and read in rows of 128. -/
def tabV (d : Dev nD) : FVec F S270400x128 .f32 :=
  shapeCast S270400x128 (transpose S8x8x65x65x128 [3, 4, 0, 1, 2] (m ((d.tc : Thread nD τ).loc main_arg2) : FVec F S65x65x128x8x8 .f32) transposes_S65x65x128x8x8_S8x8x65x65x128_3_4_0_1_2)
    shapeCasts_S8x8x65x65x128_S270400x128

/-- The borders, seven zeros after them. -/
def bordersV (d : Dev nD) : FVec F S72 .f32 :=
  concatenate S72 0 [⟨S65, (m ((d.tc : Thread nD τ).loc main_arg3) : FVec F S65 .f32)⟩, ⟨S7, broadcastInDim S7 ![] bcast_S_S7 (constant S_ .f32 0x00000000#32 : FVec F S_ .f32)⟩] concatenates_S65_S7_S72_d0

/-- The result's array at the end. -/
theorem result_eq {r : PUnit × MemSt nD τ sig (Elt F)} (h : QC m r) (d : Dev nD) :
    r.2.mem ((d.tc : Thread nD τ).loc main_v5)
      = transpose S128x4096 [1, 0] (out (tabV m d) (bordersV m d) (m ((d.tc : Thread nD τ).loc main_arg4)) (m ((d.tc : Thread nD τ).loc main_arg0)) (m ((d.tc : Thread nD τ).loc main_arg1)) : FVec F S4096x128 .f32)
          transposes_S4096x128_S128x4096_1_0 := by
  have h5 : V₃ m d (r_ main_v5) = transpose S128x4096 [1, 0] (outV (V₁ m) d : FVec F S4096x128 .f32) transposes_S4096x128_S128x4096_1_0 := by
    unfold V₃
    rw [StableHlo.unary_result]
    unfold V₂
    rw [Function.update_self]
  have ht : V₁ m d (r_ main_v1) = tabV m d := by
    unfold V₁
    rw [StableHlo.binary_result_ne _ _ _ _ _ _ _ _ (by decide), StableHlo.unary_result_ne _ _ _ _ _ _ (by decide), StableHlo.nullary_result_ne _ _ _ _ (by decide),
      StableHlo.reshape_result, StableHlo.unary_result]
    rfl
  have hb : V₁ m d (r_ main_v3) = bordersV m d := by
    unfold V₁
    rw [StableHlo.binary_result, StableHlo.unary_result, StableHlo.nullary_result, StableHlo.unary_result_ne _ _ _ _ _ _ (by decide), StableHlo.nullary_result_ne _ _ _ _ (by decide),
      StableHlo.reshape_result_ne _ _ _ _ _ _ _ (by decide), StableHlo.unary_result_ne _ _ _ _ _ _ (by decide)]
    rfl
  refine (h.1 d (r_ main_v5) (by decide)).trans (h5.trans ?_)
  unfold outV
  rw [ht, hb, V₁_arg m d (r := main_arg4) (by decide) (by decide) (by decide) (by decide) (by decide), V₁_arg m d (r := main_arg0) (by decide) (by decide) (by decide) (by decide) (by decide),
    V₁_arg m d (r := main_arg1) (by decide) (by decide) (by decide) (by decide) (by decide)]

end Cert.KernelIdeal.Launch

end
-- ==== Proof.Corner.lean ====
/-
  Readings of the reference's operations at one place: the reads of the table by four words, the reads of the borders by one word,
  the sum over the first two axes, and the rows of the table laid out by pair of coordinates.
-/
module

public import proofs.«01_k».proof.Proof.Spec
public import Idealize.ShloMosaic.Lib.ValueIdx
public import Idealize.ShloMosaic.Lib.ValueLayout
public import Idealize.ShloMosaic.Lib.IdealHost
public import Idealize.ShloMosaic.Lib.Pointwise.SelectCore
public import Idealize.ShloMosaic.Lib.Pipeline.Value

@[expose] public section

noncomputable section

namespace Cert.Proof.Corner

open Idealize.ShloMosaic
open Cert.Proof.Spec (pair pX pZ corner num rowAt)

abbrev ST : Shape := ⟨5, ![65, 65, 128, 8, 8]⟩
abbrev SI4 : Shape := ⟨4, ![8, 8, 4096, 4]⟩
abbrev SI1 : Shape := ⟨4, ![8, 8, 4096, 1]⟩
abbrev SO : Shape := ⟨4, ![8, 8, 4096, 128]⟩

/-- How the reference reads the table: a bin, a bin, all outputs, a coordinate, a coordinate. -/
abbrev tableDims (wf : GatherDims.WF ST SI4 SO [3] [0, 1, 3, 4] [] [0, 1, 3, 4] [] 3 ![1, 1, 128, 1, 1]) : GatherDims ST SI4 SO where
  offsetDims := [3]
  collapsedSliceDims := [0, 1, 3, 4]
  operandBatchingDims := []
  startIndicesBatchingDims := []
  startIndexMap := [0, 1, 3, 4]
  indexVectorDim := 3
  sliceSizes := ![1, 1, 128, 1, 1]
  wf := wf

/-- A read of the table at four words that are in range. -/
theorem table_read {α : Type} (wf : GatherDims.WF ST SI4 SO [3] [0, 1, 3, 4] [] [0, 1, 3, 4] [] 3 ![1, 1, 128, 1, 1]) (W : ST.Idx → α) (idx : IVec SI4 32)
    (p q : Fin 8) (b : Fin 4096) (o : Fin 128) (e0 e1 : Fin 65) (e2 e3 : Fin 8)
    (h0 : (idx (ix4 p q b 0)).toInt = e0.val) (h1 : (idx (ix4 p q b 1)).toInt = e1.val) (h2 : (idx (ix4 p q b 2)).toInt = e2.val) (h3 : (idx (ix4 p q b 3)).toInt = e3.val) :
    Host.gather (tableDims wf) W idx (ix4 p q b o) = W (ix5 e0 e1 o e2 e3) := by
  unfold Host.gather
  congr 1
  funext a
  refine Fin.ext ?_
  show (tableDims wf).start (ix4 p q b o) idx a + (tableDims wf).batchCoord (ix4 p q b o) a + (tableDims wf).offCoord (ix4 p q b o) a = _
  rw [GatherDims.batchCoord_eq_zero _ _ _ List.not_mem_nil, Nat.add_zero]
  have st : ∀ (k : Fin 4) (a : Fin 5) (n : ℕ) (hm : a ∈ ([0, 1, 3, 4] : List (Fin 5))) (hk : List.idxOf a ([0, 1, 3, 4] : List (Fin 5)) = k.val),
      (idx (ix4 p q b k)).toInt = n → n ≤ ST.size a - (tableDims wf).sliceSizes a → (tableDims wf).start (ix4 p q b o) idx a = n := by
    intro k a n hm hk hn hle
    unfold GatherDims.start
    rw [dif_pos hm]
    have hsi : (tableDims wf).siIdx (ix4 p q b o) ⟨List.idxOf a (tableDims wf).startIndexMap, List.idxOf_lt_length_iff.2 hm⟩ = ix4 p q b k := by
      funext c; refine Fin.ext ?_
      match c with
      | ⟨0, _⟩ => rfl
      | ⟨1, _⟩ => rfl
      | ⟨2, _⟩ => rfl
      | ⟨3, _⟩ => exact hk
    rw [hsi, hn, Int.toNat_natCast]
    exact Nat.min_eq_left hle
  have of0 : ∀ a : Fin 5, a ∈ ([0, 1, 3, 4] : List (Fin 5)) → (tableDims wf).offCoord (ix4 p q b o) a = 0 := fun a ha =>
    GatherDims.offCoord_eq_zero _ _ _ fun h => ((GatherDims.mem_sKept _ _).mp h).1 ha
  match a with
  | ⟨0, _⟩ => exact congrArg₂ (· + ·) (st 0 0 e0.val (by decide) (by decide) h0 (by have := e0.isLt; show _ ≤ 64; omega)) (of0 0 (by decide))
  | ⟨1, _⟩ => exact congrArg₂ (· + ·) (st 1 1 e1.val (by decide) (by decide) h1 (by have := e1.isLt; show _ ≤ 64; omega)) (of0 1 (by decide))
  | ⟨2, _⟩ =>
    have hs : (tableDims wf).start (ix4 p q b o) idx 2 = 0 := by unfold GatherDims.start; rw [dif_neg (show (2 : Fin 5) ∉ ([0, 1, 3, 4] : List (Fin 5)) by decide)]
    exact (congrArg₂ (· + ·) hs (show (tableDims wf).offCoord (ix4 p q b o) 2 = o.val from rfl)).trans (Nat.zero_add _)
  | ⟨3, _⟩ => exact congrArg₂ (· + ·) (st 2 3 e2.val (by decide) (by decide) h2 (by have := e2.isLt; show _ ≤ 7; omega)) (of0 3 (by decide))
  | ⟨4, _⟩ => exact congrArg₂ (· + ·) (st 3 4 e3.val (by decide) (by decide) h3 (by have := e3.isLt; show _ ≤ 7; omega)) (of0 4 (by decide))

/-- Four words side by side: word `k` is the `k`th. -/
theorem four_read {α : Type} (u0 u1 u2 u3 : SI1.Idx → α) (h : Shape.Concatenates [SI1, SI1, SI1, SI1] SI4 3) (p q : Fin 8) (b : Fin 4096) (k : Fin 4) :
    concatenate SI4 3 [⟨SI1, u0⟩, ⟨SI1, u1⟩, ⟨SI1, u2⟩, ⟨SI1, u3⟩] h (ix4 p q b k) = (![u0, u1, u2, u3] : Fin 4 → SI1.Idx → α) k (ix4 p q b 0) := by
  refine concatenate_apply_piece (t := SI4) 3 [⟨SI1, u0⟩, ⟨SI1, u1⟩, ⟨SI1, u2⟩, ⟨SI1, u3⟩] h (ix4 p q b k) k.val k.isLt SI1 _ ?_ rfl k.val ?_ (ix4 p q b 0) ?_ ?_
  · fin_cases k <;> rfl
  · fin_cases k <;> rfl
  · intro c hc
    match c with
    | ⟨0, _⟩ => rfl
    | ⟨1, _⟩ => rfl
    | ⟨2, _⟩ => rfl
    | ⟨3, _⟩ => exact absurd rfl hc
  · rfl

/-- A sum over the first two of four axes. -/
theorem sum_two (h : SO.ReducesTo [0, 1] ⟨2, ![4096, 128]⟩) (v : SO.Idx → EReal) (init : EReal) (b : Fin 4096) (o : Fin 128) :
    Ideal.hostReduceAdd h v init (ix2 b o) = init + ∑ pq : Fin 8 × Fin 8, v (ix4 pq.1 pq.2 b o) := by
  unfold Ideal.hostReduceAdd
  congr 1
  refine Finset.sum_nbij' (fun i => ((i 0, i 1) : Fin 8 × Fin 8)) (fun pq => ix4 pq.1 pq.2 b o) ?_ ?_ ?_ ?_ ?_
  · intro i _; exact Finset.mem_univ _
  · intro pq _
    refine Finset.mem_filter.mpr ⟨Finset.mem_univ _, ?_⟩
    funext a
    match a with
    | ⟨0, _⟩ => rfl
    | ⟨1, _⟩ => rfl
  · intro i hi
    have hd := (Finset.mem_filter.mp hi).2
    have h2 : i 2 = b := Fin.ext (congrArg Fin.val (congrFun hd 0))
    have h3 : i 3 = o := Fin.ext (congrArg Fin.val (congrFun hd 1))
    rw [eq_ix4 i]
    show ix4 (i 0) (i 1) b o = _
    rw [← h2, ← h3]
    rfl
  · intro pq _; rfl
  · intro i hi
    have hd := (Finset.mem_filter.mp hi).2
    have h2 : i 2 = b := Fin.ext (congrArg Fin.val (congrFun hd 0))
    have h3 : i 3 = o := Fin.ext (congrArg Fin.val (congrFun hd 1))
    show v i = v (ix4 (i 0) (i 1) b o)
    rw [← h2, ← h3, ← eq_ix4 i]

/-- A row of the table laid out by pair of coordinates. -/
theorem layout_read {α : Type} (W : ST.Idx → α) (ht : ST.Transposes [3, 4, 0, 1, 2] ⟨5, ![8, 8, 65, 65, 128]⟩) (hc : (⟨5, ![8, 8, 65, 65, 128]⟩ : Shape).ShapeCasts ⟨2, ![270400, 128]⟩)
    (p q : Fin 8) (e f : Fin 65) (o : Fin 128) (r : Fin 270400) (hr : r.val = ((p.val * 8 + q.val) * 65 + e.val) * 65 + f.val) :
    shapeCast ⟨2, ![270400, 128]⟩ (transpose ⟨5, ![8, 8, 65, 65, 128]⟩ [3, 4, 0, 1, 2] W ht) hc (ix2 r o) = W (ix5 e f o p q) := by
  rw [shapeCast_apply _ hc (ix2 r o) (ix5 p q e f o) (by
    rw [Shape.rowMajor_val_two, Shape.rowMajor_val_five]
    show (((p.val * 8 + q.val) * 65 + e.val) * 65 + f.val) * 128 + o.val = r.val * 128 + o.val
    rw [hr])]
  exact transpose_apply _ W ht _ _ fun c => match c with | ⟨0, _⟩ => rfl | ⟨1, _⟩ => rfl | ⟨2, _⟩ => rfl | ⟨3, _⟩ => rfl | ⟨4, _⟩ => rfl

/-- The borders with seven words after them, read below 65. -/
theorem borders_read {α : Type} (B : (⟨1, ![65]⟩ : Shape).Idx → α) (Z : (⟨1, ![7]⟩ : Shape).Idx → α) (h : Shape.Concatenates [⟨1, ![65]⟩, ⟨1, ![7]⟩] ⟨1, ![72]⟩ 0) (n : Fin 72) (hn : n.val < 65) :
    concatenate ⟨1, ![72]⟩ 0 [⟨⟨1, ![65]⟩, B⟩, ⟨⟨1, ![7]⟩, Z⟩] h (ix1 n) = B (ix1 ⟨n.val, hn⟩) := by
  refine concatenate_apply_piece (t := ⟨1, ![72]⟩) 0 [⟨⟨1, ![65]⟩, B⟩, ⟨⟨1, ![7]⟩, Z⟩] h (ix1 n) 0 (Nat.succ_pos 1) ⟨1, ![65]⟩ B rfl rfl 0 rfl (ix1 ⟨n.val, hn⟩) ?_ ?_
  · intro c hc
    exact absurd (Subsingleton.elim (α := Fin 1) _ _) hc
  · show 0 + n.val = n.val
    omega

/-- A column's weighted rows, added up in order, are the sum over its places. -/
theorem acc_eq_sum (T : (⟨2, ![270400, 128]⟩ : Shape).Idx → EReal) (N : ℕ → BitVec 32) (V : ℕ → EReal) (o : Fin 128) (n : ℕ) :
    Spec.acc (F := Ideal) T N V o n = ∑ k ∈ Finset.range n, V k * rowAt (F := Ideal) T (N k) o := by
  induction n with
  | zero => exact Ideal.ofBits_zero_f32
  | succ n ih =>
    rw [Finset.sum_range_succ, ← ih]
    rfl

/-- A sum over the places of a column, by pair of coordinates and corner. -/
theorem places_sum (f : Fin 8 → Fin 8 → Fin 4 → EReal) :
    ∑ k ∈ Finset.range 256, f (pX k) (pZ k) (corner k) = ∑ pq : Fin 8 × Fin 8, ∑ c : Fin 4, f pq.1 pq.2 c := by
  rw [← Finset.sum_product', ← Finset.univ_product_univ]
  refine Finset.sum_nbij' (fun k => ((pX k, pZ k), corner k)) (fun x => (x.1.1.val * 8 + x.1.2.val) / 16 * 64 + x.2.val * 16 + (x.1.1.val * 8 + x.1.2.val) % 16) ?_ ?_ ?_ ?_ ?_
  · intro k _; simp
  · rintro ⟨⟨p, q⟩, c⟩ _
    have := p.isLt; have := q.isLt; have := c.isLt
    simp only [Finset.mem_range]; omega
  · intro k hk
    have hk := Finset.mem_range.mp hk
    simp only [pX, pZ, corner, pair]
    omega
  · rintro ⟨⟨p, q⟩, c⟩ _
    have := p.isLt; have := q.isLt; have := c.isLt
    refine Prod.ext (Prod.ext (Fin.ext ?_) (Fin.ext ?_)) (Fin.ext ?_) <;> simp only [pX, pZ, corner, pair] <;> omega
  · intro k _; rfl

end Cert.Proof.Corner

end
-- ==== Proof.Equation.lean ====
/-
  The reference's result is the kernel's: the reference's bins and offsets are the kernel's, each of its four products at a pair of
  coordinates is one place of the kernel's column, and the sum over the pairs and corners is the kernel's sum over 256 places.
-/
module

public import proofs.«01_k».proof.Proof.Corner
public import proofs.«01_k».proof.Proof.Gen.ReferenceIdeal.Run

@[expose] public section

noncomputable section

namespace Cert.Proof.Equation

open Idealize.ShloMosaic
open Cert.ReferenceIdeal Cert.ReferenceIdeal.Gen Cert.ReferenceIdeal.Value
open Cert.Proof.Spec (bin bin_lt dif pair pX pZ corner num num_toNat wt rowAt colOut out)
open Cert.Proof.Corner (table_read four_read sum_two layout_read borders_read acc_eq_sum places_sum)

/-- A word below 2³¹ is its natural value when read with its sign. -/
theorem toInt_of_lt (w : BitVec 32) (h : w.toNat < 2 ^ 31) : w.toInt = w.toNat := by
  rw [BitVec.toInt_eq_toNat_cond]; split <;> omega

/-- Wrapping a negative word round leaves a word that is not negative. -/
theorem wrap_word (w n : BitVec 32) (h : w.toNat < 2 ^ 31) : Scalar.select (IntOp.cmpi .slt w 0#32) (w + n) w = w := by
  have : IntOp.cmpi .slt w 0#32 = 0#1 := by
    show BitVec.ofBool (w.slt 0#32) = 0#1
    have : w.slt 0#32 = false := by
      simp only [BitVec.slt, toInt_of_lt w h]; simp
    rw [this]; rfl
  rw [this]; rfl

/-- The bin after one below 64, held between 0 and 64. -/
theorem next_word (w : BitVec 32) (h : w.toNat < 64) : (IntOp.minsi 64#32 (IntOp.maxsi 0#32 (w + 1#32))).toNat = w.toNat + 1 := by
  have h1 : (w + 1#32).toNat = w.toNat + 1 := by rw [BitVec.toNat_add]; simp; omega
  have h2 := toInt_of_lt (w + 1#32) (by omega)
  have h3 : IntOp.maxsi 0#32 (w + 1#32) = w + 1#32 := by
    unfold IntOp.maxsi
    split
    · rename_i hh; simp only [BitVec.sle, BitVec.slt, h2] at hh; simp at hh; omega
    · rfl
  rw [h3]
  unfold IntOp.minsi
  split
  · rename_i hh; simp only [BitVec.sle, BitVec.slt, h2] at hh; simp at hh; simp; omega
  · exact h1

variable (V : Valuation τ sig (Elt Ideal))

/-- The first argument. -/
abbrev X : FVec Ideal S8x4096 .f32 := V (Proc.devRef .tc main_arg0)
/-- The second argument. -/
abbrev Z : FVec Ideal S8x4096 .f32 := V (Proc.devRef .tc main_arg1)
/-- The table. -/
abbrev W : FVec Ideal S65x65x128x8x8 .f32 := V (Proc.devRef .tc main_arg2)
/-- The borders. -/
abbrev B : FVec Ideal S65 .f32 := V (Proc.devRef .tc main_arg3)
/-- The inverse lengths. -/
abbrev L : FVec Ideal S64 .f32 := V (Proc.devRef .tc main_arg4)

/-- The exponential of minus the size of a word, as the kernel writes it. -/
theorem tail_read (x : FVec Ideal S8x4096 .f32) (j : S8x4096.Idx) :
    Host.exp (Host.negf (Host.absf x)) j = exp (subf (broadcast S8x4096 (Scalar.ofBits .f32 0x00000000#32)) (absf x)) j := by
  show Ideal.exp (-(max (x j) (-(x j)))) = Ideal.exp (Ideal.ofBits .f32 0x00000000#32 - max (x j) (-(x j)))
  rw [Ideal.ofBits_zero_f32, zero_sub]

/-- The reference's bins of the first argument are the kernel's. -/
theorem bin_x (j : S8x4096.Idx) : res_main_v29 V j = bin (X V j) := by
  unfold res_main_v29 res_main_v2
  rw [funext (tail_read (X V))]
  rfl

/-- The reference's bins of the second argument are the kernel's. -/
theorem bin_z (j : S8x4096.Idx) : res_main_v31 V j = bin (Z V j) := by
  unfold res_main_v31 res_main_v16
  rw [funext (tail_read (Z V))]
  rfl

/-- The words the reference reads a short vector by: a bin, wrapped round when negative. -/
abbrev wrapped (w : IVec S8x4096 32) (n : BitVec 32) : IVec S8x4096x1 32 :=
  broadcastInDim S8x4096x1 ![0, 1] bcast_S8x4096_S8x4096x1_0_1 (select (cmpi .slt w (broadcastInDim S8x4096 ![] bcast_S_S8x4096 (constantI S_ 32 0#32)))
    (addi w (broadcastInDim S8x4096 ![] bcast_S_S8x4096 (constantI S_ 32 n))) w)

/-- Such a word is the bin. -/
theorem wrapped_read (w : IVec S8x4096 32) (n : BitVec 32) (r : Fin 8) (b : Fin 4096) (h : (w (ix2 r b)).toNat < 2 ^ 31) :
    wrapped w n (ValueIdx.takeIdx (ix2 r b)) = w (ix2 r b) := by
  have : ∀ y : IVec S8x4096 32, broadcastInDim S8x4096x1 ![0, 1] bcast_S8x4096_S8x4096x1_0_1 y (ValueIdx.takeIdx (ix2 r b)) = y (ix2 r b) := fun y =>
    congrArg y (funext fun a => match a with | ⟨0, _⟩ => rfl | ⟨1, _⟩ => rfl)
  exact (this _).trans (wrap_word (w (ix2 r b)) n h)

/-- The reference's offset within a bin is the kernel's. -/
theorem dif_read (x : FVec Ideal S8x4096 .f32) (w : IVec S8x4096 32) (hw : ∀ j, w j = bin (F := Ideal) (x j)) (B : FVec Ideal S65 .f32) (L : FVec Ideal S64 .f32)
    (B' : (⟨1, ![72]⟩ : Shape).Idx → EReal) (hB : ∀ (n : Fin 72) (h : n.val < 65), B' (ix1 n) = B (ix1 ⟨n.val, h⟩)) (r : Fin 8) (b : Fin 4096) :
    mulf (subf x (Host.gather gather_S65_S8x4096x1_S8x4096_n_0_n_n_0_2_1 B (wrapped w 65#32))) (Host.gather gather_S64_S8x4096x1_S8x4096_n_0_n_n_0_2_1 L (wrapped w 64#32)) (ix2 r b)
      = dif (F := Ideal) B' L (x (ix2 r b)) := by
  have hlt : (w (ix2 r b)).toNat < 64 := by rw [hw]; exact bin_lt _
  have hi : ∀ n, (wrapped w n (ValueIdx.takeIdx (ix2 r b))).toInt.toNat = (bin (F := Ideal) (x (ix2 r b))).toNat := fun n => by
    rw [wrapped_read w n r b (by omega), toInt_of_lt _ (by omega), Int.toNat_natCast, hw]
  have h1 : Host.gather gather_S65_S8x4096x1_S8x4096_n_0_n_n_0_2_1 B (wrapped w 65#32) (ix2 r b) = B' (ix1 ⟨(bin (F := Ideal) (x (ix2 r b))).toNat, (bin_lt _).trans (by decide)⟩) := by
    refine (ValueIdx.gather_take_apply (by decide) gather_S65_S8x4096x1_S8x4096_n_0_n_n_0_2_1_wf B (wrapped w 65#32) (ix2 r b)).trans ?_
    rw [hB _ (show (bin (F := Ideal) (x (ix2 r b))).toNat < 65 by have := bin_lt (F := Ideal) (x (ix2 r b)); omega)]
    refine congrArg B (congrArg ix1 (Fin.ext ?_))
    show min _ 64 = _
    rw [hi]
    have := bin_lt (F := Ideal) (x (ix2 r b))
    exact Nat.min_eq_left (by omega)
  have h2 : Host.gather gather_S64_S8x4096x1_S8x4096_n_0_n_n_0_2_1 L (wrapped w 64#32) (ix2 r b) = L (ix1 ⟨(bin (F := Ideal) (x (ix2 r b))).toNat, bin_lt _⟩) := by
    refine (ValueIdx.gather_take_apply (by decide) gather_S64_S8x4096x1_S8x4096_n_0_n_n_0_2_1_wf L (wrapped w 64#32) (ix2 r b)).trans ?_
    refine congrArg L (congrArg ix1 (Fin.ext ?_))
    show min _ 63 = _
    rw [hi]
    have := bin_lt (F := Ideal) (x (ix2 r b))
    exact Nat.min_eq_left (by omega)
  show FloatOps.mulf (FloatOps.subf (x (ix2 r b)) (Host.gather gather_S65_S8x4096x1_S8x4096_n_0_n_n_0_2_1 B (wrapped w 65#32) (ix2 r b)))
    (Host.gather gather_S64_S8x4096x1_S8x4096_n_0_n_n_0_2_1 L (wrapped w 64#32) (ix2 r b)) = _
  rw [h1, h2]
  rfl

/-- A vector over the first coordinate and the batch, spread over everything, at one place. -/
theorem spread_x {α : Type} (x : S8x1x4096.Idx → α) (p q : Fin 8) (b : Fin 4096) : broadcastInDim S8x8x4096x1 ![0, 1, 2] bcast_S8x8x4096_S8x8x4096x1_0_1_2 (broadcastInDim S8x8x4096 ![0, 1, 2] bcast_S8x1x4096_S8x8x4096_0_1_2 x) (ix4 p q b 0) = x (ix3 p 0 b) :=
  congrArg x (funext fun a => match a with | ⟨0, _⟩ => rfl | ⟨1, _⟩ => rfl | ⟨2, _⟩ => rfl)

/-- A vector over the second coordinate and the batch, spread over everything, at one place. -/
theorem spread_z {α : Type} (x : S1x8x4096.Idx → α) (p q : Fin 8) (b : Fin 4096) : broadcastInDim S8x8x4096x1 ![0, 1, 2] bcast_S8x8x4096_S8x8x4096x1_0_1_2 (broadcastInDim S8x8x4096 ![0, 1, 2] bcast_S1x8x4096_S8x8x4096_0_1_2 x) (ix4 p q b 0) = x (ix3 0 q b) :=
  congrArg x (funext fun a => match a with | ⟨0, _⟩ => rfl | ⟨1, _⟩ => rfl | ⟨2, _⟩ => rfl)

/-- A vector over the first coordinate alone, spread over everything, at one place. -/
theorem spread_p {α : Type} (x : S8x1x1.Idx → α) (p q : Fin 8) (b : Fin 4096) : broadcastInDim S8x8x4096x1 ![0, 1, 2] bcast_S8x8x4096_S8x8x4096x1_0_1_2 (broadcastInDim S8x8x4096 ![0, 1, 2] bcast_S8x1x1_S8x8x4096_0_1_2 x) (ix4 p q b 0) = x (ix3 p 0 0) :=
  congrArg x (funext fun a => match a with | ⟨0, _⟩ => rfl | ⟨1, _⟩ => rfl | ⟨2, _⟩ => rfl)

/-- A vector over the second coordinate alone, spread over everything, at one place. -/
theorem spread_q {α : Type} (x : S1x8x1.Idx → α) (p q : Fin 8) (b : Fin 4096) : broadcastInDim S8x8x4096x1 ![0, 1, 2] bcast_S8x8x4096_S8x8x4096x1_0_1_2 (broadcastInDim S8x8x4096 ![0, 1, 2] bcast_S1x8x1_S8x8x4096_0_1_2 x) (ix4 p q b 0) = x (ix3 0 q 0) :=
  congrArg x (funext fun a => match a with | ⟨0, _⟩ => rfl | ⟨1, _⟩ => rfl | ⟨2, _⟩ => rfl)

/-- A vector without an output axis, spread over the outputs, at one place. -/
theorem spread_o {α : Type} (x : S8x8x4096x1.Idx → α) (p q : Fin 8) (b : Fin 4096) (o : Fin 128) : broadcastInDim S8x8x4096x128 ![0, 1, 2, 3] bcast_S8x8x4096x1_S8x8x4096x128_0_1_2_3 x (ix4 p q b o) = x (ix4 p q b 0) :=
  congrArg x (funext fun a => match a with | ⟨0, _⟩ => rfl | ⟨1, _⟩ => rfl | ⟨2, _⟩ => rfl | ⟨3, _⟩ => rfl)

/-- The four words the reference reads the table by: a bin of the first coordinate, a bin of the second, and the two coordinates. -/
abbrev places (u : IVec S8x1x4096 32) (v : IVec S1x8x4096 32) (p : IVec S8x1x1 32) (q : IVec S1x8x1 32) : IVec S8x8x4096x4 32 :=
  concatenate S8x8x4096x4 3 [⟨S8x8x4096x1, ((broadcastInDim S8x8x4096x1 ![0, 1, 2] bcast_S8x8x4096_S8x8x4096x1_0_1_2 (broadcastInDim S8x8x4096 ![0, 1, 2] bcast_S8x1x4096_S8x8x4096_0_1_2 (select (cmpi .slt u (broadcastInDim S8x1x4096 ![] bcast_S_S8x1x4096 (constantI S_ 32 0#32))) (addi u (broadcastInDim S8x1x4096 ![] bcast_S_S8x1x4096 (constantI S_ 32 65#32))) u))) : (⟨S8x8x4096x1, .i32⟩ : BufTy).Contents (Elt Ideal))⟩,
    ⟨S8x8x4096x1, ((broadcastInDim S8x8x4096x1 ![0, 1, 2] bcast_S8x8x4096_S8x8x4096x1_0_1_2 (broadcastInDim S8x8x4096 ![0, 1, 2] bcast_S1x8x4096_S8x8x4096_0_1_2 (select (cmpi .slt v (broadcastInDim S1x8x4096 ![] bcast_S_S1x8x4096 (constantI S_ 32 0#32))) (addi v (broadcastInDim S1x8x4096 ![] bcast_S_S1x8x4096 (constantI S_ 32 65#32))) v))) : (⟨S8x8x4096x1, .i32⟩ : BufTy).Contents (Elt Ideal))⟩,
    ⟨S8x8x4096x1, ((broadcastInDim S8x8x4096x1 ![0, 1, 2] bcast_S8x8x4096_S8x8x4096x1_0_1_2 (broadcastInDim S8x8x4096 ![0, 1, 2] bcast_S8x1x1_S8x8x4096_0_1_2 (select (cmpi .slt p (broadcastInDim S8x1x1 ![] bcast_S_S8x1x1 (constantI S_ 32 0#32))) (addi p (broadcastInDim S8x1x1 ![] bcast_S_S8x1x1 (constantI S_ 32 8#32))) p))) : (⟨S8x8x4096x1, .i32⟩ : BufTy).Contents (Elt Ideal))⟩,
    ⟨S8x8x4096x1, ((broadcastInDim S8x8x4096x1 ![0, 1, 2] bcast_S8x8x4096_S8x8x4096x1_0_1_2 (broadcastInDim S8x8x4096 ![0, 1, 2] bcast_S1x8x1_S8x8x4096_0_1_2 (select (cmpi .slt q (broadcastInDim S1x8x1 ![] bcast_S_S1x8x1 (constantI S_ 32 0#32))) (addi q (broadcastInDim S1x8x1 ![] bcast_S_S1x8x1 (constantI S_ 32 8#32))) q))) : (⟨S8x8x4096x1, .i32⟩ : BufTy).Contents (Elt Ideal))⟩] concatenates_S8x8x4096x1_S8x8x4096x1_S8x8x4096x1_S8x8x4096x1_S8x8x4096x4_d3

/-- One of the reference's four products: a weight times what it reads of the table. -/
abbrev term (d : FVec Ideal S8x1x4096 .f32) (e : FVec Ideal S1x8x4096 .f32) (W : FVec Ideal S65x65x128x8x8 .f32) (u : IVec S8x1x4096 32) (v : IVec S1x8x4096 32)
    (p : IVec S8x1x1 32) (q : IVec S1x8x1 32) : FVec Ideal S8x8x4096x128 .f32 :=
  mulf (broadcastInDim S8x8x4096x128 ![0, 1, 2, 3] bcast_S8x8x4096x1_S8x8x4096x128_0_1_2_3 (broadcastInDim S8x8x4096x1 ![0, 1, 2] bcast_S8x8x4096_S8x8x4096x1_0_1_2
    (mulf (broadcastInDim S8x8x4096 ![0, 1, 2] bcast_S8x1x4096_S8x8x4096_0_1_2 d) (broadcastInDim S8x8x4096 ![0, 1, 2] bcast_S1x8x4096_S8x8x4096_0_1_2 e))))
    (Host.gather gather_S65x65x128x8x8_S8x8x4096x4_S8x8x4096x128_3_0134_n_n_0134_3_1112811 W (places u v p q))

/-- A product at one place. -/
theorem term_read (d : FVec Ideal S8x1x4096 .f32) (e : FVec Ideal S1x8x4096 .f32) (W : FVec Ideal S65x65x128x8x8 .f32) (u : IVec S8x1x4096 32) (v : IVec S1x8x4096 32)
    (pv : IVec S8x1x1 32) (qv : IVec S1x8x1 32) (p q : Fin 8) (b : Fin 4096) (o : Fin 128) (f g : Fin 65) (hu : (u (ix3 p 0 b)).toNat = f.val) (hv : (v (ix3 0 q b)).toNat = g.val)
    (hp : (pv (ix3 p 0 0)).toNat = p.val) (hq : (qv (ix3 0 q 0)).toNat = q.val) :
    term d e W u v pv qv (ix4 p q b o) = FloatOps.mulf (FloatOps.mulf (d (ix3 p 0 b)) (e (ix3 0 q b))) (W (ix5 f g o p q)) := by
  have hf := f.isLt
  have hg := g.isLt
  have hp' := p.isLt
  have hq' := q.isLt
  have key : Host.gather gather_S65x65x128x8x8_S8x8x4096x4_S8x8x4096x128_3_0134_n_n_0134_3_1112811 W (places u v pv qv) (ix4 p q b o) = W (ix5 f g o p q) := by
    refine table_read gather_S65x65x128x8x8_S8x8x4096x4_S8x8x4096x128_3_0134_n_n_0134_3_1112811_wf W (places u v pv qv) p q b o f g p q ?_ ?_ ?_ ?_
    · rw [show places u v pv qv (ix4 p q b 0) = u (ix3 p 0 b) by
        refine (four_read _ _ _ _ _ p q b 0).trans ?_
        simp only [Matrix.cons_val]
        refine (spread_x _ p q b).trans ?_
        exact wrap_word (u (ix3 p 0 b)) 65#32 (by omega), toInt_of_lt _ (by omega), hu]
    · rw [show places u v pv qv (ix4 p q b 1) = v (ix3 0 q b) by
        refine (four_read _ _ _ _ _ p q b 1).trans ?_
        simp only [Matrix.cons_val]
        refine (spread_z _ p q b).trans ?_
        exact wrap_word (v (ix3 0 q b)) 65#32 (by omega), toInt_of_lt _ (by omega), hv]
    · rw [show places u v pv qv (ix4 p q b 2) = pv (ix3 p 0 0) by
        refine (four_read _ _ _ _ _ p q b 2).trans ?_
        simp only [Matrix.cons_val]
        refine (spread_p _ p q b).trans ?_
        exact wrap_word (pv (ix3 p 0 0)) 8#32 (by omega), toInt_of_lt _ (by omega), hp]
    · rw [show places u v pv qv (ix4 p q b 3) = qv (ix3 0 q 0) by
        refine (four_read _ _ _ _ _ p q b 3).trans ?_
        simp only [Matrix.cons_val]
        refine (spread_q _ p q b).trans ?_
        exact wrap_word (qv (ix3 0 q 0)) 8#32 (by omega), toInt_of_lt _ (by omega), hq]
  show FloatOps.mulf _ (Host.gather gather_S65x65x128x8x8_S8x8x4096x4_S8x8x4096x128_3_0134_n_n_0134_3_1112811 W (places u v pv qv) (ix4 p q b o)) = _
  rw [key, spread_o]
  exact congrArg (FloatOps.mulf · (W (ix5 f g o p q))) (congrArg₂ FloatOps.mulf (spread_x d p q b) (spread_z e p q b))

/-- The reference's summand is its four products added up. -/
theorem summand_eq : res_main_v234 V
    = addf (addf (addf
        (term (subf (broadcastInDim S8x1x4096 ![] bcast_S_S8x1x4096 (constant S_ .f32 0x3F800000#32)) (res_main_v76 V)) (subf (broadcastInDim S1x8x4096 ![] bcast_S_S1x8x4096 (constant S_ .f32 0x3F800000#32)) (res_main_v79 V)) (W V) (res_main_v74 V) (res_main_v77 V) (res_main_v71 V) (res_main_v73 V))
        (term (subf (broadcastInDim S8x1x4096 ![] bcast_S_S8x1x4096 (constant S_ .f32 0x3F800000#32)) (res_main_v76 V)) (res_main_v79 V) (W V) (res_main_v74 V) (res_main_v78 V) (res_main_v71 V) (res_main_v73 V)))
        (term (res_main_v76 V) (subf (broadcastInDim S1x8x4096 ![] bcast_S_S1x8x4096 (constant S_ .f32 0x3F800000#32)) (res_main_v79 V)) (W V) (res_main_v75 V) (res_main_v77 V) (res_main_v71 V) (res_main_v73 V)))
        (term (res_main_v76 V) (res_main_v79 V) (W V) (res_main_v75 V) (res_main_v78 V) (res_main_v71 V) (res_main_v73 V)) := rfl

/-- A vector over a coordinate and the batch, with an axis put in after the coordinate. -/
theorem axis_x {α : Type} (x : S8x4096.Idx → α) (p : Fin 8) (b : Fin 4096) : broadcastInDim S8x1x4096 ![0, 2] bcast_S8x4096_S8x1x4096_0_2 x (ix3 p 0 b) = x (ix2 p b) :=
  congrArg x (funext fun a => match a with | ⟨0, _⟩ => rfl | ⟨1, _⟩ => rfl)

/-- A vector over a coordinate and the batch, with an axis put in before the coordinate. -/
theorem axis_z {α : Type} (x : S8x4096.Idx → α) (q : Fin 8) (b : Fin 4096) : broadcastInDim S1x8x4096 ![1, 2] bcast_S8x4096_S1x8x4096_1_2 x (ix3 0 q b) = x (ix2 q b) :=
  congrArg x (funext fun a => match a with | ⟨0, _⟩ => rfl | ⟨1, _⟩ => rfl)

/-- What the reference reads its four corners by: the bins. -/
theorem v74_read (p : Fin 8) (b : Fin 4096) : res_main_v74 V (ix3 p 0 b) = bin (F := Ideal) (X V (ix2 p b)) :=
  (axis_x (res_main_v29 V) p b).trans (bin_x V (ix2 p b))

theorem v77_read (q : Fin 8) (b : Fin 4096) : res_main_v77 V (ix3 0 q b) = bin (F := Ideal) (Z V (ix2 q b)) :=
  (axis_z (res_main_v31 V) q b).trans (bin_z V (ix2 q b))

/-- The bins after them. -/
theorem v75_read (p : Fin 8) (b : Fin 4096) : (res_main_v75 V (ix3 p 0 b)).toNat = (bin (F := Ideal) (X V (ix2 p b))).toNat + 1 := by
  rw [← next_word _ (bin_lt _), ← v74_read V p b]
  rfl

theorem v78_read (q : Fin 8) (b : Fin 4096) : (res_main_v78 V (ix3 0 q b)).toNat = (bin (F := Ideal) (Z V (ix2 q b))).toNat + 1 := by
  rw [← next_word _ (bin_lt _), ← v77_read V q b]
  rfl

/-- The coordinates. -/
theorem v71_read (p : Fin 8) : (res_main_v71 V (ix3 p 0 0)).toNat = p.val := by
  show (BitVec.ofNat 32 p.val).toNat = p.val
  rw [BitVec.toNat_ofNat]; omega

theorem v73_read (q : Fin 8) : (res_main_v73 V (ix3 0 q 0)).toNat = q.val := by
  show (BitVec.ofNat 32 q.val).toNat = q.val
  rw [BitVec.toNat_ofNat]; omega

section
variable (B' : (⟨1, ![72]⟩ : Shape).Idx → EReal) (hB : ∀ (n : Fin 72) (h : n.val < 65), B' (ix1 n) = B V (ix1 ⟨n.val, h⟩))
include hB

/-- The offsets within the bins. -/
theorem v76_read (p : Fin 8) (b : Fin 4096) : res_main_v76 V (ix3 p 0 b) = dif (F := Ideal) B' (L V) (X V (ix2 p b)) := by
  rw [← dif_read (X V) (res_main_v29 V) (bin_x V) (B V) (L V) B' hB p b]
  unfold res_main_v76
  exact axis_x _ _ b

theorem v79_read (q : Fin 8) (b : Fin 4096) : res_main_v79 V (ix3 0 q b) = dif (F := Ideal) B' (L V) (Z V (ix2 q b)) := by
  rw [← dif_read (Z V) (res_main_v31 V) (bin_z V) (B V) (L V) B' hB q b]
  unfold res_main_v79
  exact axis_z _ _ b
end

/-- The weight of a corner. -/
def cornerWt (d e : EReal) : Fin 4 → EReal :=
  let one : EReal := Scalar.ofBits (F := Ideal) .f32 0x3F800000#32
  ![(one - d) * (one - e), (one - d) * e, d * (one - e), d * e]

/-- What a pair of coordinates and a corner give one word of the result. -/
def contrib (B' : (⟨1, ![72]⟩ : Shape).Idx → EReal) (b : Fin 4096) (o : Fin 128) (p q : Fin 8) (c : Fin 4) : EReal :=
  cornerWt (dif (F := Ideal) B' (L V) (X V (ix2 p b))) (dif (F := Ideal) B' (L V) (Z V (ix2 q b))) c
    * W V (ix5 ⟨(bin (F := Ideal) (X V (ix2 p b))).toNat + c.val / 2, by have := bin_lt (F := Ideal) (X V (ix2 p b)); have := c.isLt; omega⟩
        ⟨(bin (F := Ideal) (Z V (ix2 q b))).toNat + c.val % 2, by have := bin_lt (F := Ideal) (Z V (ix2 q b)); omega⟩ o p q)

/-- The reference's summand is the four corners' contributions. -/
theorem summand_read (B' : (⟨1, ![72]⟩ : Shape).Idx → EReal) (hB : ∀ (n : Fin 72) (h : n.val < 65), B' (ix1 n) = B V (ix1 ⟨n.val, h⟩)) (p q : Fin 8) (b : Fin 4096) (o : Fin 128) :
    res_main_v234 V (ix4 p q b o) = ∑ c : Fin 4, contrib V B' b o p q c := by
  have hx := bin_lt (F := Ideal) (X V (ix2 p b))
  have hz := bin_lt (F := Ideal) (Z V (ix2 q b))
  have h74 := congrArg BitVec.toNat (v74_read V p b)
  have h77 := congrArg BitVec.toNat (v77_read V q b)
  have hd := v76_read V B' hB p b
  have he := v79_read V B' hB q b
  have hd' := congrArg (fun v : EReal => Scalar.ofBits (F := Ideal) .f32 0x3F800000#32 - v) hd
  have he' := congrArg (fun v : EReal => Scalar.ofBits (F := Ideal) .f32 0x3F800000#32 - v) he
  rw [summand_eq, Fin.sum_univ_four]
  refine congrArg₂ (· + ·) (congrArg₂ (· + ·) (congrArg₂ (· + ·) ?_ ?_) ?_) ?_
  · exact (term_read _ _ (W V) _ _ _ _ p q b o ⟨(bin (F := Ideal) (X V (ix2 p b))).toNat + 0, by omega⟩ ⟨(bin (F := Ideal) (Z V (ix2 q b))).toNat + 0, by omega⟩
      h74 h77 (v71_read V p) (v73_read V q)).trans (congrArg₂ (· * ·) (congrArg₂ (· * ·) hd' he') rfl)
  · exact (term_read _ _ (W V) _ _ _ _ p q b o ⟨(bin (F := Ideal) (X V (ix2 p b))).toNat + 0, by omega⟩ ⟨(bin (F := Ideal) (Z V (ix2 q b))).toNat + 1, by omega⟩
      h74 (v78_read V q b) (v71_read V p) (v73_read V q)).trans (congrArg₂ (· * ·) (congrArg₂ (· * ·) hd' he) rfl)
  · exact (term_read _ _ (W V) _ _ _ _ p q b o ⟨(bin (F := Ideal) (X V (ix2 p b))).toNat + 1, by omega⟩ ⟨(bin (F := Ideal) (Z V (ix2 q b))).toNat + 0, by omega⟩
      (v75_read V p b) h77 (v71_read V p) (v73_read V q)).trans (congrArg₂ (· * ·) (congrArg₂ (· * ·) hd he') rfl)
  · exact (term_read _ _ (W V) _ _ _ _ p q b o ⟨(bin (F := Ideal) (X V (ix2 p b))).toNat + 1, by omega⟩ ⟨(bin (F := Ideal) (Z V (ix2 q b))).toNat + 1, by omega⟩
      (v75_read V p b) (v78_read V q b) (v71_read V p) (v73_read V q)).trans (congrArg₂ (· * ·) (congrArg₂ (· * ·) hd he) rfl)

/-- A place of the kernel's column is the contribution of its pair of coordinates and its corner. -/
theorem place_read (T : (⟨2, ![270400, 128]⟩ : Shape).Idx → EReal) (B' : (⟨1, ![72]⟩ : Shape).Idx → EReal)
    (hT : ∀ (p q : Fin 8) (e f : Fin 65) (o : Fin 128) (r : Fin 270400), r.val = ((p.val * 8 + q.val) * 65 + e.val) * 65 + f.val → T (ix2 r o) = W V (ix5 e f o p q))
    (b : Fin 4096) (o : Fin 128) (k : ℕ) (hk : k < 256) :
    wt (F := Ideal) (fun r => dif (F := Ideal) B' (L V) (X V (ix2 r b))) (fun r => dif (F := Ideal) B' (L V) (Z V (ix2 r b))) k
        * rowAt (F := Ideal) T (num (fun r => bin (F := Ideal) (X V (ix2 r b))) (fun r => bin (F := Ideal) (Z V (ix2 r b))) k) o
      = contrib V B' b o (pX k) (pZ k) (corner k) := by
  refine congrArg₂ (· * ·) rfl ?_
  unfold rowAt
  refine hT (pX k) (pZ k) _ _ o _ ?_
  have hn := num_toNat (fun r => bin (F := Ideal) (X V (ix2 r b))) (fun r => bin (F := Ideal) (Z V (ix2 r b))) (fun _ => bin_lt _) (fun _ => bin_lt _) k hk
  have hl := Spec.num_lt (fun r => bin (F := Ideal) (X V (ix2 r b))) (fun r => bin (F := Ideal) (Z V (ix2 r b))) (fun _ => bin_lt _) (fun _ => bin_lt _) k hk
  have hc : (![0, 1, 65, 66] : Fin 4 → ℕ) (corner k) = (corner k).val / 2 * 65 + (corner k).val % 2 := by
    generalize corner k = c
    fin_cases c <;> rfl
  have hp : pair k = (pX k).val * 8 + (pZ k).val := by
    show pair k = pair k / 8 % 8 * 8 + pair k % 8
    have : pair k < 64 := by unfold pair; omega
    omega
  show (num _ _ k).toNat % 270400 = _
  rw [Nat.mod_eq_of_lt hl, hn, hc, hp]
  show _ = ((_ * 8 + _) * 65 + ((bin (F := Ideal) (X V (ix2 (pX k) b))).toNat + _)) * 65 + ((bin (F := Ideal) (Z V (ix2 (pZ k) b))).toNat + _)
  ring

/-- The reference's sum over the pairs of coordinates is the kernel's sum over the places of a column. -/
theorem value_eq (T : (⟨2, ![270400, 128]⟩ : Shape).Idx → EReal) (B' : (⟨1, ![72]⟩ : Shape).Idx → EReal)
    (hT : ∀ (p q : Fin 8) (e f : Fin 65) (o : Fin 128) (r : Fin 270400), r.val = ((p.val * 8 + q.val) * 65 + e.val) * 65 + f.val → T (ix2 r o) = W V (ix5 e f o p q))
    (hB : ∀ (n : Fin 72) (h : n.val < 65), B' (ix1 n) = B V (ix1 ⟨n.val, h⟩)) :
    Host.reduceAdd (res_main_v234 V) (constant S_ .f32 0x00000000#32) reducesTo_S8x8x4096x128_S4096x128_d0_1 h_S_ = out (F := Ideal) T B' (L V) (X V) (Z V) := by
  funext j
  obtain ⟨b, o, rfl⟩ : ∃ (b : Fin 4096) (o : Fin 128), j = ix2 b o := ⟨j 0, j 1, eq_ix2 j⟩
  refine (sum_two reducesTo_S8x8x4096x128_S4096x128_d0_1 (res_main_v234 V) _ b o).trans ?_
  rw [show (constant (F := Ideal) S_ .f32 0x00000000#32) (Shape.Idx.first h_S_) = (0 : EReal) from Ideal.ofBits_zero_f32, zero_add]
  simp only [summand_read V B' hB]
  rw [← places_sum (contrib V B' b o)]
  refine (Finset.sum_congr rfl fun k hk => (place_read V T B' hT b o k (Finset.mem_range.mp hk)).symm).trans ?_
  exact (acc_eq_sum T _ _ o 256).symm

end Cert.Proof.Equation

end
-- ==== Proof.lean ====
/-
  The certificate. @main lays out the table and the borders, starts one SparseCore kernel at its thirty-two tiles and transposes
  what the kernel wrote. The kernel's run and what it leaves in memory are Proof/LaunchKernel.lean and Proof/LaunchKernelIdeal.lean;
  the reference's run is Proof/Gen/ReferenceIdeal/Run.lean. That the two results are equal is Proof/Equation.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.LaunchKernel
public import proofs.«01_k».proof.Proof.LaunchKernelIdeal
public import proofs.«01_k».proof.Proof.Equation
public import Idealize.ShloMosaic.Adequacy
public import Idealize.ShloMosaic.Init

@[expose] public section

noncomputable section

namespace Cert.Proof

open Idealize.ShloMosaic Idealize.SL.Sem

/-- The kernel runs to its end from any memory, leaves its arguments alone, and every counter ends at zero. -/
theorem frame_kernel : Cert.quiescent_Kernel := by
  intro m g _
  exact (θ_run Cert.Kernel.defs _ _).mono (fun r h => ⟨fun c => Cert.Kernel.Launch.args_kept m h c, h.2⟩) (Cert.Kernel.Launch.run_main (F := Bits) m g)

/-- The kernel read over the reals runs to its end from any memory, leaves its arguments alone, and every counter ends at zero. -/
theorem frame_kernelIdeal : Cert.quiescent_KernelIdeal := by
  intro m g _
  exact (θ_run Cert.KernelIdeal.defs _ _).mono (fun r h => ⟨fun c => Cert.KernelIdeal.Launch.args_kept m h c, h.2⟩) (Cert.KernelIdeal.Launch.run_main (F := Ideal) m g)

/-- The reference runs to its end from any memory and leaves its arguments alone; it has no counter. -/
theorem frame_referenceIdeal : Cert.quiescent_ReferenceIdeal := by
  intro m g _
  exact (θ_run Cert.ReferenceIdeal.defs _ _).mono (fun r h => ⟨fun c => (h c).2, sem_eq_zero_of_no_sems (by decide) r.2⟩) (Cert.ReferenceIdeal.Value.run (F := Ideal) m g)

/-- From equal arguments, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Equation.X (StableHlo.launchContents m' c) = m ((c.tc : Thread Cert.KernelIdeal.nD Cert.KernelIdeal.τ).loc Cert.KernelIdeal.main_arg0))
    (h1 : Equation.Z (StableHlo.launchContents m' c) = m ((c.tc : Thread Cert.KernelIdeal.nD Cert.KernelIdeal.τ).loc Cert.KernelIdeal.main_arg1))
    (h2 : Equation.W (StableHlo.launchContents m' c) = m ((c.tc : Thread Cert.KernelIdeal.nD Cert.KernelIdeal.τ).loc Cert.KernelIdeal.main_arg2))
    (h3 : Equation.B (StableHlo.launchContents m' c) = m ((c.tc : Thread Cert.KernelIdeal.nD Cert.KernelIdeal.τ).loc Cert.KernelIdeal.main_arg3))
    (h4 : Equation.L (StableHlo.launchContents m' c) = m ((c.tc : Thread Cert.KernelIdeal.nD Cert.KernelIdeal.τ).loc Cert.KernelIdeal.main_arg4)) :
    Host.reduceAdd (Cert.ReferenceIdeal.Value.res_main_v234 (F := Ideal) (StableHlo.launchContents m' c)) (constant Cert.ReferenceIdeal.S_ .f32 0x00000000#32)
        Cert.ReferenceIdeal.Gen.reducesTo_S8x8x4096x128_S4096x128_d0_1 Cert.ReferenceIdeal.Gen.h_S_
      = Spec.out (F := Ideal) (Cert.KernelIdeal.Launch.tabV m c) (Cert.KernelIdeal.Launch.bordersV m c) (m ((c.tc : Thread Cert.KernelIdeal.nD Cert.KernelIdeal.τ).loc Cert.KernelIdeal.main_arg4))
          (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  have hT : ∀ (p q : Fin 8) (e f : Fin 65) (o : Fin 128) (r : Fin 270400), r.val = ((p.val * 8 + q.val) * 65 + e.val) * 65 + f.val →
      Cert.KernelIdeal.Launch.tabV (F := Ideal) m c (ix2 r o) = Equation.W (StableHlo.launchContents m' c) (ix5 e f o p q) := fun p q e f o r hr => by
    rw [h2]
    exact Corner.layout_read _ _ _ p q e f o r hr
  have hB : ∀ (n : Fin 72) (h : n.val < 65), Cert.KernelIdeal.Launch.bordersV (F := Ideal) m c (ix1 n) = Equation.B (StableHlo.launchContents m' c) (ix1 ⟨n.val, h⟩) := fun n hn => by
    rw [h3]
    exact Corner.borders_read _ _ _ n hn
  refine (Equation.value_eq (StableHlo.launchContents m' c) (Cert.KernelIdeal.Launch.tabV (F := Ideal) m c) (Cert.KernelIdeal.Launch.bordersV (F := Ideal) m c) hT hB).trans ?_
  rw [h0, h1, h4]

/-- From equal arguments, the kernel and the reference, both read over the reals, end with equal results and leave their arguments alone. -/
theorem algebraic : Cert.algebraic_KernelIdeal_ReferenceIdeal := by
  intro m g m' g' _ hagree
  refine ⟨_, (θ_run Cert.KernelIdeal.defs _ _).mono (fun r h c => ⟨Cert.KernelIdeal.Launch.result_eq m h c, Cert.KernelIdeal.Launch.args_kept m h c⟩) (Cert.KernelIdeal.Launch.run_main (F := Ideal) m g),
    (θ_run Cert.ReferenceIdeal.defs _ _).mono (fun r h c => ⟨(h c).1.trans ?_, (h c).2⟩) (Cert.ReferenceIdeal.Value.run (F := Ideal) m' g')⟩
  obtain ⟨h0, h1, h2, h3, h4⟩ := hagree c
  exact congrArg (fun y => transpose Cert.KernelIdeal.S128x4096 [1, 0] y Cert.KernelIdeal.Gen.transposes_S4096x128_S128x4096_1_0) (results_eq m m' c h0 h1 h2 h3 h4)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
